-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x384x32x32 : Shape := ⟨4, ![8, 384, 32, 32]⟩
abbrev S48x384 : Shape := ⟨2, ![48, 384]⟩
abbrev S48 : Shape := ⟨1, ![48]⟩
abbrev S384x384 : Shape := ⟨2, ![384, 384]⟩
abbrev S384 : Shape := ⟨1, ![384]⟩
abbrev S1 : Shape := ⟨1, ![1]⟩
abbrev S_ : Shape := ⟨0, ![]⟩

class Facts : Prop where
  bcast_S_S8x384x32x32 : S_.BroadcastsInDim S8x384x32x32 (![] : Fin 0 → Fin S8x384x32x32.rank)
  reducesTo_S8x384x32x32_S_d0_1_2_3 : S8x384x32x32.ReducesTo [0, 1, 2, 3] S_
  h_S_ : 0 < S_.numel
  bcast_S_S48x384 : S_.BroadcastsInDim S48x384 (![] : Fin 0 → Fin S48x384.rank)
  reducesTo_S48x384_S_d0_1 : S48x384.ReducesTo [0, 1] S_
  bcast_S_S48 : S_.BroadcastsInDim S48 (![] : Fin 0 → Fin S48.rank)
  reducesTo_S48_S_d0 : S48.ReducesTo [0] S_

variable [Facts]

def fn_part1 {F : FTy → Type} [FloatOps F] (main_arg4 : FVec F S48 .f32) (main_v13 : IVec S_ 1) (main_v16 : IVec S48x384 1) : IVec S_ 1 :=
  let main_c_5 : IVec S_ 1 := constantI S_ 1 1#1
  let main_v17 : IVec S_ 1 := (fun x v => Host.reduce IntOp.andi x v reducesTo_S48x384_S_d0_1 h_S_) main_v16 main_c_5
  let main_v18 : IVec S_ 1 := andi main_v13 main_v17
  let main_v19 : FVec F S48 .f32 := Host.absf main_arg4
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  main_v23

def fn {F : FTy → Type} [FloatOps F] (main_arg0 : FVec F S8x384x32x32 .f32) (main_arg1 : FVec F S48x384 .f32) (main_arg2 : FVec F S48 .f32) (main_arg3 : FVec F S48x384 .f32) (main_arg4 : FVec F S48 .f32) (main_arg5 : FVec F S384x384 .f32) (main_arg6 : FVec F S384 .f32) (main_arg7 : FVec F S1 .f32) : IVec S_ 1 :=
  let main_v0 : FVec F S8x384x32x32 .f32 := Host.absf main_arg0
  let main_cst : FVec F S_ .f32 := constant S_ .f32 0x7F800000#32
  let main_v1 : FVec F S8x384x32x32 .f32 := broadcastInDim S8x384x32x32 ![] bcast_S_S8x384x32x32 main_cst
  let main_v2 : IVec S8x384x32x32 1 := cmpf .olt main_v0 main_v1
  let main_c : IVec S_ 1 := constantI S_ 1 1#1
  let main_v3 : IVec S_ 1 := (fun x v => Host.reduce IntOp.andi x v reducesTo_S8x384x32x32_S_d0_1_2_3 h_S_) main_v2 main_c
  let main_v4 : FVec F S48x384 .f32 := Host.absf main_arg1
  let main_cst_0 : FVec F S_ .f32 := constant S_ .f32 0x7F800000#32
  let main_v5 : FVec F S48x384 .f32 := broadcastInDim S48x384 ![] bcast_S_S48x384 main_cst_0
  let main_v6 : IVec S48x384 1 := cmpf .olt main_v4 main_v5
  let main_c_1 : IVec S_ 1 := constantI S_ 1 1#1
  let main_v7 : IVec S_ 1 := (fun x v => Host.reduce IntOp.andi x v reducesTo_S48x384_S_d0_1 h_S_) main_v6 main_c_1
  let main_v8 : IVec S_ 1 := andi main_v3 main_v7
  let main_v9 : FVec F S48 .f32 := Host.absf main_arg2
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x384 .f32 := Host.absf main_arg3
  let main_cst_4 : FVec F S_ .f32 := constant S_ .f32 0x7F800000#32
  let main_v15 : FVec F S48x384 .f32 := broadcastInDim S48x384 ![] bcast_S_S48x384 main_cst_4
  let main_v16 : IVec S48x384 1 := cmpf .olt main_v14 main_v15
  fn_part1 (F := F) main_arg4 main_v13 main_v16
-- ==== Kernel.lean ====
abbrev S8x384x32x32 : Shape := ⟨4, ![8, 384, 32, 32]⟩
abbrev S48x384 : Shape := ⟨2, ![48, 384]⟩
abbrev S48 : Shape := ⟨1, ![48]⟩
abbrev S384x384 : Shape := ⟨2, ![384, 384]⟩
abbrev S384 : Shape := ⟨1, ![384]⟩
abbrev S1 : Shape := ⟨1, ![1]⟩
abbrev S8x384x1024 : Shape := ⟨3, ![8, 384, 1024]⟩
abbrev S48x1 : Shape := ⟨2, ![48, 1]⟩
abbrev S16x16 : Shape := ⟨2, ![16, 16]⟩
abbrev S_ : Shape := ⟨0, ![]⟩
abbrev S8x16x1024 : Shape := ⟨3, ![8, 16, 1024]⟩
abbrev S8x1024x128 : Shape := ⟨3, ![8, 1024, 128]⟩
abbrev S1x384x1024 : Shape := ⟨3, ![1, 384, 1024]⟩
abbrev S1x16x1024 : Shape := ⟨3, ![1, 16, 1024]⟩
abbrev S1x1024x128 : Shape := ⟨3, ![1, 1024, 128]⟩
abbrev S384x1024 : Shape := ⟨2, ![384, 1024]⟩
abbrev S48x1024 : Shape := ⟨2, ![48, 1024]⟩
abbrev S1x1024 : Shape := ⟨2, ![1, 1024]⟩
abbrev S48x33 : Shape := ⟨2, ![48, 33]⟩
abbrev S48x991 : Shape := ⟨2, ![48, 991]⟩
abbrev S1024 : Shape := ⟨1, ![1024]⟩
abbrev S48x32 : Shape := ⟨2, ![48, 32]⟩
abbrev S48x992 : Shape := ⟨2, ![48, 992]⟩
abbrev S48x31 : Shape := ⟨2, ![48, 31]⟩
abbrev S48x993 : Shape := ⟨2, ![48, 993]⟩
abbrev S48x1023 : Shape := ⟨2, ![48, 1023]⟩
abbrev S9x1024 : Shape := ⟨2, ![9, 1024]⟩
abbrev S7x1024 : Shape := ⟨2, ![7, 1024]⟩
abbrev S16x1024 : Shape := ⟨2, ![16, 1024]⟩
abbrev S1024x16 : Shape := ⟨2, ![1024, 16]⟩
abbrev S1024x128 : Shape := ⟨2, ![1024, 128]⟩
abbrev S1024x1 : Shape := ⟨2, ![1024, 1]⟩
abbrev S32x1024 : Shape := ⟨2, ![32, 1024]⟩
abbrev S8192x128 : Shape := ⟨2, ![8192, 128]⟩
abbrev S8192x1024 : Shape := ⟨2, ![8192, 1024]⟩
abbrev S256x128 : Shape := ⟨2, ![256, 128]⟩
abbrev S64x1024 : Shape := ⟨2, ![64, 1024]⟩
abbrev S16 : Shape := ⟨1, ![16]⟩
abbrev S1x16 : Shape := ⟨2, ![1, 16]⟩
abbrev S384x1 : Shape := ⟨2, ![384, 1]⟩
abbrev S1x1 : Shape := ⟨2, ![1, 1]⟩
abbrev S384x1023 : Shape := ⟨2, ![384, 1023]⟩
abbrev S1x992 : Shape := ⟨2, ![1, 992]⟩
abbrev S1x32 : Shape := ⟨2, ![1, 32]⟩
abbrev S384x32 : Shape := ⟨2, ![384, 32]⟩
abbrev S384x992 : Shape := ⟨2, ![384, 992]⟩
abbrev S8x1024x1024 : Shape := ⟨3, ![8, 1024, 1024]⟩

abbrev nBuf : Table → Nat
  | .hbm => 29
  | .local .tc .vmem => 20
  | .local .scVector .vmem => 2
  | _ => 0

abbrev bufTy : (tb : Table) → Fin (nBuf tb) → BufTy
  | .hbm, ⟨0, _⟩ => ⟨S8x384x32x32, .f32⟩
  | .hbm, ⟨1, _⟩ => ⟨S48x384, .f32⟩
  | .hbm, ⟨2, _⟩ => ⟨S48, .f32⟩
  | .hbm, ⟨3, _⟩ => ⟨S48x384, .f32⟩
  | .hbm, ⟨4, _⟩ => ⟨S48, .f32⟩
  | .hbm, ⟨5, _⟩ => ⟨S384x384, .f32⟩
  | .hbm, ⟨6, _⟩ => ⟨S384, .f32⟩
  | .hbm, ⟨7, _⟩ => ⟨S1, .f32⟩
  | .hbm, ⟨8, _⟩ => ⟨S8x384x1024, .f32⟩
  | .hbm, ⟨9, _⟩ => ⟨S48x1, .f32⟩
  | .hbm, ⟨10, _⟩ => ⟨S48x1, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S8x16x1024, .f32⟩
  | .hbm, ⟨19, _⟩ => ⟨S8x1024x128, .f32⟩
  | .hbm, ⟨20, _⟩ => ⟨S_, .f32⟩
  | .hbm, ⟨21, _⟩ => ⟨S32x1024, .f32⟩
  | .hbm, ⟨22, _⟩ => ⟨S8192x128, .f32⟩
  | .hbm, ⟨23, _⟩ => ⟨S8192x1024, .f32⟩
  | .hbm, ⟨24, _⟩ => ⟨S384x1, .f32⟩
  | .hbm, ⟨25, _⟩ => ⟨S1x1, .f32⟩
  | .hbm, ⟨26, _⟩ => ⟨S8x384x1024, .f32⟩
  | .hbm, ⟨27, _⟩ => ⟨S8x384x32x32, .f32⟩
  | .hbm, ⟨28, _⟩ => ⟨S8x1024x1024, .f32⟩
  | .local .tc .vmem, ⟨0, _⟩ => ⟨S1x384x1024, .f32⟩
  | .local .tc .vmem, ⟨1, _⟩ => ⟨S1x384x1024, .f32⟩
  | .local .tc .vmem, ⟨2, _⟩ => ⟨S48x384, .f32⟩
  | .local .tc .vmem, ⟨3, _⟩ => ⟨S48x1, .f32⟩
  | .local .tc .vmem, ⟨4, _⟩ => ⟨S48x384, .f32⟩
  | .local .tc .vmem, ⟨5, _⟩ => ⟨S48x1, .f32⟩
  | .local .tc .vmem, ⟨6, _⟩ => ⟨S16x16, .f32⟩
  | .local .tc .vmem, ⟨7, _⟩ => ⟨S1x16x1024, .f32⟩
  | .local .tc .vmem, ⟨8, _⟩ => ⟨S1x16x1024, .f32⟩
  | .local .tc .vmem, ⟨9, _⟩ => ⟨S1x1024x128, .f32⟩
  | .local .tc .vmem, ⟨10, _⟩ => ⟨S1x1024x128, .f32⟩
  | .local .tc .vmem, ⟨11, _⟩ => ⟨S1x384x1024, .f32⟩
  | .local .tc .vmem, ⟨12, _⟩ => ⟨S1x384x1024, .f32⟩
  | .local .tc .vmem, ⟨13, _⟩ => ⟨S1x16x1024, .f32⟩
  | .local .tc .vmem, ⟨14, _⟩ => ⟨S1x16x1024, .f32⟩
  | .local .tc .vmem, ⟨15, _⟩ => ⟨S384x384, .f32⟩
  | .local .tc .vmem, ⟨16, _⟩ => ⟨S384x1, .f32⟩
  | .local .tc .vmem, ⟨17, _⟩ => ⟨S1x1, .f32⟩
  | .local .tc .vmem, ⟨18, _⟩ => ⟨S1x384x1024, .f32⟩
  | .local .tc .vmem, ⟨19, _⟩ => ⟨S1x384x1024, .f32⟩
  | .local .scVector .vmem, ⟨0, _⟩ => ⟨S256x128, .f32⟩
  | .local .scVector .vmem, ⟨1, _⟩ => ⟨S64x1024, .f32⟩
  | _, _ => ⟨S8x384x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v11_scv : Ref sig .scVector := ⟨.hbm, 22, rfl⟩
abbrev main_v10_scv : Ref sig .scVector := ⟨.hbm, 21, rfl⟩
abbrev main_v12_scv : Ref sig .scVector := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_170_r0 : BitVec 32 := 0#32
  ![v2.toNat, 0]
@[reducible] def k1_t1_loop : Scf.Loop 32 :=
  let c0_i32_4 : BitVec 32 := 0#32
  let c32_i32 : BitVec 32 := 32#32
  let v14 : BitVec 32 := Scalar.addi c0_i32_4 c32_i32
  let c1_i32_5 : BitVec 32 := 1#32
  ⟨c0_i32_4, v14, c1_i32_5⟩
def k1_mult1 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off2 (k1_t1 : Fin k1_t1_loop.trips) : Fin 2 → Nat :=
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v124 : Index := Scalar.indexCast v100
  let c0 : Index := 0#32
  ![v124.toNat, 0]
def k1_off3 (i : grid1.Coords) (k1_t1 : Fin k1_t1_loop.trips) (c0_i32_180 : BitVec 32) : Fin 2 → Nat :=
  let c0_i32_179 : BitVec 32 := 0#32
  let c0_i32_4 : BitVec 32 := 0#32
  let c1_i32_5 : BitVec 32 := 1#32
  let arg9 : BitVec 32 := Scf.iv c0_i32_4 c1_i32_5 k1_t1
  let v127 : BitVec 32 := Scalar.addi c0_i32_179 arg9
  let v129 : Index := Scalar.indexCast v127
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c0_i32_170 : BitVec 32 := 0#32
  let v100 : BitVec 32 := Scalar.addi c0_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v128 : BitVec 32 := Scalar.addi v123 c0_i32_180
  let v130 : Index := Scalar.indexCast v128
  ![v129.toNat, v130.toNat]
def k1_off4 (k1_t1 : Fin k1_t1_loop.trips) : Fin 2 → Nat :=
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v134 : Index := Scalar.indexCast v100
  let c16 : Index := 16#32
  ![v134.toNat, 16]
def k1_off5 (k1_t1 : Fin k1_t1_loop.trips) : Fin 2 → Nat :=
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v144 : Index := Scalar.indexCast v100
  let c32 : Index := 32#32
  ![v144.toNat, 32]
def k1_off6 (k1_t1 : Fin k1_t1_loop.trips) : Fin 2 → Nat :=
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v154 : Index := Scalar.indexCast v100
  let c48 : Index := 48#32
  ![v154.toNat, 48]
def k1_off7 (k1_t1 : Fin k1_t1_loop.trips) : Fin 2 → Nat :=
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v164 : Index := Scalar.indexCast v100
  let c64 : Index := 64#32
  ![v164.toNat, 64]
def k1_off8 (k1_t1 : Fin k1_t1_loop.trips) : Fin 2 → Nat :=
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v174 : Index := Scalar.indexCast v100
  let c80 : Index := 80#32
  ![v174.toNat, 80]
def k1_off9 (k1_t1 : Fin k1_t1_loop.trips) : Fin 2 → Nat :=
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v184 : Index := Scalar.indexCast v100
  let c96 : Index := 96#32
  ![v184.toNat, 96]
def k1_off10 (k1_t1 : Fin k1_t1_loop.trips) : Fin 2 → Nat :=
  let c0_i32_170 : BitVec 32 := 0#32
  let c0_i32_4 : BitVec 32 := 0#32
  let c1_i32_5 : BitVec 32 := 1#32
  let arg9 : BitVec 32 := Scf.iv c0_i32_4 c1_i32_5 k1_t1
  let v100 : BitVec 32 := Scalar.addi c0_i32_170 arg9
  let v194 : Index := Scalar.indexCast v100
  let c112 : Index := 112#32
  ![v194.toNat, 112]
def k1_off11 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v15 : BitVec 32 := Scalar.addi v2 c0_i32_7
  let c0_i32_10 : BitVec 32 := 0#32
  ![v15.toNat, 0]
@[reducible] def k1_t2_loop : Scf.Loop 32 :=
  let c0_i32_15 : BitVec 32 := 0#32
  let c32_i32_16 : BitVec 32 := 32#32
  let v20 : BitVec 32 := Scalar.addi c0_i32_15 c32_i32_16
  let c1_i32_17 : BitVec 32 := 1#32
  ⟨c0_i32_15, v20, c1_i32_17⟩
def k1_mult2 (i : grid1.Coords) (k1_t2 : Fin k1_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off12 (k1_t2 : Fin k1_t2_loop.trips) : Fin 2 → Nat :=
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v124 : Index := Scalar.indexCast v100
  let c0 : Index := 0#32
  ![v124.toNat, 0]
def k1_off13 (i : grid1.Coords) (k1_t2 : Fin k1_t2_loop.trips) (c0_i32_180 : BitVec 32) : Fin 2 → Nat :=
  let c32_i32_179 : BitVec 32 := 32#32
  let c0_i32_15 : BitVec 32 := 0#32
  let c1_i32_17 : BitVec 32 := 1#32
  let arg9 : BitVec 32 := Scf.iv c0_i32_15 c1_i32_17 k1_t2
  let v127 : BitVec 32 := Scalar.addi c32_i32_179 arg9
  let v129 : Index := Scalar.indexCast v127
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c32_i32_170 : BitVec 32 := 32#32
  let v100 : BitVec 32 := Scalar.addi c32_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v128 : BitVec 32 := Scalar.addi v123 c0_i32_180
  let v130 : Index := Scalar.indexCast v128
  ![v129.toNat, v130.toNat]
def k1_off14 (k1_t2 : Fin k1_t2_loop.trips) : Fin 2 → Nat :=
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v134 : Index := Scalar.indexCast v100
  let c16 : Index := 16#32
  ![v134.toNat, 16]
def k1_off15 (k1_t2 : Fin k1_t2_loop.trips) : Fin 2 → Nat :=
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v144 : Index := Scalar.indexCast v100
  let c32 : Index := 32#32
  ![v144.toNat, 32]
def k1_off16 (k1_t2 : Fin k1_t2_loop.trips) : Fin 2 → Nat :=
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v154 : Index := Scalar.indexCast v100
  let c48 : Index := 48#32
  ![v154.toNat, 48]
def k1_off17 (k1_t2 : Fin k1_t2_loop.trips) : Fin 2 → Nat :=
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v164 : Index := Scalar.indexCast v100
  let c64 : Index := 64#32
  ![v164.toNat, 64]
def k1_off18 (k1_t2 : Fin k1_t2_loop.trips) : Fin 2 → Nat :=
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v174 : Index := Scalar.indexCast v100
  let c80 : Index := 80#32
  ![v174.toNat, 80]
def k1_off19 (k1_t2 : Fin k1_t2_loop.trips) : Fin 2 → Nat :=
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v184 : Index := Scalar.indexCast v100
  let c96 : Index := 96#32
  ![v184.toNat, 96]
def k1_off20 (k1_t2 : Fin k1_t2_loop.trips) : Fin 2 → Nat :=
  let c32_i32_170 : BitVec 32 := 32#32
  let c0_i32_15 : BitVec 32 := 0#32
  let c1_i32_17 : BitVec 32 := 1#32
  let arg9 : BitVec 32 := Scf.iv c0_i32_15 c1_i32_17 k1_t2
  let v100 : BitVec 32 := Scalar.addi c32_i32_170 arg9
  let v194 : Index := Scalar.indexCast v100
  let c112 : Index := 112#32
  ![v194.toNat, 112]
@[reducible] def k1_t3_loop : Scf.Loop 32 :=
  let c0_i32_33 : BitVec 32 := 0#32
  let c32_i32_34 : BitVec 32 := 32#32
  let v30 : BitVec 32 := Scalar.addi c0_i32_33 c32_i32_34
  let c1_i32_35 : BitVec 32 := 1#32
  ⟨c0_i32_33, v30, c1_i32_35⟩
def k1_mult3 (i : grid1.Coords) (k1_t3 : Fin k1_t3_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c0_i32_170 : BitVec 32 := 0#32
  let c0_i32_33 : BitVec 32 := 0#32
  let c1_i32_35 : BitVec 32 := 1#32
  let arg9 : BitVec 32 := Scf.iv c0_i32_33 c1_i32_35 k1_t3
  let v100 : BitVec 32 := Scalar.addi c0_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off21 (i : grid1.Coords) (k1_t3 : Fin k1_t3_loop.trips) (c0_i32_180 : BitVec 32) : Fin 2 → Nat :=
  let c0_i32_179 : BitVec 32 := 0#32
  let c0_i32_33 : BitVec 32 := 0#32
  let c1_i32_35 : BitVec 32 := 1#32
  let arg9 : BitVec 32 := Scf.iv c0_i32_33 c1_i32_35 k1_t3
  let v124 : BitVec 32 := Scalar.addi c0_i32_179 arg9
  let v126 : Index := Scalar.indexCast v124
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c0_i32_170 : BitVec 32 := 0#32
  let v100 : BitVec 32 := Scalar.addi c0_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v125 : BitVec 32 := Scalar.addi v123 c0_i32_180
  let v127 : Index := Scalar.indexCast v125
  ![v126.toNat, v127.toNat]
@[reducible] def k1_t4_loop : Scf.Loop 32 :=
  let c0_i32_38 : BitVec 32 := 0#32
  let c32_i32_39 : BitVec 32 := 32#32
  let v31 : BitVec 32 := Scalar.addi c0_i32_38 c32_i32_39
  let c1_i32_40 : BitVec 32 := 1#32
  ⟨c0_i32_38, v31, c1_i32_40⟩
def k1_mult4 (i : grid1.Coords) (k1_t4 : Fin k1_t4_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off22 (k1_t4 : Fin k1_t4_loop.trips) : Fin 2 → Nat :=
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v124 : Index := Scalar.indexCast v100
  let c0 : Index := 0#32
  ![v124.toNat, 0]
def k1_off23 (i : grid1.Coords) (k1_t4 : Fin k1_t4_loop.trips) (c0_i32_180 : BitVec 32) : Fin 2 → Nat :=
  let c0_i32_179 : BitVec 32 := 0#32
  let c0_i32_38 : BitVec 32 := 0#32
  let c1_i32_40 : BitVec 32 := 1#32
  let arg9 : BitVec 32 := Scf.iv c0_i32_38 c1_i32_40 k1_t4
  let v127 : BitVec 32 := Scalar.addi c0_i32_179 arg9
  let v129 : Index := Scalar.indexCast v127
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c64_i32_170 : BitVec 32 := 64#32
  let v100 : BitVec 32 := Scalar.addi c64_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v128 : BitVec 32 := Scalar.addi v123 c0_i32_180
  let v130 : Index := Scalar.indexCast v128
  ![v129.toNat, v130.toNat]
def k1_off24 (k1_t4 : Fin k1_t4_loop.trips) : Fin 2 → Nat :=
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v134 : Index := Scalar.indexCast v100
  let c16 : Index := 16#32
  ![v134.toNat, 16]
def k1_off25 (k1_t4 : Fin k1_t4_loop.trips) : Fin 2 → Nat :=
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v144 : Index := Scalar.indexCast v100
  let c32 : Index := 32#32
  ![v144.toNat, 32]
def k1_off26 (k1_t4 : Fin k1_t4_loop.trips) : Fin 2 → Nat :=
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v154 : Index := Scalar.indexCast v100
  let c48 : Index := 48#32
  ![v154.toNat, 48]
def k1_off27 (k1_t4 : Fin k1_t4_loop.trips) : Fin 2 → Nat :=
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v164 : Index := Scalar.indexCast v100
  let c64 : Index := 64#32
  ![v164.toNat, 64]
def k1_off28 (k1_t4 : Fin k1_t4_loop.trips) : Fin 2 → Nat :=
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v174 : Index := Scalar.indexCast v100
  let c80 : Index := 80#32
  ![v174.toNat, 80]
def k1_off29 (k1_t4 : Fin k1_t4_loop.trips) : Fin 2 → Nat :=
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v184 : Index := Scalar.indexCast v100
  let c96 : Index := 96#32
  ![v184.toNat, 96]
def k1_off30 (k1_t4 : Fin k1_t4_loop.trips) : Fin 2 → Nat :=
  let c64_i32_170 : BitVec 32 := 64#32
  let c0_i32_38 : BitVec 32 := 0#32
  let c1_i32_40 : BitVec 32 := 1#32
  let arg9 : BitVec 32 := Scf.iv c0_i32_38 c1_i32_40 k1_t4
  let v100 : BitVec 32 := Scalar.addi c64_i32_170 arg9
  let v194 : Index := Scalar.indexCast v100
  let c112 : Index := 112#32
  ![v194.toNat, 112]
@[reducible] def k1_t5_loop : Scf.Loop 32 :=
  let c0_i32_55 : BitVec 32 := 0#32
  let c32_i32_56 : BitVec 32 := 32#32
  let v41 : BitVec 32 := Scalar.addi c0_i32_55 c32_i32_56
  let c1_i32_57 : BitVec 32 := 1#32
  ⟨c0_i32_55, v41, c1_i32_57⟩
def k1_mult5 (i : grid1.Coords) (k1_t5 : Fin k1_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c32_i32_170 : BitVec 32 := 32#32
  let c0_i32_55 : BitVec 32 := 0#32
  let c1_i32_57 : BitVec 32 := 1#32
  let arg9 : BitVec 32 := Scf.iv c0_i32_55 c1_i32_57 k1_t5
  let v100 : BitVec 32 := Scalar.addi c32_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off31 (i : grid1.Coords) (k1_t5 : Fin k1_t5_loop.trips) (c0_i32_180 : BitVec 32) : Fin 2 → Nat :=
  let c32_i32_179 : BitVec 32 := 32#32
  let c0_i32_55 : BitVec 32 := 0#32
  let c1_i32_57 : BitVec 32 := 1#32
  let arg9 : BitVec 32 := Scf.iv c0_i32_55 c1_i32_57 k1_t5
  let v124 : BitVec 32 := Scalar.addi c32_i32_179 arg9
  let v126 : Index := Scalar.indexCast v124
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c32_i32_170 : BitVec 32 := 32#32
  let v100 : BitVec 32 := Scalar.addi c32_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v125 : BitVec 32 := Scalar.addi v123 c0_i32_180
  let v127 : Index := Scalar.indexCast v125
  ![v126.toNat, v127.toNat]
@[reducible] def k1_t6_loop : Scf.Loop 32 :=
  let c0_i32_60 : BitVec 32 := 0#32
  let c32_i32_61 : BitVec 32 := 32#32
  let v42 : BitVec 32 := Scalar.addi c0_i32_60 c32_i32_61
  let c1_i32_62 : BitVec 32 := 1#32
  ⟨c0_i32_60, v42, c1_i32_62⟩
def k1_mult6 (i : grid1.Coords) (k1_t6 : Fin k1_t6_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off32 (k1_t6 : Fin k1_t6_loop.trips) : Fin 2 → Nat :=
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v124 : Index := Scalar.indexCast v100
  let c0 : Index := 0#32
  ![v124.toNat, 0]
def k1_off33 (i : grid1.Coords) (k1_t6 : Fin k1_t6_loop.trips) (c0_i32_180 : BitVec 32) : Fin 2 → Nat :=
  let c32_i32_179 : BitVec 32 := 32#32
  let c0_i32_60 : BitVec 32 := 0#32
  let c1_i32_62 : BitVec 32 := 1#32
  let arg9 : BitVec 32 := Scf.iv c0_i32_60 c1_i32_62 k1_t6
  let v127 : BitVec 32 := Scalar.addi c32_i32_179 arg9
  let v129 : Index := Scalar.indexCast v127
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c96_i32_170 : BitVec 32 := 96#32
  let v100 : BitVec 32 := Scalar.addi c96_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v128 : BitVec 32 := Scalar.addi v123 c0_i32_180
  let v130 : Index := Scalar.indexCast v128
  ![v129.toNat, v130.toNat]
def k1_off34 (k1_t6 : Fin k1_t6_loop.trips) : Fin 2 → Nat :=
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v134 : Index := Scalar.indexCast v100
  let c16 : Index := 16#32
  ![v134.toNat, 16]
def k1_off35 (k1_t6 : Fin k1_t6_loop.trips) : Fin 2 → Nat :=
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v144 : Index := Scalar.indexCast v100
  let c32 : Index := 32#32
  ![v144.toNat, 32]
def k1_off36 (k1_t6 : Fin k1_t6_loop.trips) : Fin 2 → Nat :=
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v154 : Index := Scalar.indexCast v100
  let c48 : Index := 48#32
  ![v154.toNat, 48]
def k1_off37 (k1_t6 : Fin k1_t6_loop.trips) : Fin 2 → Nat :=
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v164 : Index := Scalar.indexCast v100
  let c64 : Index := 64#32
  ![v164.toNat, 64]
def k1_off38 (k1_t6 : Fin k1_t6_loop.trips) : Fin 2 → Nat :=
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v174 : Index := Scalar.indexCast v100
  let c80 : Index := 80#32
  ![v174.toNat, 80]
def k1_off39 (k1_t6 : Fin k1_t6_loop.trips) : Fin 2 → Nat :=
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v184 : Index := Scalar.indexCast v100
  let c96 : Index := 96#32
  ![v184.toNat, 96]
def k1_off40 (k1_t6 : Fin k1_t6_loop.trips) : Fin 2 → Nat :=
  let c96_i32_170 : BitVec 32 := 96#32
  let c0_i32_60 : BitVec 32 := 0#32
  let c1_i32_62 : BitVec 32 := 1#32
  let arg9 : BitVec 32 := Scf.iv c0_i32_60 c1_i32_62 k1_t6
  let v100 : BitVec 32 := Scalar.addi c96_i32_170 arg9
  let v194 : Index := Scalar.indexCast v100
  let c112 : Index := 112#32
  ![v194.toNat, 112]
@[reducible] def k1_t7_loop : Scf.Loop 32 :=
  let c0_i32_77 : BitVec 32 := 0#32
  let c32_i32_78 : BitVec 32 := 32#32
  let v52 : BitVec 32 := Scalar.addi c0_i32_77 c32_i32_78
  let c1_i32_79 : BitVec 32 := 1#32
  ⟨c0_i32_77, v52, c1_i32_79⟩
def k1_mult7 (i : grid1.Coords) (k1_t7 : Fin k1_t7_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c64_i32_170 : BitVec 32 := 64#32
  let c0_i32_77 : BitVec 32 := 0#32
  let c1_i32_79 : BitVec 32 := 1#32
  let arg9 : BitVec 32 := Scf.iv c0_i32_77 c1_i32_79 k1_t7
  let v100 : BitVec 32 := Scalar.addi c64_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off41 (i : grid1.Coords) (k1_t7 : Fin k1_t7_loop.trips) (c0_i32_180 : BitVec 32) : Fin 2 → Nat :=
  let c0_i32_179 : BitVec 32 := 0#32
  let c0_i32_77 : BitVec 32 := 0#32
  let c1_i32_79 : BitVec 32 := 1#32
  let arg9 : BitVec 32 := Scf.iv c0_i32_77 c1_i32_79 k1_t7
  let v124 : BitVec 32 := Scalar.addi c0_i32_179 arg9
  let v126 : Index := Scalar.indexCast v124
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c64_i32_170 : BitVec 32 := 64#32
  let v100 : BitVec 32 := Scalar.addi c64_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v125 : BitVec 32 := Scalar.addi v123 c0_i32_180
  let v127 : Index := Scalar.indexCast v125
  ![v126.toNat, v127.toNat]
@[reducible] def k1_t8_loop : Scf.Loop 32 :=
  let c0_i32_82 : BitVec 32 := 0#32
  let c32_i32_83 : BitVec 32 := 32#32
  let v53 : BitVec 32 := Scalar.addi c0_i32_82 c32_i32_83
  let c1_i32_84 : BitVec 32 := 1#32
  ⟨c0_i32_82, v53, c1_i32_84⟩
def k1_mult8 (i : grid1.Coords) (k1_t8 : Fin k1_t8_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off42 (k1_t8 : Fin k1_t8_loop.trips) : Fin 2 → Nat :=
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v124 : Index := Scalar.indexCast v100
  let c0 : Index := 0#32
  ![v124.toNat, 0]
def k1_off43 (i : grid1.Coords) (k1_t8 : Fin k1_t8_loop.trips) (c0_i32_180 : BitVec 32) : Fin 2 → Nat :=
  let c0_i32_179 : BitVec 32 := 0#32
  let c0_i32_82 : BitVec 32 := 0#32
  let c1_i32_84 : BitVec 32 := 1#32
  let arg9 : BitVec 32 := Scf.iv c0_i32_82 c1_i32_84 k1_t8
  let v127 : BitVec 32 := Scalar.addi c0_i32_179 arg9
  let v129 : Index := Scalar.indexCast v127
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c128_i32_170 : BitVec 32 := 128#32
  let v100 : BitVec 32 := Scalar.addi c128_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v128 : BitVec 32 := Scalar.addi v123 c0_i32_180
  let v130 : Index := Scalar.indexCast v128
  ![v129.toNat, v130.toNat]
def k1_off44 (k1_t8 : Fin k1_t8_loop.trips) : Fin 2 → Nat :=
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v134 : Index := Scalar.indexCast v100
  let c16 : Index := 16#32
  ![v134.toNat, 16]
def k1_off45 (k1_t8 : Fin k1_t8_loop.trips) : Fin 2 → Nat :=
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v144 : Index := Scalar.indexCast v100
  let c32 : Index := 32#32
  ![v144.toNat, 32]
def k1_off46 (k1_t8 : Fin k1_t8_loop.trips) : Fin 2 → Nat :=
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v154 : Index := Scalar.indexCast v100
  let c48 : Index := 48#32
  ![v154.toNat, 48]
def k1_off47 (k1_t8 : Fin k1_t8_loop.trips) : Fin 2 → Nat :=
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v164 : Index := Scalar.indexCast v100
  let c64 : Index := 64#32
  ![v164.toNat, 64]
def k1_off48 (k1_t8 : Fin k1_t8_loop.trips) : Fin 2 → Nat :=
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v174 : Index := Scalar.indexCast v100
  let c80 : Index := 80#32
  ![v174.toNat, 80]
def k1_off49 (k1_t8 : Fin k1_t8_loop.trips) : Fin 2 → Nat :=
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v184 : Index := Scalar.indexCast v100
  let c96 : Index := 96#32
  ![v184.toNat, 96]
def k1_off50 (k1_t8 : Fin k1_t8_loop.trips) : Fin 2 → Nat :=
  let c128_i32_170 : BitVec 32 := 128#32
  let c0_i32_82 : BitVec 32 := 0#32
  let c1_i32_84 : BitVec 32 := 1#32
  let arg9 : BitVec 32 := Scf.iv c0_i32_82 c1_i32_84 k1_t8
  let v100 : BitVec 32 := Scalar.addi c128_i32_170 arg9
  let v194 : Index := Scalar.indexCast v100
  let c112 : Index := 112#32
  ![v194.toNat, 112]
@[reducible] def k1_t9_loop : Scf.Loop 32 :=
  let c0_i32_99 : BitVec 32 := 0#32
  let c32_i32_100 : BitVec 32 := 32#32
  let v63 : BitVec 32 := Scalar.addi c0_i32_99 c32_i32_100
  let c1_i32_101 : BitVec 32 := 1#32
  ⟨c0_i32_99, v63, c1_i32_101⟩
def k1_mult9 (i : grid1.Coords) (k1_t9 : Fin k1_t9_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c96_i32_170 : BitVec 32 := 96#32
  let c0_i32_99 : BitVec 32 := 0#32
  let c1_i32_101 : BitVec 32 := 1#32
  let arg9 : BitVec 32 := Scf.iv c0_i32_99 c1_i32_101 k1_t9
  let v100 : BitVec 32 := Scalar.addi c96_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off51 (i : grid1.Coords) (k1_t9 : Fin k1_t9_loop.trips) (c0_i32_180 : BitVec 32) : Fin 2 → Nat :=
  let c32_i32_179 : BitVec 32 := 32#32
  let c0_i32_99 : BitVec 32 := 0#32
  let c1_i32_101 : BitVec 32 := 1#32
  let arg9 : BitVec 32 := Scf.iv c0_i32_99 c1_i32_101 k1_t9
  let v124 : BitVec 32 := Scalar.addi c32_i32_179 arg9
  let v126 : Index := Scalar.indexCast v124
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c96_i32_170 : BitVec 32 := 96#32
  let v100 : BitVec 32 := Scalar.addi c96_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v125 : BitVec 32 := Scalar.addi v123 c0_i32_180
  let v127 : Index := Scalar.indexCast v125
  ![v126.toNat, v127.toNat]
@[reducible] def k1_t10_loop : Scf.Loop 32 :=
  let c0_i32_104 : BitVec 32 := 0#32
  let c32_i32_105 : BitVec 32 := 32#32
  let v64 : BitVec 32 := Scalar.addi c0_i32_104 c32_i32_105
  let c1_i32_106 : BitVec 32 := 1#32
  ⟨c0_i32_104, v64, c1_i32_106⟩
def k1_mult10 (i : grid1.Coords) (k1_t10 : Fin k1_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off52 (k1_t10 : Fin k1_t10_loop.trips) : Fin 2 → Nat :=
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v124 : Index := Scalar.indexCast v100
  let c0 : Index := 0#32
  ![v124.toNat, 0]
def k1_off53 (i : grid1.Coords) (k1_t10 : Fin k1_t10_loop.trips) (c0_i32_180 : BitVec 32) : Fin 2 → Nat :=
  let c32_i32_179 : BitVec 32 := 32#32
  let c0_i32_104 : BitVec 32 := 0#32
  let c1_i32_106 : BitVec 32 := 1#32
  let arg9 : BitVec 32 := Scf.iv c0_i32_104 c1_i32_106 k1_t10
  let v127 : BitVec 32 := Scalar.addi c32_i32_179 arg9
  let v129 : Index := Scalar.indexCast v127
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c160_i32_170 : BitVec 32 := 160#32
  let v100 : BitVec 32 := Scalar.addi c160_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v128 : BitVec 32 := Scalar.addi v123 c0_i32_180
  let v130 : Index := Scalar.indexCast v128
  ![v129.toNat, v130.toNat]
def k1_off54 (k1_t10 : Fin k1_t10_loop.trips) : Fin 2 → Nat :=
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v134 : Index := Scalar.indexCast v100
  let c16 : Index := 16#32
  ![v134.toNat, 16]
def k1_off55 (k1_t10 : Fin k1_t10_loop.trips) : Fin 2 → Nat :=
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v144 : Index := Scalar.indexCast v100
  let c32 : Index := 32#32
  ![v144.toNat, 32]
def k1_off56 (k1_t10 : Fin k1_t10_loop.trips) : Fin 2 → Nat :=
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v154 : Index := Scalar.indexCast v100
  let c48 : Index := 48#32
  ![v154.toNat, 48]
def k1_off57 (k1_t10 : Fin k1_t10_loop.trips) : Fin 2 → Nat :=
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v164 : Index := Scalar.indexCast v100
  let c64 : Index := 64#32
  ![v164.toNat, 64]
def k1_off58 (k1_t10 : Fin k1_t10_loop.trips) : Fin 2 → Nat :=
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v174 : Index := Scalar.indexCast v100
  let c80 : Index := 80#32
  ![v174.toNat, 80]
def k1_off59 (k1_t10 : Fin k1_t10_loop.trips) : Fin 2 → Nat :=
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v184 : Index := Scalar.indexCast v100
  let c96 : Index := 96#32
  ![v184.toNat, 96]
def k1_off60 (k1_t10 : Fin k1_t10_loop.trips) : Fin 2 → Nat :=
  let c160_i32_170 : BitVec 32 := 160#32
  let c0_i32_104 : BitVec 32 := 0#32
  let c1_i32_106 : BitVec 32 := 1#32
  let arg9 : BitVec 32 := Scf.iv c0_i32_104 c1_i32_106 k1_t10
  let v100 : BitVec 32 := Scalar.addi c160_i32_170 arg9
  let v194 : Index := Scalar.indexCast v100
  let c112 : Index := 112#32
  ![v194.toNat, 112]
@[reducible] def k1_t11_loop : Scf.Loop 32 :=
  let c0_i32_121 : BitVec 32 := 0#32
  let c32_i32_122 : BitVec 32 := 32#32
  let v74 : BitVec 32 := Scalar.addi c0_i32_121 c32_i32_122
  let c1_i32_123 : BitVec 32 := 1#32
  ⟨c0_i32_121, v74, c1_i32_123⟩
def k1_mult11 (i : grid1.Coords) (k1_t11 : Fin k1_t11_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c128_i32_170 : BitVec 32 := 128#32
  let c0_i32_121 : BitVec 32 := 0#32
  let c1_i32_123 : BitVec 32 := 1#32
  let arg9 : BitVec 32 := Scf.iv c0_i32_121 c1_i32_123 k1_t11
  let v100 : BitVec 32 := Scalar.addi c128_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off61 (i : grid1.Coords) (k1_t11 : Fin k1_t11_loop.trips) (c0_i32_180 : BitVec 32) : Fin 2 → Nat :=
  let c0_i32_179 : BitVec 32 := 0#32
  let c0_i32_121 : BitVec 32 := 0#32
  let c1_i32_123 : BitVec 32 := 1#32
  let arg9 : BitVec 32 := Scf.iv c0_i32_121 c1_i32_123 k1_t11
  let v124 : BitVec 32 := Scalar.addi c0_i32_179 arg9
  let v126 : Index := Scalar.indexCast v124
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c128_i32_170 : BitVec 32 := 128#32
  let v100 : BitVec 32 := Scalar.addi c128_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v125 : BitVec 32 := Scalar.addi v123 c0_i32_180
  let v127 : Index := Scalar.indexCast v125
  ![v126.toNat, v127.toNat]
@[reducible] def k1_t12_loop : Scf.Loop 32 :=
  let c0_i32_126 : BitVec 32 := 0#32
  let c32_i32_127 : BitVec 32 := 32#32
  let v75 : BitVec 32 := Scalar.addi c0_i32_126 c32_i32_127
  let c1_i32_128 : BitVec 32 := 1#32
  ⟨c0_i32_126, v75, c1_i32_128⟩
def k1_mult12 (i : grid1.Coords) (k1_t12 : Fin k1_t12_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off62 (k1_t12 : Fin k1_t12_loop.trips) : Fin 2 → Nat :=
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v124 : Index := Scalar.indexCast v100
  let c0 : Index := 0#32
  ![v124.toNat, 0]
def k1_off63 (i : grid1.Coords) (k1_t12 : Fin k1_t12_loop.trips) (c0_i32_180 : BitVec 32) : Fin 2 → Nat :=
  let c0_i32_179 : BitVec 32 := 0#32
  let c0_i32_126 : BitVec 32 := 0#32
  let c1_i32_128 : BitVec 32 := 1#32
  let arg9 : BitVec 32 := Scf.iv c0_i32_126 c1_i32_128 k1_t12
  let v127 : BitVec 32 := Scalar.addi c0_i32_179 arg9
  let v129 : Index := Scalar.indexCast v127
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c192_i32_170 : BitVec 32 := 192#32
  let v100 : BitVec 32 := Scalar.addi c192_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v128 : BitVec 32 := Scalar.addi v123 c0_i32_180
  let v130 : Index := Scalar.indexCast v128
  ![v129.toNat, v130.toNat]
def k1_off64 (k1_t12 : Fin k1_t12_loop.trips) : Fin 2 → Nat :=
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v134 : Index := Scalar.indexCast v100
  let c16 : Index := 16#32
  ![v134.toNat, 16]
def k1_off65 (k1_t12 : Fin k1_t12_loop.trips) : Fin 2 → Nat :=
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v144 : Index := Scalar.indexCast v100
  let c32 : Index := 32#32
  ![v144.toNat, 32]
def k1_off66 (k1_t12 : Fin k1_t12_loop.trips) : Fin 2 → Nat :=
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v154 : Index := Scalar.indexCast v100
  let c48 : Index := 48#32
  ![v154.toNat, 48]
def k1_off67 (k1_t12 : Fin k1_t12_loop.trips) : Fin 2 → Nat :=
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v164 : Index := Scalar.indexCast v100
  let c64 : Index := 64#32
  ![v164.toNat, 64]
def k1_off68 (k1_t12 : Fin k1_t12_loop.trips) : Fin 2 → Nat :=
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v174 : Index := Scalar.indexCast v100
  let c80 : Index := 80#32
  ![v174.toNat, 80]
def k1_off69 (k1_t12 : Fin k1_t12_loop.trips) : Fin 2 → Nat :=
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v184 : Index := Scalar.indexCast v100
  let c96 : Index := 96#32
  ![v184.toNat, 96]
def k1_off70 (k1_t12 : Fin k1_t12_loop.trips) : Fin 2 → Nat :=
  let c192_i32_170 : BitVec 32 := 192#32
  let c0_i32_126 : BitVec 32 := 0#32
  let c1_i32_128 : BitVec 32 := 1#32
  let arg9 : BitVec 32 := Scf.iv c0_i32_126 c1_i32_128 k1_t12
  let v100 : BitVec 32 := Scalar.addi c192_i32_170 arg9
  let v194 : Index := Scalar.indexCast v100
  let c112 : Index := 112#32
  ![v194.toNat, 112]
@[reducible] def k1_t13_loop : Scf.Loop 32 :=
  let c0_i32_143 : BitVec 32 := 0#32
  let c32_i32_144 : BitVec 32 := 32#32
  let v85 : BitVec 32 := Scalar.addi c0_i32_143 c32_i32_144
  let c1_i32_145 : BitVec 32 := 1#32
  ⟨c0_i32_143, v85, c1_i32_145⟩
def k1_mult13 (i : grid1.Coords) (k1_t13 : Fin k1_t13_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c160_i32_170 : BitVec 32 := 160#32
  let c0_i32_143 : BitVec 32 := 0#32
  let c1_i32_145 : BitVec 32 := 1#32
  let arg9 : BitVec 32 := Scf.iv c0_i32_143 c1_i32_145 k1_t13
  let v100 : BitVec 32 := Scalar.addi c160_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off71 (i : grid1.Coords) (k1_t13 : Fin k1_t13_loop.trips) (c0_i32_180 : BitVec 32) : Fin 2 → Nat :=
  let c32_i32_179 : BitVec 32 := 32#32
  let c0_i32_143 : BitVec 32 := 0#32
  let c1_i32_145 : BitVec 32 := 1#32
  let arg9 : BitVec 32 := Scf.iv c0_i32_143 c1_i32_145 k1_t13
  let v124 : BitVec 32 := Scalar.addi c32_i32_179 arg9
  let v126 : Index := Scalar.indexCast v124
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c160_i32_170 : BitVec 32 := 160#32
  let v100 : BitVec 32 := Scalar.addi c160_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v125 : BitVec 32 := Scalar.addi v123 c0_i32_180
  let v127 : Index := Scalar.indexCast v125
  ![v126.toNat, v127.toNat]
@[reducible] def k1_t14_loop : Scf.Loop 32 :=
  let c0_i32_148 : BitVec 32 := 0#32
  let c32_i32_149 : BitVec 32 := 32#32
  let v86 : BitVec 32 := Scalar.addi c0_i32_148 c32_i32_149
  let c1_i32_150 : BitVec 32 := 1#32
  ⟨c0_i32_148, v86, c1_i32_150⟩
def k1_mult14 (i : grid1.Coords) (k1_t14 : Fin k1_t14_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  v122
def k1_off72 (k1_t14 : Fin k1_t14_loop.trips) : Fin 2 → Nat :=
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v124 : Index := Scalar.indexCast v100
  let c0 : Index := 0#32
  ![v124.toNat, 0]
def k1_off73 (i : grid1.Coords) (k1_t14 : Fin k1_t14_loop.trips) (c0_i32_180 : BitVec 32) : Fin 2 → Nat :=
  let c32_i32_179 : BitVec 32 := 32#32
  let c0_i32_148 : BitVec 32 := 0#32
  let c1_i32_150 : BitVec 32 := 1#32
  let arg9 : BitVec 32 := Scf.iv c0_i32_148 c1_i32_150 k1_t14
  let v127 : BitVec 32 := Scalar.addi c32_i32_179 arg9
  let v129 : Index := Scalar.indexCast v127
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let c0_i32 : BitVec 32 := 0#32
  let v3 : BitVec 1 := Scalar.cmpi .eq c1024_i32 c0_i32
  let c1_i32 : BitVec 32 := 1#32
  let v4 : BitVec 32 := Scalar.select v3 c1_i32 c1024_i32
  let v5 : BitVec 32 := Scalar.remsi v2 v4
  let c0_i32_1 : BitVec 32 := 0#32
  let v7 : BitVec 1 := Scalar.cmpi .slt v5 c0_i32_1
  let c0_i32_2 : BitVec 32 := 0#32
  let v8 : BitVec 1 := Scalar.cmpi .slt v4 c0_i32_2
  let v9 : BitVec 1 := Scalar.xori v7 v8
  let c0_i32_0 : BitVec 32 := 0#32
  let v6 : BitVec 1 := Scalar.cmpi .ne v5 c0_i32_0
  let v10 : BitVec 1 := Scalar.andi v9 v6
  let v11 : BitVec 32 := Scalar.addi v5 v4
  let v12 : BitVec 32 := Scalar.select v10 v11 v5
  let c224_i32_170 : BitVec 32 := 224#32
  let v100 : BitVec 32 := Scalar.addi c224_i32_170 arg9
  let v101 : BitVec 32 := Scalar.addi v12 v100
  let c33_i32 : BitVec 32 := 33#32
  let v102 : BitVec 32 := Scalar.subi v101 c33_i32
  let c0_i32_171 : BitVec 32 := 0#32
  let v104 : BitVec 1 := Scalar.cmpi .sgt v102 c0_i32_171
  let v105 : BitVec 32 := Scalar.extui v104
  let c0_i32_172 : BitVec 32 := 0#32
  let v106 : BitVec 1 := Scalar.cmpi .slt v102 c0_i32_172
  let v107 : BitVec 32 := Scalar.extui v106
  let v108 : BitVec 32 := Scalar.subi v105 v107
  let c16_i32 : BitVec 32 := 16#32
  let c0_i32_173 : BitVec 32 := 0#32
  let v109 : BitVec 1 := Scalar.cmpi .sgt c16_i32 c0_i32_173
  let v110 : BitVec 32 := Scalar.extui v109
  let c0_i32_174 : BitVec 32 := 0#32
  let v111 : BitVec 1 := Scalar.cmpi .slt c16_i32 c0_i32_174
  let v112 : BitVec 32 := Scalar.extui v111
  let v113 : BitVec 32 := Scalar.subi v110 v112
  let v114 : BitVec 1 := Scalar.cmpi .ne v108 v113
  let v115 : BitVec 32 := Scalar.remsi v102 c16_i32
  let c0_i32_175 : BitVec 32 := 0#32
  let v116 : BitVec 1 := Scalar.cmpi .ne v115 c0_i32_175
  let v117 : BitVec 1 := Scalar.andi v114 v116
  let v103 : BitVec 32 := Scalar.divsi v102 c16_i32
  let c1_i32_176 : BitVec 32 := 1#32
  let v118 : BitVec 32 := Scalar.subi v103 c1_i32_176
  let v119 : BitVec 32 := Scalar.select v117 v118 v103
  let c16_i32_177 : BitVec 32 := 16#32
  let v120 : BitVec 32 := Scalar.muli v119 c16_i32_177
  let c0_i32_178 : BitVec 32 := 0#32
  let v121 : BitVec 32 := Scalar.maxsi v120 c0_i32_178
  let c896_i32 : BitVec 32 := 896#32
  let v122 : BitVec 32 := Scalar.minsi v121 c896_i32
  let v123 : BitVec 32 := v122
  let v128 : BitVec 32 := Scalar.addi v123 c0_i32_180
  let v130 : Index := Scalar.indexCast v128
  ![v129.toNat, v130.toNat]
def k1_off74 (k1_t14 : Fin k1_t14_loop.trips) : Fin 2 → Nat :=
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v134 : Index := Scalar.indexCast v100
  let c16 : Index := 16#32
  ![v134.toNat, 16]
def k1_off75 (k1_t14 : Fin k1_t14_loop.trips) : Fin 2 → Nat :=
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v144 : Index := Scalar.indexCast v100
  let c32 : Index := 32#32
  ![v144.toNat, 32]
def k1_off76 (k1_t14 : Fin k1_t14_loop.trips) : Fin 2 → Nat :=
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v154 : Index := Scalar.indexCast v100
  let c48 : Index := 48#32
  ![v154.toNat, 48]
def k1_off77 (k1_t14 : Fin k1_t14_loop.trips) : Fin 2 → Nat :=
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v164 : Index := Scalar.indexCast v100
  let c64 : Index := 64#32
  ![v164.toNat, 64]
def k1_off78 (k1_t14 : Fin k1_t14_loop.trips) : Fin 2 → Nat :=
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v174 : Index := Scalar.indexCast v100
  let c80 : Index := 80#32
  ![v174.toNat, 80]
def k1_off79 (k1_t14 : Fin k1_t14_loop.trips) : Fin 2 → Nat :=
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v184 : Index := Scalar.indexCast v100
  let c96 : Index := 96#32
  ![v184.toNat, 96]
def k1_off80 (k1_t14 : Fin k1_t14_loop.trips) : Fin 2 → Nat :=
  let c224_i32_170 : BitVec 32 := 224#32
  let c0_i32_148 : BitVec 32 := 0#32
  let c1_i32_150 : BitVec 32 := 1#32
  let arg9 : BitVec 32 := Scf.iv c0_i32_148 c1_i32_150 k1_t14
  let v100 : BitVec 32 := Scalar.addi c224_i32_170 arg9
  let v194 : Index := Scalar.indexCast v100
  let c112 : Index := 112#32
  ![v194.toNat, 112]
abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x384x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S384x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x384x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x384x32x32 : Shape := ⟨4, ![8, 384, 32, 32]⟩
abbrev S48x384 : Shape := ⟨2, ![48, 384]⟩
abbrev S48 : Shape := ⟨1, ![48]⟩
abbrev S384x384 : Shape := ⟨2, ![384, 384]⟩
abbrev S384 : Shape := ⟨1, ![384]⟩
abbrev S1 : Shape := ⟨1, ![1]⟩
abbrev S9x2 : Shape := ⟨2, ![9, 2]⟩
abbrev S8x384x1024 : Shape := ⟨3, ![8, 384, 1024]⟩
abbrev S8x1024x48 : Shape := ⟨3, ![8, 1024, 48]⟩
abbrev S1x1x48 : Shape := ⟨3, ![1, 1, 48]⟩
abbrev S8x48x1024 : Shape := ⟨3, ![8, 48, 1024]⟩
abbrev S1x48x1 : Shape := ⟨3, ![1, 48, 1]⟩
abbrev S8x1024x384 : Shape := ⟨3, ![8, 1024, 384]⟩
abbrev S1x384x1 : Shape := ⟨3, ![1, 384, 1]⟩
abbrev S1024 : Shape := ⟨1, ![1024]⟩
abbrev S_ : Shape := ⟨0, ![]⟩
abbrev S1024x1 : Shape := ⟨2, ![1024, 1]⟩
abbrev S9x1 : Shape := ⟨2, ![9, 1]⟩
abbrev S9 : Shape := ⟨1, ![9]⟩
abbrev S1x9 : Shape := ⟨2, ![1, 9]⟩
abbrev S1024x9 : Shape := ⟨2, ![1024, 9]⟩
abbrev S9216 : Shape := ⟨1, ![9216]⟩
abbrev S9216x1 : Shape := ⟨2, ![9216, 1]⟩
abbrev S1x1 : Shape := ⟨2, ![1, 1]⟩
abbrev S8x48x9216 : Shape := ⟨3, ![8, 48, 9216]⟩
abbrev S8x48x1024x9 : Shape := ⟨4, ![8, 48, 1024, 9]⟩
abbrev S8x1024x9 : Shape := ⟨3, ![8, 1024, 9]⟩
abbrev S1x1024x9 : Shape := ⟨3, ![1, 1024, 9]⟩
abbrev S8x1024 : Shape := ⟨2, ![8, 1024]⟩
abbrev S8x1024x1 : Shape := ⟨3, ![8, 1024, 1]⟩
abbrev S8x1024x1024 : Shape := ⟨3, ![8, 1024, 1024]⟩
abbrev S1024x9x1 : Shape := ⟨3, ![1024, 9, 1]⟩
abbrev S1024x9x2 : Shape := ⟨3, ![1024, 9, 2]⟩
abbrev S1x1x1x1 : Shape := ⟨4, ![1, 1, 1, 1]⟩

abbrev nBuf : Space → Nat
  | .hbm => 196
  | .vmem => 0
  | .smem => 0
  | _ => 0

abbrev hbmTy0_0 (i : Nat) : BufTy := match i % 128 with
  | 0 => ⟨S8x384x32x32, .f32⟩
  | 1 => ⟨S48x384, .f32⟩
  | 2 => ⟨S48, .f32⟩
  | 3 => ⟨S48x384, .f32⟩
  | 4 => ⟨S48, .f32⟩
  | 5 => ⟨S384x384, .f32⟩
  | 6 => ⟨S384, .f32⟩
  | 7 => ⟨S1, .f32⟩
  | 8 => ⟨S9x2, .i32⟩
  | 9 => ⟨S8x384x1024, .f32⟩
  | 10 => ⟨S8x1024x48, .f32⟩
  | 11 => ⟨S1x1x48, .f32⟩
  | 12 => ⟨S8x1024x48, .f32⟩
  | 13 => ⟨S8x1024x48, .f32⟩
  | 14 => ⟨S8x1024x48, .f32⟩
  | 15 => ⟨S8x48x1024, .f32⟩
  | 16 => ⟨S1x48x1, .f32⟩
  | 17 => ⟨S8x48x1024, .f32⟩
  | 18 => ⟨S8x48x1024, .f32⟩
  | 19 => ⟨S8x1024x384, .f32⟩
  | 20 => ⟨S8x384x1024, .f32⟩
  | 21 => ⟨S1x384x1, .f32⟩
  | 22 => ⟨S8x384x1024, .f32⟩
  | 23 => ⟨S8x384x1024, .f32⟩
  | 24 => ⟨S1024, .i32⟩
  | 25 => ⟨S_, .i32⟩
  | 26 => ⟨S_, .i32⟩
  | 27 => ⟨S1024, .i32⟩
  | 28 => ⟨S1024, .i32⟩
  | 29 => ⟨S1024, .i32⟩
  | 30 => ⟨S_, .i32⟩
  | 31 => ⟨S1024, .i32⟩
  | 32 => ⟨S1024, .i1⟩
  | 33 => ⟨S1024, .i32⟩
  | 34 => ⟨S1024, .i32⟩
  | 35 => ⟨S_, .i32⟩
  | 36 => ⟨S1024, .i32⟩
  | 37 => ⟨S1024, .i1⟩
  | 38 => ⟨S1024, .i1⟩
  | 39 => ⟨S_, .i32⟩
  | 40 => ⟨S1024, .i32⟩
  | 41 => ⟨S1024, .i32⟩
  | 42 => ⟨S1024, .i32⟩
  | 43 => ⟨S1024, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S1024, .i32⟩
  | 51 => ⟨S1024, .i32⟩
  | 52 => ⟨S_, .i32⟩
  | 53 => ⟨S1024, .i32⟩
  | 54 => ⟨S1024, .i1⟩
  | 55 => ⟨S_, .i32⟩
  | 56 => ⟨S1024, .i32⟩
  | 57 => ⟨S1024, .i1⟩
  | 58 => ⟨S_, .i32⟩
  | 59 => ⟨S_, .i1⟩
  | 60 => ⟨S1024, .i1⟩
  | 61 => ⟨S1024, .i1⟩
  | 62 => ⟨S1024, .i1⟩
  | 63 => ⟨S1024, .i32⟩
  | 64 => ⟨S1024, .i32⟩
  | 65 => ⟨S1024, .i32⟩
  | 66 => ⟨S1024x1, .i32⟩
  | 67 => ⟨S9x1, .i32⟩
  | 68 => ⟨S9, .i32⟩
  | 69 => ⟨S1x9, .i32⟩
  | 70 => ⟨S1024x9, .i32⟩
  | 71 => ⟨S1024x9, .i32⟩
  | 72 => ⟨S1024x9, .i32⟩
  | 73 => ⟨S1024x1, .i32⟩
  | 74 => ⟨S9x1, .i32⟩
  | 75 => ⟨S9, .i32⟩
  | 76 => ⟨S1x9, .i32⟩
  | 77 => ⟨S1024x9, .i32⟩
  | 78 => ⟨S1024x9, .i32⟩
  | 79 => ⟨S1024x9, .i32⟩
  | 80 => ⟨S_, .i32⟩
  | 81 => ⟨S1024x9, .i32⟩
  | 82 => ⟨S1024x9, .i1⟩
  | 83 => ⟨S_, .i32⟩
  | 84 => ⟨S1024x9, .i32⟩
  | 85 => ⟨S1024x9, .i1⟩
  | 86 => ⟨S1024x9, .i1⟩
  | 87 => ⟨S_, .i32⟩
  | 88 => ⟨S1024x9, .i32⟩
  | 89 => ⟨S1024x9, .i1⟩
  | 90 => ⟨S1024x9, .i1⟩
  | 91 => ⟨S_, .i32⟩
  | 92 => ⟨S1024x9, .i32⟩
  | 93 => ⟨S1024x9, .i1⟩
  | 94 => ⟨S1024x9, .i1⟩
  | 95 => ⟨S_, .i32⟩
  | 96 => ⟨S_, .i32⟩
  | 97 => ⟨S_, .i32⟩
  | 98 => ⟨S1024x9, .i32⟩
  | 99 => ⟨S1024x9, .i32⟩
  | 100 => ⟨S_, .i32⟩
  | 101 => ⟨S1024x9, .i32⟩
  | 102 => ⟨S1024x9, .i32⟩
  | 103 => ⟨S_, .i32⟩
  | 104 => ⟨S1024x9, .i32⟩
  | 105 => ⟨S1024x9, .i32⟩
  | 106 => ⟨S_, .i32⟩
  | 107 => ⟨S_, .i32⟩
  | 108 => ⟨S_, .i32⟩
  | 109 => ⟨S1024x9, .i32⟩
  | 110 => ⟨S1024x9, .i32⟩
  | 111 => ⟨S_, .i32⟩
  | 112 => ⟨S1024x9, .i32⟩
  | 113 => ⟨S1024x9, .i32⟩
  | 114 => ⟨S1024x9, .i32⟩
  | 115 => ⟨S9216, .i32⟩
  | 116 => ⟨S_, .i32⟩
  | 117 => ⟨S9216, .i32⟩
  | 118 => ⟨S9216, .i1⟩
  | 119 => ⟨S_, .i32⟩
  | 120 => ⟨S9216, .i32⟩
  | 121 => ⟨S9216, .i32⟩
  | 122 => ⟨S9216, .i32⟩
  | 123 => ⟨S9216x1, .i32⟩
  | 124 => ⟨S1, .i32⟩
  | 125 => ⟨S_, .i32⟩
  | 126 => ⟨S9216x1, .i32⟩
  | 127 => ⟨S9216x1, .i1⟩
  | _ => ⟨S8x384x32x32, .f32⟩

abbrev hbmTy0_1 (i : Nat) : BufTy := match i % 128 with
  | 0 => ⟨S1x1, .i32⟩
  | 1 => ⟨S9216x1, .i32⟩
  | 2 => ⟨S9216x1, .i1⟩
  | 3 => ⟨S9216x1, .i1⟩
  | 4 => ⟨S_, .i1⟩
  | 5 => ⟨S9216, .i1⟩
  | 6 => ⟨S8x48x9216, .f32⟩
  | 7 => ⟨S8x48x9216, .i1⟩
  | 8 => ⟨S_, .f32⟩
  | 9 => ⟨S8x48x9216, .f32⟩
  | 10 => ⟨S8x48x9216, .f32⟩
  | 11 => ⟨S8x48x1024x9, .f32⟩
  | 12 => ⟨S8x1024x9, .f32⟩
  | 13 => ⟨S1x1024x9, .i1⟩
  | 14 => ⟨S_, .f32⟩
  | 15 => ⟨S_, .f32⟩
  | 16 => ⟨S8x1024x9, .i1⟩
  | 17 => ⟨S8x1024x9, .f32⟩
  | 18 => ⟨S8x1024x9, .f32⟩
  | 19 => ⟨S_, .f32⟩
  | 20 => ⟨S8x1024, .f32⟩
  | 21 => ⟨S_, .f32⟩
  | 22 => ⟨S8x1024, .f32⟩
  | 23 => ⟨S8x1024, .f32⟩
  | 24 => ⟨S8x1024x1, .f32⟩
  | 25 => ⟨S8x1024x9, .f32⟩
  | 26 => ⟨S8x1024x9, .f32⟩
  | 27 => ⟨S8x1024x9, .f32⟩
  | 28 => ⟨S_, .f32⟩
  | 29 => ⟨S8x1024, .f32⟩
  | 30 => ⟨S8x1024x1, .f32⟩
  | 31 => ⟨S8x1024x9, .f32⟩
  | 32 => ⟨S8x1024x9, .f32⟩
  | 33 => ⟨S1x1024x9, .i1⟩
  | 34 => ⟨S_, .f32⟩
  | 35 => ⟨S_, .f32⟩
  | 36 => ⟨S8x1024x9, .i1⟩
  | 37 => ⟨S8x1024x9, .f32⟩
  | 38 => ⟨S8x1024x9, .f32⟩
  | 39 => ⟨S_, .f32⟩
  | 40 => ⟨S8x1024x1024, .f32⟩
  | 41 => ⟨S1024, .i32⟩
  | 42 => ⟨S1024x1, .i32⟩
  | 43 => ⟨S_, .i32⟩
  | 44 => ⟨S1024x1, .i32⟩
  | 45 => ⟨S1024x1, .i1⟩
  | 46 => ⟨S_, .i32⟩
  | 47 => ⟨S1024x1, .i32⟩
  | 48 => ⟨S1024x1, .i32⟩
  | 49 => ⟨S1024x1, .i32⟩
  | 50 => ⟨S_, .i32⟩
  | 51 => ⟨S1024x9, .i32⟩
  | 52 => ⟨S1024x9, .i1⟩
  | 53 => ⟨S_, .i32⟩
  | 54 => ⟨S1024x9, .i32⟩
  | 55 => ⟨S1024x9, .i32⟩
  | 56 => ⟨S1024x9, .i32⟩
  | 57 => ⟨S1024x9, .i32⟩
  | 58 => ⟨S1024x9x1, .i32⟩
  | 59 => ⟨S1024x9x1, .i32⟩
  | 60 => ⟨S1024x9x2, .i32⟩
  | 61 => ⟨S8x1024x1024, .f32⟩
  | 62 => ⟨S8x384x1024, .f32⟩
  | 63 => ⟨S8x384x32x32, .f32⟩
  | 64 => ⟨S1x1x1x1, .f32⟩
  | 65 => ⟨S8x384x32x32, .f32⟩
  | 66 => ⟨S8x384x32x32, .f32⟩
  | 67 => ⟨S8x384x32x32, .f32⟩
  | _ => ⟨S8x384x32x32, .f32⟩

abbrev hbmTy (i : Nat) : BufTy := match i / 128 with
  | 0 => hbmTy0_0 i
  | 1 => hbmTy0_1 i
  | _ => ⟨S8x384x32x32, .f32⟩

abbrev bufTy : (tb : Table) → Fin (tcTables nBuf tb) → BufTy
  | .hbm, ⟨i, _⟩ => hbmTy i
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v16 : Ref sig .tc := ⟨.hbm, 42, rfl⟩
abbrev main_v17 : Ref sig .tc := ⟨.hbm, 43, rfl⟩
abbrev main_c_1 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_2 : Ref sig .tc := ⟨.hbm, 80, rfl⟩
abbrev main_v33 : Ref sig .tc := ⟨.hbm, 81, rfl⟩
abbrev main_v34 : Ref sig .tc := ⟨.hbm, 82, rfl⟩
abbrev main_c_3 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_c_4 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_c_5 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_c_6 : Ref sig .tc := ⟨.hbm, 95, rfl⟩
abbrev main_c_7 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v44 : Ref sig .tc := ⟨.hbm, 102, rfl⟩
abbrev main_c_8 : Ref sig .tc := ⟨.hbm, 103, rfl⟩
abbrev main_v45 : Ref sig .tc := ⟨.hbm, 104, rfl⟩
abbrev main_v46 : Ref sig .tc := ⟨.hbm, 105, rfl⟩
abbrev main_c_9 : Ref sig .tc := ⟨.hbm, 106, rfl⟩
abbrev main_c_10 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_cst : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v54 : Ref sig .tc := ⟨.hbm, 146, rfl⟩
abbrev main_cst_11 : Ref sig .tc := ⟨.hbm, 147, rfl⟩
abbrev main_v55 : Ref sig .tc := ⟨.hbm, 148, rfl⟩
abbrev main_cst_12 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_cst_13 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_cst_14 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v67 : Ref sig .tc := ⟨.hbm, 166, rfl⟩
abbrev main_cst_15 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_c_16 : Ref sig .tc := ⟨.hbm, 171, rfl⟩
abbrev main_v71 : Ref sig .tc := ⟨.hbm, 172, rfl⟩
abbrev main_v72 : Ref sig .tc := ⟨.hbm, 173, rfl⟩
abbrev main_c_17 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_c_18 : Ref sig .tc := ⟨.hbm, 178, rfl⟩
abbrev main_v76 : Ref sig .tc := ⟨.hbm, 179, rfl⟩
abbrev main_v77 : Ref sig .tc := ⟨.hbm, 180, rfl⟩
abbrev main_c_19 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩

abbrev nD : Nat := 1
abbrev τ : Topo := Topo.v7x

variable {F : FTy → Type} [FloatOps F]
-- ==== Proof.TileRow.lean ====
/- The rows a vector subcore builds: one row's window of 128 entries placed (or cleared) in the row
   buffer, and the loop over the 32 rows of one half of that buffer. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The resource algebra -/

/-- The handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

/-- The vector subcore's two scratch buffers, whole. -/
abbrev lV : Memref Cert.KernelIdeal.sig Kind.scVector Space.vmem Cert.KernelIdeal.S256x128 EltTy.f32 := Memref.whole Cert.KernelIdeal.cc1_scratch0
abbrev rV : Memref Cert.KernelIdeal.sig Kind.scVector Space.vmem Cert.KernelIdeal.S64x1024 EltTy.f32 := Memref.whole Cert.KernelIdeal.cc1_scratch1

/-! ## A row's window -/

/-- The position `(a, b)` of the 256x128 window buffer. -/
def at256 (a b : ℕ) : S256x128.Idx := fun x => match x with
  | 0 => ⟨a % 256, Nat.mod_lt _ (by decide)⟩
  | 1 => ⟨b % 128, Nat.mod_lt _ (by decide)⟩

variable {α : Type}

/-- `f` with `src` placed in row `row` at columns `w … w + len - 1`. -/
def win (src : ℕ → α) (f : S64x1024.Idx → α) (row w len : ℕ) : S64x1024.Idx → α :=
  fun y => if (y 0).val = row ∧ w ≤ (y 1).val ∧ (y 1).val < w + len then src ((y 1).val - w) else f y

theorem win_zero (src : ℕ → α) (f : S64x1024.Idx → α) (row w : ℕ) : win src f row w 0 = f := by
  funext y; unfold win; rw [if_neg (by omega)]

/-- `f` with the windows of the first `k` rows of a half placed: row `rb + j` gets `src j` at column `w j`. -/
def blk (src : ℕ → ℕ → α) (w : ℕ → ℕ) (f : S64x1024.Idx → α) (rb k : ℕ) : S64x1024.Idx → α :=
  fun y => if rb ≤ (y 0).val ∧ (y 0).val < rb + k ∧ w ((y 0).val - rb) ≤ (y 1).val ∧ (y 1).val < w ((y 0).val - rb) + 128
    then src ((y 0).val - rb) ((y 1).val - w ((y 0).val - rb)) else f y

theorem blk_zero (src : ℕ → ℕ → α) (w : ℕ → ℕ) (f : S64x1024.Idx → α) (rb : ℕ) : blk src w f rb 0 = f := by
  funext y; unfold blk; rw [if_neg (by omega)]

theorem win_blk (src : ℕ → ℕ → α) (w : ℕ → ℕ) (f : S64x1024.Idx → α) (rb k : ℕ) :
    win (src k) (blk src w f rb k) (rb + k) (w k) 128 = blk src w f rb (k + 1) := by
  funext y
  unfold win blk
  by_cases h : (y 0).val = rb + k
  · have e : (y 0).val - rb = k := by omega
    rw [e]
    by_cases h2 : w k ≤ (y 1).val ∧ (y 1).val < w k + 128
    · rw [if_pos ⟨h, h2⟩, if_pos ⟨by omega, by omega, h2⟩]
    · rw [if_neg (fun h' => h2 h'.2), if_neg (by omega), if_neg (fun h' => h2 h'.2.2)]
  · rw [if_neg (fun h' => h h'.1)]
    by_cases h2 : rb ≤ (y 0).val ∧ (y 0).val < rb + k ∧ w ((y 0).val - rb) ≤ (y 1).val ∧ (y 1).val < w ((y 0).val - rb) + 128
    · rw [if_pos h2, if_pos ⟨h2.1, by omega, h2.2.2⟩]
    · rw [if_neg h2, if_neg (fun h' => h2 ⟨h'.1, by omega, h'.2.2⟩)]

/-- Clearing the windows that were placed gives the constant back. -/
theorem blk_clear (src : ℕ → ℕ → α) (w : ℕ → ℕ) (z : α) (rb : ℕ) :
    blk (fun _ _ => z) w (blk src w (fun _ => z) rb 32) rb 32 = fun _ => z := by
  funext y
  unfold blk
  split
  · rfl
  · rfl

/-! ## The programs of one row -/

variable {c : Fin τ.nSC} {s : Fin τ.nSub}

/-- The sixteen lanes at `so` of the window buffer go to `d` of the row buffer. -/
def piece (so : Fin 2 → ℕ) (hso : ∀ a, so a + S1x16.size a ≤ S256x128.size a)
    (d : Fin 2 → ℕ) (hd : ∀ a, d a + S1x16.size a ≤ S64x1024.size a) :
    Prog (TpuEff nD τ sig (Elt F) Λ₀ (.scVector c s)) PUnit := do
  let v : Vec F S1x16 .f32 ← Prog.lift (.load lV (Rect.unit (s := S256x128) so S1x16.size hso).toLoadRect (View.loadsAt_vmem Facts₀.h_S1x16))
  let _w : Vec F S1x16 .f32 ← Prog.lift (.load rV (Rect.unit (s := S64x1024) d S1x16.size hd).toLoadRect (View.loadsAt_vmem Facts₀.h_S1x16))
  Prog.lift (.store rV (Rect.unit (s := S64x1024) d S1x16.size hd) (k1_pay7 v) Finset.univ (View.stores_vmem_bits_univ Facts₀.h_S1x16 rfl) (.inl rfl))

/-- A row's eight pieces. -/
def row8 (so : Fin 8 → Fin 2 → ℕ) (hso : ∀ t a, so t a + S1x16.size a ≤ S256x128.size a)
    (d : Fin 8 → Fin 2 → ℕ) (hd : ∀ t a, d t a + S1x16.size a ≤ S64x1024.size a) :
    Prog (TpuEff nD τ sig (Elt F) Λ₀ (.scVector c s)) PUnit := do
  piece (so 0) (hso 0) (d 0) (hd 0)
  piece (so 1) (hso 1) (d 1) (hd 1)
  piece (so 2) (hso 2) (d 2) (hd 2)
  piece (so 3) (hso 3) (d 3) (hd 3)
  piece (so 4) (hso 4) (d 4) (hd 4)
  piece (so 5) (hso 5) (d 5) (hd 5)
  piece (so 6) (hso 6) (d 6) (hd 6)
  piece (so 7) (hso 7) (d 7) (hd 7)
  pure ⟨⟩

/-- Sixteen zeros go to `d` of the row buffer. -/
def zpiece (d : Fin 2 → ℕ) (hd : ∀ a, d a + S1x16.size a ≤ S64x1024.size a) :
    Prog (TpuEff nD τ sig (Elt F) Λ₀ (.scVector c s)) PUnit := do
  let _w : Vec F S1x16 .f32 ← Prog.lift (.load rV (Rect.unit (s := S64x1024) d S1x16.size hd).toLoadRect (View.loadsAt_vmem Facts₀.h_S1x16))
  Prog.lift (.store rV (Rect.unit (s := S64x1024) d S1x16.size hd) (k1_pay82 (F := F)) Finset.univ (View.stores_vmem_bits_univ Facts₀.h_S1x16 rfl) (.inl rfl))

/-- A row's eight pieces cleared. -/
def zrow8 (d : Fin 8 → Fin 2 → ℕ) (hd : ∀ t a, d t a + S1x16.size a ≤ S64x1024.size a) :
    Prog (TpuEff nD τ sig (Elt F) Λ₀ (.scVector c s)) PUnit := do
  zpiece (d 0) (hd 0)
  zpiece (d 1) (hd 1)
  zpiece (d 2) (hd 2)
  zpiece (d 3) (hd 3)
  zpiece (d 4) (hd 4)
  zpiece (d 5) (hd 5)
  zpiece (d 6) (hd 6)
  zpiece (d 7) (hd 7)
  pure ⟨⟩

/-! ## Their runs -/

variable (d : Dev nD)

omit [FloatOps F] [Named F] in
/-- One store of sixteen lanes widens the window placed so far by sixteen. -/
theorem write_win (src : ℕ → Elt F .f32) (f : S64x1024.Idx → Elt F .f32) (row w len : ℕ)
    (o : Fin 2 → ℕ) (ho : ∀ a, o a + S1x16.size a ≤ S64x1024.size a) (eo : o = ![row, w + len])
    (p : S1x16.Idx → Elt F .f32) (hp : ∀ x, p x = src (len + (x 1).val)) :
    ((rV).access (Rect.unit (s := S64x1024) o S1x16.size ho)).write (Elt F) (win src f row w len) p Finset.univ
      = win src f row w (len + 16) := by
  subst eo
  funext y
  by_cases h : y ∈ (Rect.unit (s := S64x1024) ![row, w + len] S1x16.size ho).set
  · obtain ⟨x, -, rfl⟩ := Finset.mem_map.mp (by rw [← Rect.map_emb_univ] at h; exact h)
    have h1 := (x 1).isLt
    have h0 := (x 0).isLt
    change (x 1).val < 16 at h1
    change (x 0).val < 1 at h0
    refine (View.write_emb_of_mem (v := (rV).access (Rect.unit (s := S64x1024) ![row, w + len] S1x16.size ho)) (Val := Elt F) _ p (Finset.mem_univ x)).trans ?_
    have e0 : ((Rect.unit (s := S64x1024) ![row, w + len] S1x16.size ho).emb x 0).val = row + 1 * (x 0).val := rfl
    have e1 : ((Rect.unit (s := S64x1024) ![row, w + len] S1x16.size ho).emb x 1).val = (w + len) + 1 * (x 1).val := rfl
    unfold win
    rw [if_pos ⟨by omega, by omega, by omega⟩, e1]
    refine (cast_eq _ _).trans ((hp x).trans ?_)
    congr 1; omega
  · refine (View.write_of_not_mem (v := (rV).access (Rect.unit (s := S64x1024) ![row, w + len] S1x16.size ho)) (Val := Elt F) _ p _ ?_).trans ?_
    · intro h'
      apply h
      have := h'
      rw [View.setOn_univ] at this
      exact (Finset.ext_iff.mp (View.set_slice_whole cc1_scratch1 (Rect.unit (s := S64x1024) ![row, w + len] S1x16.size ho)) y).mp this
    · unfold win
      have hn : ¬ ((y 0).val = row ∧ w + len ≤ (y 1).val ∧ (y 1).val < w + len + 16) := by
        intro hh
        apply h
        rw [Rect.mem_set_unit]
        intro a
        match a with
        | 0 => exact ⟨hh.1.ge, show (y 0).val < row + 1 by omega⟩
        | 1 => exact ⟨hh.2.1, hh.2.2⟩
      by_cases h1 : (y 0).val = row ∧ w ≤ (y 1).val ∧ (y 1).val < w + len
      · rw [if_pos h1, if_pos ⟨h1.1, h1.2.1, by omega⟩]
      · rw [if_neg h1, if_neg (by omega)]

abbrev thr (d : Dev nD) (c : Fin τ.nSC) (s : Fin τ.nSub) : Thread nD τ := V d c s

theorem pay7_apply (v : Vec F S1x16 .f32) (x : S1x16.Idx) : k1_pay7 (F := F) v x = v x := by
  unfold k1_pay7
  exact congrFun (shapeCast_shapeCast v _ _) x

/-- One piece: the window grows by sixteen entries. -/
theorem wp_piece (so : Fin 2 → ℕ) (hso : ∀ a, so a + S1x16.size a ≤ S256x128.size a)
    (o : Fin 2 → ℕ) (ho : ∀ a, o a + S1x16.size a ≤ S64x1024.size a) (S : Finset S64x1024.Idx)
    (srow row w len : ℕ) (es : so = ![srow, len]) (eo : o = ![row, w + len])
    (hS : ∀ y : S64x1024.Idx, (y 0).val = row → y ∈ S)
    (f5 : S256x128.Idx → Elt F .f32) (f : S64x1024.Idx → Elt F .f32) (q : PosShare TreeShare)
    {α : Type} (k : PUnit → Prog (TpuEff nD τ sig (Elt F) Λ₀ (.scVector c s)) α) (Q : α → sProp 𝕄) :
    iprop(((lV).view.loc (thr d c s) ↦{q} f5) ∗ ((rV).view.loc (thr d c s) ↦[S]{fullShare} win (fun j => f5 (at256 srow j)) f row w len)
      ∗ (((lV).view.loc (thr d c s) ↦{q} f5) -∗ ((rV).view.loc (thr d c s) ↦[S]{fullShare} win (fun j => f5 (at256 srow j)) f row w (len + 16))
          -∗ wp frame (wpE (defs₀ (F := F)) 𝒱₀ (thr d c s) none) Set.univ (k ⟨⟩) Q))
      ⊢ wp frame (wpE (defs₀ (F := F)) 𝒱₀ (thr d c s) none) Set.univ (piece so hso o ho >>= k) Q := by
  have hset : ((rV).access (Rect.unit (s := S64x1024) o S1x16.size ho)).set ⊆ S := by
    intro y hy
    have hy' := (Finset.ext_iff.mp (View.set_slice_whole cc1_scratch1 (Rect.unit (s := S64x1024) o S1x16.size ho)) y).mp hy
    rw [Rect.mem_set_unit] at hy'
    have h0 := hy' 0
    rw [eo] at h0
    apply hS
    have a1 : row ≤ (y 0).val := h0.1
    have a2 : (y 0).val < row + 1 := h0.2
    omega
  have e : (piece so hso o ho >>= k : Prog (TpuEff nD τ sig (Elt F) Λ₀ (.scVector c s)) α)
      = .op (.load lV (Rect.unit (s := S256x128) so S1x16.size hso).toLoadRect (View.loadsAt_vmem Facts₀.h_S1x16)) fun v =>
        .op (.load rV (Rect.unit (s := S64x1024) o S1x16.size ho).toLoadRect (View.loadsAt_vmem Facts₀.h_S1x16)) fun _ =>
        .op (.store rV (Rect.unit (s := S64x1024) o S1x16.size ho) (k1_pay7 v) Finset.univ (View.stores_vmem_bits_univ Facts₀.h_S1x16 rfl) (.inl rfl)) k := rfl
  rw [e]
  iintro ⟨H5, H6, Hk⟩
  iapply (wp_load_rect (defs := defs₀ (F := F)) 𝒱₀ (thr d c s) none Set.univ (m := lV) (r := Rect.unit (s := S256x128) so S1x16.size hso) (S := Finset.univ) (q := q) (f := f5) (Finset.subset_univ _)) $$ H5
  iintro H5
  iapply (wp_load_rect (defs := defs₀ (F := F)) 𝒱₀ (thr d c s) none Set.univ (m := rV) (r := Rect.unit (s := S64x1024) o S1x16.size ho) (S := S) (q := fullShare) (f := win (fun j => f5 (at256 srow j)) f row w len) hset) $$ H6
  iintro H6
  iapply (wp_store (defs := defs₀ (F := F)) 𝒱₀ (thr d c s) none Set.univ (m := rV) (r := Rect.unit (s := S64x1024) o S1x16.size ho) (S := S) (f := win (fun j => f5 (at256 srow j)) f row w len) hset) $$ H6
  iintro H6
  rw [write_win]
  · iapply Hk $$ H5 H6
  · exact eo
  · intro x
    rw [pay7_apply]
    refine (View.read_apply _ _).trans ((cast_eq _ _).trans ?_)
    show f5 _ = f5 _
    congr 1
    subst es
    have h1 : (x 1).val < 16 := (x 1).isLt
    have h0 : (x 0).val < 1 := (x 0).isLt
    have b0 : srow + 1 ≤ 256 := hso 0
    have b1 : len + 16 ≤ 128 := hso 1
    funext a
    apply Fin.ext
    match a with
    | 0 =>
      show srow + 1 * (x 0).val = srow % 256
      omega
    | 1 =>
      show len + 1 * (x 1).val = (len + (x 1).val) % 128
      omega

/-- The constant that clears. -/
def zf : Elt F .f32 := Scalar.ofBits .f32 0x00000000#32

theorem pay82_apply (x : S1x16.Idx) : k1_pay82 (F := F) x = (zf (F := F)) := rfl

/-- One cleared piece. -/
theorem wp_zpiece (o : Fin 2 → ℕ) (ho : ∀ a, o a + S1x16.size a ≤ S64x1024.size a) (S : Finset S64x1024.Idx)
    (row w len : ℕ) (eo : o = ![row, w + len])
    (hS : ∀ y : S64x1024.Idx, (y 0).val = row → y ∈ S)
    (f : S64x1024.Idx → Elt F .f32)
    {α : Type} (k : PUnit → Prog (TpuEff nD τ sig (Elt F) Λ₀ (.scVector c s)) α) (Q : α → sProp 𝕄) :
    iprop(((rV).view.loc (thr d c s) ↦[S]{fullShare} win (fun _ => (zf (F := F))) f row w len)
      ∗ (((rV).view.loc (thr d c s) ↦[S]{fullShare} win (fun _ => (zf (F := F))) f row w (len + 16))
          -∗ wp frame (wpE (defs₀ (F := F)) 𝒱₀ (thr d c s) none) Set.univ (k ⟨⟩) Q))
      ⊢ wp frame (wpE (defs₀ (F := F)) 𝒱₀ (thr d c s) none) Set.univ (zpiece o ho >>= k) Q := by
  have hset : ((rV).access (Rect.unit (s := S64x1024) o S1x16.size ho)).set ⊆ S := by
    intro y hy
    have hy' := (Finset.ext_iff.mp (View.set_slice_whole cc1_scratch1 (Rect.unit (s := S64x1024) o S1x16.size ho)) y).mp hy
    rw [Rect.mem_set_unit] at hy'
    have h0 := hy' 0
    rw [eo] at h0
    apply hS
    have a1 : row ≤ (y 0).val := h0.1
    have a2 : (y 0).val < row + 1 := h0.2
    omega
  have e : (zpiece o ho >>= k : Prog (TpuEff nD τ sig (Elt F) Λ₀ (.scVector c s)) α)
      = .op (.load rV (Rect.unit (s := S64x1024) o S1x16.size ho).toLoadRect (View.loadsAt_vmem Facts₀.h_S1x16)) fun _ =>
        .op (.store rV (Rect.unit (s := S64x1024) o S1x16.size ho) (k1_pay82 (F := F)) Finset.univ (View.stores_vmem_bits_univ Facts₀.h_S1x16 rfl) (.inl rfl)) k := rfl
  rw [e]
  iintro ⟨H6, Hk⟩
  iapply (wp_load_rect (defs := defs₀ (F := F)) 𝒱₀ (thr d c s) none Set.univ (m := rV) (r := Rect.unit (s := S64x1024) o S1x16.size ho) (S := S) (q := fullShare)
    (f := win (fun _ => (zf (F := F))) f row w len) hset) $$ H6
  iintro H6
  iapply (wp_store (defs := defs₀ (F := F)) 𝒱₀ (thr d c s) none Set.univ (m := rV) (r := Rect.unit (s := S64x1024) o S1x16.size ho) (S := S)
    (f := win (fun _ => (zf (F := F))) f row w len) hset) $$ H6
  iintro H6
  rw [write_win]
  · iapply Hk $$ H6
  · exact eo
  · intro x
    rfl

/-- A row: its window of 128 entries placed. -/
theorem wp_row8 (so : Fin 8 → Fin 2 → ℕ) (hso : ∀ t a, so t a + S1x16.size a ≤ S256x128.size a)
    (o : Fin 8 → Fin 2 → ℕ) (ho : ∀ t a, o t a + S1x16.size a ≤ S64x1024.size a) (S : Finset S64x1024.Idx)
    (srow row w : ℕ) (es : ∀ t, so t = ![srow, 16 * t.val]) (eo : ∀ t, o t = ![row, w + 16 * t.val])
    (hS : ∀ y : S64x1024.Idx, (y 0).val = row → y ∈ S)
    (f5 : S256x128.Idx → Elt F .f32) (f : S64x1024.Idx → Elt F .f32) (q : PosShare TreeShare) (Q : PUnit → sProp 𝕄) :
    iprop(((lV).view.loc (thr d c s) ↦{q} f5) ∗ ((rV).view.loc (thr d c s) ↦[S]{fullShare} f)
      ∗ (((lV).view.loc (thr d c s) ↦{q} f5) -∗ ((rV).view.loc (thr d c s) ↦[S]{fullShare} win (fun j => f5 (at256 srow j)) f row w 128)
          -∗ Q ⟨⟩))
      ⊢ wp frame (wpE (defs₀ (F := F)) 𝒱₀ (thr d c s) none) Set.univ (row8 so hso o ho) Q := by
  unfold row8
  rw [show ((rV).view.loc (thr d c s) ↦[S]{fullShare} f : sProp 𝕄)
    = ((rV).view.loc (thr d c s) ↦[S]{fullShare} win (fun j => f5 (at256 srow j)) f row w 0) from by rw [win_zero]]
  iintro ⟨H5, H6, Hk⟩
  iapply (wp_piece d (so 0) (hso 0) (o 0) (ho 0) S srow row w 0 (es 0) (eo 0) hS f5 f q)
  isplitl [H5]; · iexact H5
  isplitl [H6]; · iexact H6
  iintro H5 H6
  iapply (wp_piece d (so 1) (hso 1) (o 1) (ho 1) S srow row w 16 (es 1) (eo 1) hS f5 f q)
  isplitl [H5]; · iexact H5
  isplitl [H6]; · iexact H6
  iintro H5 H6
  iapply (wp_piece d (so 2) (hso 2) (o 2) (ho 2) S srow row w 32 (es 2) (eo 2) hS f5 f q)
  isplitl [H5]; · iexact H5
  isplitl [H6]; · iexact H6
  iintro H5 H6
  iapply (wp_piece d (so 3) (hso 3) (o 3) (ho 3) S srow row w 48 (es 3) (eo 3) hS f5 f q)
  isplitl [H5]; · iexact H5
  isplitl [H6]; · iexact H6
  iintro H5 H6
  iapply (wp_piece d (so 4) (hso 4) (o 4) (ho 4) S srow row w 64 (es 4) (eo 4) hS f5 f q)
  isplitl [H5]; · iexact H5
  isplitl [H6]; · iexact H6
  iintro H5 H6
  iapply (wp_piece d (so 5) (hso 5) (o 5) (ho 5) S srow row w 80 (es 5) (eo 5) hS f5 f q)
  isplitl [H5]; · iexact H5
  isplitl [H6]; · iexact H6
  iintro H5 H6
  iapply (wp_piece d (so 6) (hso 6) (o 6) (ho 6) S srow row w 96 (es 6) (eo 6) hS f5 f q)
  isplitl [H5]; · iexact H5
  isplitl [H6]; · iexact H6
  iintro H5 H6
  iapply (wp_piece d (so 7) (hso 7) (o 7) (ho 7) S srow row w 112 (es 7) (eo 7) hS f5 f q)
  isplitl [H5]; · iexact H5
  isplitl [H6]; · iexact H6
  iintro H5 H6
  rw [show (pure PUnit.unit : Prog (TpuEff nD τ sig (Elt F) Λ₀ (.scVector c s)) PUnit) = .ret ⟨⟩ from rfl, wp_ret]
  imodintro
  iapply Hk $$ H5 H6

/-- A row: its window cleared. -/
theorem wp_zrow8 (o : Fin 8 → Fin 2 → ℕ) (ho : ∀ t a, o t a + S1x16.size a ≤ S64x1024.size a) (S : Finset S64x1024.Idx)
    (row w : ℕ) (eo : ∀ t, o t = ![row, w + 16 * t.val])
    (hS : ∀ y : S64x1024.Idx, (y 0).val = row → y ∈ S)
    (f : S64x1024.Idx → Elt F .f32) (Q : PUnit → sProp 𝕄) :
    iprop(((rV).view.loc (thr d c s) ↦[S]{fullShare} f)
      ∗ (((rV).view.loc (thr d c s) ↦[S]{fullShare} win (fun _ => (zf (F := F))) f row w 128)
          -∗ Q ⟨⟩))
      ⊢ wp frame (wpE (defs₀ (F := F)) 𝒱₀ (thr d c s) none) Set.univ (zrow8 o ho) Q := by
  unfold zrow8
  rw [show ((rV).view.loc (thr d c s) ↦[S]{fullShare} f : sProp 𝕄)
    = ((rV).view.loc (thr d c s) ↦[S]{fullShare} win (fun _ => (zf (F := F))) f row w 0) from by rw [win_zero]]
  iintro ⟨H6, Hk⟩
  iapply (wp_zpiece d (o 0) (ho 0) S row w 0 (eo 0) hS f)
  isplitl [H6]; · iexact H6
  iintro H6
  iapply (wp_zpiece d (o 1) (ho 1) S row w 16 (eo 1) hS f)
  isplitl [H6]; · iexact H6
  iintro H6
  iapply (wp_zpiece d (o 2) (ho 2) S row w 32 (eo 2) hS f)
  isplitl [H6]; · iexact H6
  iintro H6
  iapply (wp_zpiece d (o 3) (ho 3) S row w 48 (eo 3) hS f)
  isplitl [H6]; · iexact H6
  iintro H6
  iapply (wp_zpiece d (o 4) (ho 4) S row w 64 (eo 4) hS f)
  isplitl [H6]; · iexact H6
  iintro H6
  iapply (wp_zpiece d (o 5) (ho 5) S row w 80 (eo 5) hS f)
  isplitl [H6]; · iexact H6
  iintro H6
  iapply (wp_zpiece d (o 6) (ho 6) S row w 96 (eo 6) hS f)
  isplitl [H6]; · iexact H6
  iintro H6
  iapply (wp_zpiece d (o 7) (ho 7) S row w 112 (eo 7) hS f)
  isplitl [H6]; · iexact H6
  iintro H6
  rw [show (pure PUnit.unit : Prog (TpuEff nD τ sig (Elt F) Λ₀ (.scVector c s)) PUnit) = .ret ⟨⟩ from rfl, wp_ret]
  imodintro
  iapply Hk $$ H6

/-! ## The loops over a half's rows -/

/-- The loop that places the windows of a half's 32 rows. -/
theorem wp_build (L : Scf.Loop 32) (hok : L.OK) (ht : L.trips = 32)
    (body : Fin L.trips → Unit → Prog (TpuEff nD τ sig (Elt F) Λ₀ (.scVector c s)) Unit)
    (so : Fin L.trips → Fin 8 → Fin 2 → ℕ) (hso : ∀ k t a, so k t a + S1x16.size a ≤ S256x128.size a)
    (o : Fin L.trips → Fin 8 → Fin 2 → ℕ) (ho : ∀ k t a, o k t a + S1x16.size a ≤ S64x1024.size a)
    (hb : ∀ k u, body k u = row8 (so k) (hso k) (o k) (ho k))
    (S : Finset S64x1024.Idx) (sb rb : ℕ) (w : ℕ → ℕ)
    (es : ∀ k t, so k t = ![sb + k.val, 16 * t.val]) (eo : ∀ k t, o k t = ![rb + k.val, w k.val + 16 * t.val])
    (hS : ∀ y : S64x1024.Idx, rb ≤ (y 0).val → (y 0).val < rb + 32 → y ∈ S)
    (f5 : S256x128.Idx → Elt F .f32) (f : S64x1024.Idx → Elt F .f32) (q : PosShare TreeShare)
    {α : Type} (kk : Unit → Prog (TpuEff nD τ sig (Elt F) Λ₀ (.scVector c s)) α) (Q : α → sProp 𝕄) :
    iprop(((lV).view.loc (thr d c s) ↦{q} f5) ∗ ((rV).view.loc (thr d c s) ↦[S]{fullShare} f)
      ∗ (((lV).view.loc (thr d c s) ↦{q} f5) -∗ ((rV).view.loc (thr d c s) ↦[S]{fullShare} blk (fun r j => f5 (at256 (sb + r) j)) w f rb 32)
          -∗ wp frame (wpE (defs₀ (F := F)) 𝒱₀ (thr d c s) none) Set.univ (kk ⟨⟩) Q))
      ⊢ wp frame (wpE (defs₀ (F := F)) 𝒱₀ (thr d c s) none) Set.univ (Scf.Loop.for L hok ⟨⟩ body >>= kk) Q := by
  have hstep : ∀ (k : Fin (Scf.trips L.lb L.ub L.st)) (u : Unit),
      iprop(((lV).view.loc (thr d c s) ↦{q} f5) ∗ ((rV).view.loc (thr d c s) ↦[S]{fullShare} blk (fun r j => f5 (at256 (sb + r) j)) w f rb k.val) : sProp 𝕄)
      ⊢ wp frame (wpE (defs₀ (F := F)) 𝒱₀ (thr d c s) none) Set.univ (body k u) fun _ => iprop(((lV).view.loc (thr d c s) ↦{q} f5) ∗ ((rV).view.loc (thr d c s) ↦[S]{fullShare} blk (fun r j => f5 (at256 (sb + r) j)) w f rb (k.val + 1))) := by
    intro k u
    rw [hb]
    iintro ⟨H5, H6⟩
    iapply (wp_row8 d (so k) (hso k) (o k) (ho k) S (sb + k.val) (rb + k.val) (w k.val) (es k) (eo k)
      (fun y hy => hS y (by omega) (by have := lt_of_lt_of_eq k.isLt ht; omega)) f5 _ q)
    isplitl [H5]; · iexact H5
    isplitl [H6]; · iexact H6
    iintro H5 H6
    rw [← win_blk]
    isplitl [H5]; · iexact H5
    iexact H6
  iintro ⟨H5, H6, Hk⟩
  iapply (Scf.wp_for_bind _ _ _ L.lb L.ub L.st hok () body
    (fun k _ => iprop(((lV).view.loc (thr d c s) ↦{q} f5) ∗ ((rV).view.loc (thr d c s) ↦[S]{fullShare} blk (fun r j => f5 (at256 (sb + r) j)) w f rb k)))
    hstep) $$ [H5 H6]
  · rw [blk_zero]
    isplitl [H5]; · iexact H5
    iexact H6
  · iintro %u ⟨H5, H6⟩
    rw [show Scf.trips L.lb L.ub L.st = 32 from ht]
    iapply Hk $$ H5 H6

/-- The loop that clears them. -/
theorem wp_clear (L : Scf.Loop 32) (hok : L.OK) (ht : L.trips = 32)
    (body : Fin L.trips → Unit → Prog (TpuEff nD τ sig (Elt F) Λ₀ (.scVector c s)) Unit)
    (o : Fin L.trips → Fin 8 → Fin 2 → ℕ) (ho : ∀ k t a, o k t a + S1x16.size a ≤ S64x1024.size a)
    (hb : ∀ k u, body k u = zrow8 (o k) (ho k))
    (S : Finset S64x1024.Idx) (rb : ℕ) (w : ℕ → ℕ)
    (eo : ∀ k t, o k t = ![rb + k.val, w k.val + 16 * t.val])
    (hS : ∀ y : S64x1024.Idx, rb ≤ (y 0).val → (y 0).val < rb + 32 → y ∈ S)
    (f : S64x1024.Idx → Elt F .f32)
    {α : Type} (kk : Unit → Prog (TpuEff nD τ sig (Elt F) Λ₀ (.scVector c s)) α) (Q : α → sProp 𝕄) :
    iprop(((rV).view.loc (thr d c s) ↦[S]{fullShare} f)
      ∗ (((rV).view.loc (thr d c s) ↦[S]{fullShare} blk (fun _ _ => (zf (F := F))) w f rb 32)
          -∗ wp frame (wpE (defs₀ (F := F)) 𝒱₀ (thr d c s) none) Set.univ (kk ⟨⟩) Q))
      ⊢ wp frame (wpE (defs₀ (F := F)) 𝒱₀ (thr d c s) none) Set.univ (Scf.Loop.for L hok ⟨⟩ body >>= kk) Q := by
  have hstep : ∀ (k : Fin (Scf.trips L.lb L.ub L.st)) (u : Unit),
      ((rV).view.loc (thr d c s) ↦[S]{fullShare} blk (fun _ _ => (zf (F := F))) w f rb k.val : sProp 𝕄)
      ⊢ wp frame (wpE (defs₀ (F := F)) 𝒱₀ (thr d c s) none) Set.univ (body k u) fun _ => ((rV).view.loc (thr d c s) ↦[S]{fullShare} blk (fun _ _ => (zf (F := F))) w f rb (k.val + 1)) := by
    intro k u
    rw [hb]
    iintro H6
    iapply (wp_zrow8 d (o k) (ho k) S (rb + k.val) (w k.val) (eo k)
      (fun y hy => hS y (by omega) (by have := lt_of_lt_of_eq k.isLt ht; omega)) _)
    isplitl [H6]; · iexact H6
    iintro H6
    rw [← win_blk]
    iexact H6
  iintro ⟨H6, Hk⟩
  iapply (Scf.wp_for_bind _ _ _ L.lb L.ub L.st hok () body
    (fun k _ => ((rV).view.loc (thr d c s) ↦[S]{fullShare} blk (fun _ _ => (zf (F := F))) w f rb k))
    hstep) $$ [H6]
  · rw [blk_zero]
    iexact H6
  · iintro %u H6
    rw [show Scf.trips L.lb L.ub L.st = 32 from ht]
    iapply Hk $$ H6

end Cert.Proof.KI

end
-- ==== Proof.TileLoops.lean ====
/- The vector subcore's fourteen loops: each is the generic loop over a half's rows, at the offsets
   the program computes. -/
module

public import proofs.«01_k».proof.Proof.TileRow

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The thread of the vector subcore at grid point `i`. -/
abbrev VT (d : Dev nD) (i : grid1.Coords) : Thread nD τ := thr d ((i 0).castLE hcore1) ((i 1).castLE hsub1)

/-- The first column of the window that row `m` (of a batch's 1024) stores. -/
def wbN (m : ℕ) : ℕ := min ((m - 33) / 16 * 16) 896

/-- The first row, within its batch, of the 256 rows of the subcore at grid point `i`. -/
def m0 (i : grid1.Coords) : ℕ := ((i 1).val * 2 + (i 0).val) * 256 % 1024

/-- `f` with the windows of the 32 rows from `sb` on placed at the rows from `rb` on. -/
abbrev placed {α : Type} (i : grid1.Coords) (f5 : S256x128.Idx → α) (f : S64x1024.Idx → α) (sb rb : ℕ) : S64x1024.Idx → α :=
  blk (fun r j => f5 (at256 (sb + r) j)) (fun k => wbN (m0 i + sb + k)) f rb 32

variable (d : Dev nD)

/-! ### Loop 1: places the windows of chunk 0 -/

theorem off3_eq : ∀ (i : grid1.Coords) (k : Fin k1_t1_loop.trips) (t : Fin 8),
    k1_off3 i k (BitVec.ofNat 32 (16 * t.val)) = ![0 + k.val, wbN (m0 i + 0 + k.val) + 16 * t.val] := by decide +kernel

theorem so1_inb : ∀ (k : Fin k1_t1_loop.trips) (t : Fin 8) a, (![k1_off2 k, k1_off4 k, k1_off5 k, k1_off6 k, k1_off7 k, k1_off8 k, k1_off9 k, k1_off10 k] : Fin 8 → Fin 2 → ℕ) t a + S1x16.size a ≤ S256x128.size a := by
  intro k t; fin_cases t
  exacts [k1_off2_inb k, k1_off4_inb k, k1_off5_inb k, k1_off6_inb k, k1_off7_inb k, k1_off8_inb k, k1_off9_inb k, k1_off10_inb k]

theorem so1_eq : ∀ (k : Fin k1_t1_loop.trips) (t : Fin 8), (![k1_off2 k, k1_off4 k, k1_off5 k, k1_off6 k, k1_off7 k, k1_off8 k, k1_off9 k, k1_off10 k] : Fin 8 → Fin 2 → ℕ) t = ![0 + k.val, 16 * t.val] := by decide +kernel

set_option maxRecDepth 65536 in
theorem t1_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (k : Fin k1_t1_loop.trips) (u : Unit) :
    k1_t1_body (F := F) i a2 h2 a3 h3 a4 h4 lV h5 rV h6 a7 a8 r0 r1 r2 v2 v12 k u
      = row8 ![k1_off2 k, k1_off4 k, k1_off5 k, k1_off6 k, k1_off7 k, k1_off8 k, k1_off9 k, k1_off10 k] (so1_inb k)
        (fun t => k1_off3 i k (BitVec.ofNat 32 (16 * t.val))) (fun t => k1_off3_inb i k t) := rfl

theorem wp_t1 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)
    (S : Finset S64x1024.Idx) (hS : ∀ y : S64x1024.Idx, 0 ≤ (y 0).val → (y 0).val < 0 + 32 → y ∈ S)
    (f5 : S256x128.Idx → Elt F .f32) (f : S64x1024.Idx → Elt F .f32) (q : PosShare TreeShare)
    {α : Type} (kk : Unit → Prog (TpuEff nD τ sig (Elt F) Λ₀ (.scVector ((i 0).castLE hcore1) ((i 1).castLE hsub1))) α) (Q : α → sProp 𝕄) :
    iprop(((lV).view.loc (VT d i) ↦{q} f5) ∗ ((rV).view.loc (VT d i) ↦[S]{fullShare} f)
      ∗ (((lV).view.loc (VT d i) ↦{q} f5) -∗ ((rV).view.loc (VT d i) ↦[S]{fullShare} placed i f5 f 0 0) -∗ wp frame (wpE (defs₀ (F := F)) 𝒱₀ (VT d i) none) Set.univ (kk ⟨⟩) Q))
      ⊢ wp frame (wpE (defs₀ (F := F)) 𝒱₀ (VT d i) none) Set.univ (Scf.Loop.for k1_t1_loop k1_t1_ok ⟨⟩ (k1_t1_body (F := F) i a2 h2 a3 h3 a4 h4 lV h5 rV h6 a7 a8 r0 r1 r2 v2 v12) >>= kk) Q :=
  wp_build d k1_t1_loop k1_t1_ok (by decide) _ _ so1_inb _ (fun k => k1_off3_inb i k)
    (fun k u => t1_eq i a2 h2 a3 h3 a4 h4 h5 h6 a7 a8 r0 r1 r2 v2 v12 k u) S 0 0 (fun k => wbN (m0 i + 0 + k)) so1_eq (off3_eq i) hS f5 f q kk Q

/-! ### Loop 2: places the windows of chunk 1 -/

theorem off13_eq : ∀ (i : grid1.Coords) (k : Fin k1_t2_loop.trips) (t : Fin 8),
    k1_off13 i k (BitVec.ofNat 32 (16 * t.val)) = ![32 + k.val, wbN (m0 i + 32 + k.val) + 16 * t.val] := by decide +kernel

theorem so2_inb : ∀ (k : Fin k1_t2_loop.trips) (t : Fin 8) a, (![k1_off12 k, k1_off14 k, k1_off15 k, k1_off16 k, k1_off17 k, k1_off18 k, k1_off19 k, k1_off20 k] : Fin 8 → Fin 2 → ℕ) t a + S1x16.size a ≤ S256x128.size a := by
  intro k t; fin_cases t
  exacts [k1_off12_inb k, k1_off14_inb k, k1_off15_inb k, k1_off16_inb k, k1_off17_inb k, k1_off18_inb k, k1_off19_inb k, k1_off20_inb k]

theorem so2_eq : ∀ (k : Fin k1_t2_loop.trips) (t : Fin 8), (![k1_off12 k, k1_off14 k, k1_off15 k, k1_off16 k, k1_off17 k, k1_off18 k, k1_off19 k, k1_off20 k] : Fin 8 → Fin 2 → ℕ) t = ![32 + k.val, 16 * t.val] := by decide +kernel

set_option maxRecDepth 65536 in
theorem t2_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (k : Fin k1_t2_loop.trips) (u : Unit) :
    k1_t2_body (F := F) i a2 h2 a3 h3 a4 h4 lV h5 rV h6 a7 a8 r0 r1 r2 v2 v12 k u
      = row8 ![k1_off12 k, k1_off14 k, k1_off15 k, k1_off16 k, k1_off17 k, k1_off18 k, k1_off19 k, k1_off20 k] (so2_inb k)
        (fun t => k1_off13 i k (BitVec.ofNat 32 (16 * t.val))) (fun t => k1_off13_inb i k t) := rfl

theorem wp_t2 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)
    (S : Finset S64x1024.Idx) (hS : ∀ y : S64x1024.Idx, 32 ≤ (y 0).val → (y 0).val < 32 + 32 → y ∈ S)
    (f5 : S256x128.Idx → Elt F .f32) (f : S64x1024.Idx → Elt F .f32) (q : PosShare TreeShare)
    {α : Type} (kk : Unit → Prog (TpuEff nD τ sig (Elt F) Λ₀ (.scVector ((i 0).castLE hcore1) ((i 1).castLE hsub1))) α) (Q : α → sProp 𝕄) :
    iprop(((lV).view.loc (VT d i) ↦{q} f5) ∗ ((rV).view.loc (VT d i) ↦[S]{fullShare} f)
      ∗ (((lV).view.loc (VT d i) ↦{q} f5) -∗ ((rV).view.loc (VT d i) ↦[S]{fullShare} placed i f5 f 32 32) -∗ wp frame (wpE (defs₀ (F := F)) 𝒱₀ (VT d i) none) Set.univ (kk ⟨⟩) Q))
      ⊢ wp frame (wpE (defs₀ (F := F)) 𝒱₀ (VT d i) none) Set.univ (Scf.Loop.for k1_t2_loop k1_t2_ok ⟨⟩ (k1_t2_body (F := F) i a2 h2 a3 h3 a4 h4 lV h5 rV h6 a7 a8 r0 r1 r2 v2 v12) >>= kk) Q :=
  wp_build d k1_t2_loop k1_t2_ok (by decide) _ _ so2_inb _ (fun k => k1_off13_inb i k)
    (fun k u => t2_eq i a2 h2 a3 h3 a4 h4 h5 h6 a7 a8 r0 r1 r2 v2 v12 k u) S 32 32 (fun k => wbN (m0 i + 32 + k)) so2_eq (off13_eq i) hS f5 f q kk Q

/-! ### Loop 3: clears the windows of chunk 0 -/

theorem off21_eq (i : grid1.Coords) (k : Fin k1_t3_loop.trips) (t : Fin 8) :
    k1_off21 i k (BitVec.ofNat 32 (16 * t.val)) = ![0 + k.val, wbN (m0 i + 0 + k.val) + 16 * t.val] := off3_eq i k t

set_option maxRecDepth 65536 in
theorem t3_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (k : Fin k1_t3_loop.trips) (u : Unit) :
    k1_t3_body (F := F) i a2 h2 a3 h3 a4 h4 lV h5 rV h6 a7 a8 r0 r1 r2 v2 v12 k u
      = zrow8 (fun t => k1_off21 i k (BitVec.ofNat 32 (16 * t.val))) (fun t => k1_off21_inb i k t) := rfl

theorem wp_t3 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)
    (S : Finset S64x1024.Idx) (hS : ∀ y : S64x1024.Idx, 0 ≤ (y 0).val → (y 0).val < 0 + 32 → y ∈ S)
    (f : S64x1024.Idx → Elt F .f32)
    {α : Type} (kk : Unit → Prog (TpuEff nD τ sig (Elt F) Λ₀ (.scVector ((i 0).castLE hcore1) ((i 1).castLE hsub1))) α) (Q : α → sProp 𝕄) :
    iprop(((rV).view.loc (VT d i) ↦[S]{fullShare} f)
      ∗ (((rV).view.loc (VT d i) ↦[S]{fullShare} blk (fun _ _ => zf (F := F)) (fun k => wbN (m0 i + 0 + k)) f 0 32) -∗ wp frame (wpE (defs₀ (F := F)) 𝒱₀ (VT d i) none) Set.univ (kk ⟨⟩) Q))
      ⊢ wp frame (wpE (defs₀ (F := F)) 𝒱₀ (VT d i) none) Set.univ (Scf.Loop.for k1_t3_loop k1_t3_ok ⟨⟩ (k1_t3_body (F := F) i a2 h2 a3 h3 a4 h4 lV h5 rV h6 a7 a8 r0 r1 r2 v2 v12) >>= kk) Q :=
  wp_clear d k1_t3_loop k1_t3_ok (by decide) _ _ (fun k => k1_off21_inb i k)
    (fun k u => t3_eq i a2 h2 a3 h3 a4 h4 h5 h6 a7 a8 r0 r1 r2 v2 v12 k u) S 0 (fun k => wbN (m0 i + 0 + k)) (off21_eq i) hS f kk Q

/-! ### Loop 4: places the windows of chunk 2 -/

theorem off23_eq : ∀ (i : grid1.Coords) (k : Fin k1_t4_loop.trips) (t : Fin 8),
    k1_off23 i k (BitVec.ofNat 32 (16 * t.val)) = ![0 + k.val, wbN (m0 i + 64 + k.val) + 16 * t.val] := by decide +kernel

theorem so4_inb : ∀ (k : Fin k1_t4_loop.trips) (t : Fin 8) a, (![k1_off22 k, k1_off24 k, k1_off25 k, k1_off26 k, k1_off27 k, k1_off28 k, k1_off29 k, k1_off30 k] : Fin 8 → Fin 2 → ℕ) t a + S1x16.size a ≤ S256x128.size a := by
  intro k t; fin_cases t
  exacts [k1_off22_inb k, k1_off24_inb k, k1_off25_inb k, k1_off26_inb k, k1_off27_inb k, k1_off28_inb k, k1_off29_inb k, k1_off30_inb k]

theorem so4_eq : ∀ (k : Fin k1_t4_loop.trips) (t : Fin 8), (![k1_off22 k, k1_off24 k, k1_off25 k, k1_off26 k, k1_off27 k, k1_off28 k, k1_off29 k, k1_off30 k] : Fin 8 → Fin 2 → ℕ) t = ![64 + k.val, 16 * t.val] := by decide +kernel

set_option maxRecDepth 65536 in
theorem t4_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32) (k : Fin k1_t4_loop.trips) (u : Unit) :
    k1_t4_body (F := F) i a2 h2 a3 h3 a4 h4 lV h5 rV h6 a7 a8 r0 r1 r2 v2 v12 v13 k u
      = row8 ![k1_off22 k, k1_off24 k, k1_off25 k, k1_off26 k, k1_off27 k, k1_off28 k, k1_off29 k, k1_off30 k] (so4_inb k)
        (fun t => k1_off23 i k (BitVec.ofNat 32 (16 * t.val))) (fun t => k1_off23_inb i k t) := rfl

theorem wp_t4 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32)
    (S : Finset S64x1024.Idx) (hS : ∀ y : S64x1024.Idx, 0 ≤ (y 0).val → (y 0).val < 0 + 32 → y ∈ S)
    (f5 : S256x128.Idx → Elt F .f32) (f : S64x1024.Idx → Elt F .f32) (q : PosShare TreeShare)
    {α : Type} (kk : Unit → Prog (TpuEff nD τ sig (Elt F) Λ₀ (.scVector ((i 0).castLE hcore1) ((i 1).castLE hsub1))) α) (Q : α → sProp 𝕄) :
    iprop(((lV).view.loc (VT d i) ↦{q} f5) ∗ ((rV).view.loc (VT d i) ↦[S]{fullShare} f)
      ∗ (((lV).view.loc (VT d i) ↦{q} f5) -∗ ((rV).view.loc (VT d i) ↦[S]{fullShare} placed i f5 f 64 0) -∗ wp frame (wpE (defs₀ (F := F)) 𝒱₀ (VT d i) none) Set.univ (kk ⟨⟩) Q))
      ⊢ wp frame (wpE (defs₀ (F := F)) 𝒱₀ (VT d i) none) Set.univ (Scf.Loop.for k1_t4_loop k1_t4_ok ⟨⟩ (k1_t4_body (F := F) i a2 h2 a3 h3 a4 h4 lV h5 rV h6 a7 a8 r0 r1 r2 v2 v12 v13) >>= kk) Q :=
  wp_build d k1_t4_loop k1_t4_ok (by decide) _ _ so4_inb _ (fun k => k1_off23_inb i k)
    (fun k u => t4_eq i a2 h2 a3 h3 a4 h4 h5 h6 a7 a8 r0 r1 r2 v2 v12 v13 k u) S 64 0 (fun k => wbN (m0 i + 64 + k)) so4_eq (off23_eq i) hS f5 f q kk Q

/-! ### Loop 5: clears the windows of chunk 1 -/

theorem off31_eq (i : grid1.Coords) (k : Fin k1_t5_loop.trips) (t : Fin 8) :
    k1_off31 i k (BitVec.ofNat 32 (16 * t.val)) = ![32 + k.val, wbN (m0 i + 32 + k.val) + 16 * t.val] := off13_eq i k t

set_option maxRecDepth 65536 in
theorem t5_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)  (k : Fin k1_t5_loop.trips) (u : Unit) :
    k1_t5_body (F := F) i a2 h2 a3 h3 a4 h4 lV h5 rV h6 a7 a8 r0 r1 r2 v2 v12 k1_pay77 k u
      = zrow8 (fun t => k1_off31 i k (BitVec.ofNat 32 (16 * t.val))) (fun t => k1_off31_inb i k t) := rfl

theorem wp_t5 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)
    (S : Finset S64x1024.Idx) (hS : ∀ y : S64x1024.Idx, 32 ≤ (y 0).val → (y 0).val < 32 + 32 → y ∈ S)
    (f : S64x1024.Idx → Elt F .f32)
    {α : Type} (kk : Unit → Prog (TpuEff nD τ sig (Elt F) Λ₀ (.scVector ((i 0).castLE hcore1) ((i 1).castLE hsub1))) α) (Q : α → sProp 𝕄) :
    iprop(((rV).view.loc (VT d i) ↦[S]{fullShare} f)
      ∗ (((rV).view.loc (VT d i) ↦[S]{fullShare} blk (fun _ _ => zf (F := F)) (fun k => wbN (m0 i + 32 + k)) f 32 32) -∗ wp frame (wpE (defs₀ (F := F)) 𝒱₀ (VT d i) none) Set.univ (kk ⟨⟩) Q))
      ⊢ wp frame (wpE (defs₀ (F := F)) 𝒱₀ (VT d i) none) Set.univ (Scf.Loop.for k1_t5_loop k1_t5_ok ⟨⟩ (k1_t5_body (F := F) i a2 h2 a3 h3 a4 h4 lV h5 rV h6 a7 a8 r0 r1 r2 v2 v12 k1_pay77) >>= kk) Q :=
  wp_clear d k1_t5_loop k1_t5_ok (by decide) _ _ (fun k => k1_off31_inb i k)
    (fun k u => t5_eq i a2 h2 a3 h3 a4 h4 h5 h6 a7 a8 r0 r1 r2 v2 v12 k u) S 32 (fun k => wbN (m0 i + 32 + k)) (off31_eq i) hS f kk Q

/-! ### Loop 6: places the windows of chunk 3 -/

theorem off33_eq : ∀ (i : grid1.Coords) (k : Fin k1_t6_loop.trips) (t : Fin 8),
    k1_off33 i k (BitVec.ofNat 32 (16 * t.val)) = ![32 + k.val, wbN (m0 i + 96 + k.val) + 16 * t.val] := by decide +kernel

theorem so6_inb : ∀ (k : Fin k1_t6_loop.trips) (t : Fin 8) a, (![k1_off32 k, k1_off34 k, k1_off35 k, k1_off36 k, k1_off37 k, k1_off38 k, k1_off39 k, k1_off40 k] : Fin 8 → Fin 2 → ℕ) t a + S1x16.size a ≤ S256x128.size a := by
  intro k t; fin_cases t
  exacts [k1_off32_inb k, k1_off34_inb k, k1_off35_inb k, k1_off36_inb k, k1_off37_inb k, k1_off38_inb k, k1_off39_inb k, k1_off40_inb k]

theorem so6_eq : ∀ (k : Fin k1_t6_loop.trips) (t : Fin 8), (![k1_off32 k, k1_off34 k, k1_off35 k, k1_off36 k, k1_off37 k, k1_off38 k, k1_off39 k, k1_off40 k] : Fin 8 → Fin 2 → ℕ) t = ![96 + k.val, 16 * t.val] := by decide +kernel

set_option maxRecDepth 65536 in
theorem t6_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32) (k : Fin k1_t6_loop.trips) (u : Unit) :
    k1_t6_body (F := F) i a2 h2 a3 h3 a4 h4 lV h5 rV h6 a7 a8 r0 r1 r2 v2 v12 v13 k u
      = row8 ![k1_off32 k, k1_off34 k, k1_off35 k, k1_off36 k, k1_off37 k, k1_off38 k, k1_off39 k, k1_off40 k] (so6_inb k)
        (fun t => k1_off33 i k (BitVec.ofNat 32 (16 * t.val))) (fun t => k1_off33_inb i k t) := rfl

theorem wp_t6 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32)
    (S : Finset S64x1024.Idx) (hS : ∀ y : S64x1024.Idx, 32 ≤ (y 0).val → (y 0).val < 32 + 32 → y ∈ S)
    (f5 : S256x128.Idx → Elt F .f32) (f : S64x1024.Idx → Elt F .f32) (q : PosShare TreeShare)
    {α : Type} (kk : Unit → Prog (TpuEff nD τ sig (Elt F) Λ₀ (.scVector ((i 0).castLE hcore1) ((i 1).castLE hsub1))) α) (Q : α → sProp 𝕄) :
    iprop(((lV).view.loc (VT d i) ↦{q} f5) ∗ ((rV).view.loc (VT d i) ↦[S]{fullShare} f)
      ∗ (((lV).view.loc (VT d i) ↦{q} f5) -∗ ((rV).view.loc (VT d i) ↦[S]{fullShare} placed i f5 f 96 32) -∗ wp frame (wpE (defs₀ (F := F)) 𝒱₀ (VT d i) none) Set.univ (kk ⟨⟩) Q))
      ⊢ wp frame (wpE (defs₀ (F := F)) 𝒱₀ (VT d i) none) Set.univ (Scf.Loop.for k1_t6_loop k1_t6_ok ⟨⟩ (k1_t6_body (F := F) i a2 h2 a3 h3 a4 h4 lV h5 rV h6 a7 a8 r0 r1 r2 v2 v12 v13) >>= kk) Q :=
  wp_build d k1_t6_loop k1_t6_ok (by decide) _ _ so6_inb _ (fun k => k1_off33_inb i k)
    (fun k u => t6_eq i a2 h2 a3 h3 a4 h4 h5 h6 a7 a8 r0 r1 r2 v2 v12 v13 k u) S 96 32 (fun k => wbN (m0 i + 96 + k)) so6_eq (off33_eq i) hS f5 f q kk Q

/-! ### Loop 7: clears the windows of chunk 2 -/

theorem off41_eq (i : grid1.Coords) (k : Fin k1_t7_loop.trips) (t : Fin 8) :
    k1_off41 i k (BitVec.ofNat 32 (16 * t.val)) = ![0 + k.val, wbN (m0 i + 64 + k.val) + 16 * t.val] := off23_eq i k t

set_option maxRecDepth 65536 in
theorem t7_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)  (k : Fin k1_t7_loop.trips) (u : Unit) :
    k1_t7_body (F := F) i a2 h2 a3 h3 a4 h4 lV h5 rV h6 a7 a8 r0 r1 r2 v2 v12 k1_pay77 k u
      = zrow8 (fun t => k1_off41 i k (BitVec.ofNat 32 (16 * t.val))) (fun t => k1_off41_inb i k t) := rfl

theorem wp_t7 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)
    (S : Finset S64x1024.Idx) (hS : ∀ y : S64x1024.Idx, 0 ≤ (y 0).val → (y 0).val < 0 + 32 → y ∈ S)
    (f : S64x1024.Idx → Elt F .f32)
    {α : Type} (kk : Unit → Prog (TpuEff nD τ sig (Elt F) Λ₀ (.scVector ((i 0).castLE hcore1) ((i 1).castLE hsub1))) α) (Q : α → sProp 𝕄) :
    iprop(((rV).view.loc (VT d i) ↦[S]{fullShare} f)
      ∗ (((rV).view.loc (VT d i) ↦[S]{fullShare} blk (fun _ _ => zf (F := F)) (fun k => wbN (m0 i + 64 + k)) f 0 32) -∗ wp frame (wpE (defs₀ (F := F)) 𝒱₀ (VT d i) none) Set.univ (kk ⟨⟩) Q))
      ⊢ wp frame (wpE (defs₀ (F := F)) 𝒱₀ (VT d i) none) Set.univ (Scf.Loop.for k1_t7_loop k1_t7_ok ⟨⟩ (k1_t7_body (F := F) i a2 h2 a3 h3 a4 h4 lV h5 rV h6 a7 a8 r0 r1 r2 v2 v12 k1_pay77) >>= kk) Q :=
  wp_clear d k1_t7_loop k1_t7_ok (by decide) _ _ (fun k => k1_off41_inb i k)
    (fun k u => t7_eq i a2 h2 a3 h3 a4 h4 h5 h6 a7 a8 r0 r1 r2 v2 v12 k u) S 0 (fun k => wbN (m0 i + 64 + k)) (off41_eq i) hS f kk Q

/-! ### Loop 8: places the windows of chunk 4 -/

theorem off43_eq : ∀ (i : grid1.Coords) (k : Fin k1_t8_loop.trips) (t : Fin 8),
    k1_off43 i k (BitVec.ofNat 32 (16 * t.val)) = ![0 + k.val, wbN (m0 i + 128 + k.val) + 16 * t.val] := by decide +kernel

theorem so8_inb : ∀ (k : Fin k1_t8_loop.trips) (t : Fin 8) a, (![k1_off42 k, k1_off44 k, k1_off45 k, k1_off46 k, k1_off47 k, k1_off48 k, k1_off49 k, k1_off50 k] : Fin 8 → Fin 2 → ℕ) t a + S1x16.size a ≤ S256x128.size a := by
  intro k t; fin_cases t
  exacts [k1_off42_inb k, k1_off44_inb k, k1_off45_inb k, k1_off46_inb k, k1_off47_inb k, k1_off48_inb k, k1_off49_inb k, k1_off50_inb k]

theorem so8_eq : ∀ (k : Fin k1_t8_loop.trips) (t : Fin 8), (![k1_off42 k, k1_off44 k, k1_off45 k, k1_off46 k, k1_off47 k, k1_off48 k, k1_off49 k, k1_off50 k] : Fin 8 → Fin 2 → ℕ) t = ![128 + k.val, 16 * t.val] := by decide +kernel

set_option maxRecDepth 65536 in
theorem t8_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32) (k : Fin k1_t8_loop.trips) (u : Unit) :
    k1_t8_body (F := F) i a2 h2 a3 h3 a4 h4 lV h5 rV h6 a7 a8 r0 r1 r2 v2 v12 v13 k u
      = row8 ![k1_off42 k, k1_off44 k, k1_off45 k, k1_off46 k, k1_off47 k, k1_off48 k, k1_off49 k, k1_off50 k] (so8_inb k)
        (fun t => k1_off43 i k (BitVec.ofNat 32 (16 * t.val))) (fun t => k1_off43_inb i k t) := rfl

theorem wp_t8 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32)
    (S : Finset S64x1024.Idx) (hS : ∀ y : S64x1024.Idx, 0 ≤ (y 0).val → (y 0).val < 0 + 32 → y ∈ S)
    (f5 : S256x128.Idx → Elt F .f32) (f : S64x1024.Idx → Elt F .f32) (q : PosShare TreeShare)
    {α : Type} (kk : Unit → Prog (TpuEff nD τ sig (Elt F) Λ₀ (.scVector ((i 0).castLE hcore1) ((i 1).castLE hsub1))) α) (Q : α → sProp 𝕄) :
    iprop(((lV).view.loc (VT d i) ↦{q} f5) ∗ ((rV).view.loc (VT d i) ↦[S]{fullShare} f)
      ∗ (((lV).view.loc (VT d i) ↦{q} f5) -∗ ((rV).view.loc (VT d i) ↦[S]{fullShare} placed i f5 f 128 0) -∗ wp frame (wpE (defs₀ (F := F)) 𝒱₀ (VT d i) none) Set.univ (kk ⟨⟩) Q))
      ⊢ wp frame (wpE (defs₀ (F := F)) 𝒱₀ (VT d i) none) Set.univ (Scf.Loop.for k1_t8_loop k1_t8_ok ⟨⟩ (k1_t8_body (F := F) i a2 h2 a3 h3 a4 h4 lV h5 rV h6 a7 a8 r0 r1 r2 v2 v12 v13) >>= kk) Q :=
  wp_build d k1_t8_loop k1_t8_ok (by decide) _ _ so8_inb _ (fun k => k1_off43_inb i k)
    (fun k u => t8_eq i a2 h2 a3 h3 a4 h4 h5 h6 a7 a8 r0 r1 r2 v2 v12 v13 k u) S 128 0 (fun k => wbN (m0 i + 128 + k)) so8_eq (off43_eq i) hS f5 f q kk Q

/-! ### Loop 9: clears the windows of chunk 3 -/

theorem off51_eq (i : grid1.Coords) (k : Fin k1_t9_loop.trips) (t : Fin 8) :
    k1_off51 i k (BitVec.ofNat 32 (16 * t.val)) = ![32 + k.val, wbN (m0 i + 96 + k.val) + 16 * t.val] := off33_eq i k t

set_option maxRecDepth 65536 in
theorem t9_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)  (k : Fin k1_t9_loop.trips) (u : Unit) :
    k1_t9_body (F := F) i a2 h2 a3 h3 a4 h4 lV h5 rV h6 a7 a8 r0 r1 r2 v2 v12 k1_pay77 k u
      = zrow8 (fun t => k1_off51 i k (BitVec.ofNat 32 (16 * t.val))) (fun t => k1_off51_inb i k t) := rfl

theorem wp_t9 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)
    (S : Finset S64x1024.Idx) (hS : ∀ y : S64x1024.Idx, 32 ≤ (y 0).val → (y 0).val < 32 + 32 → y ∈ S)
    (f : S64x1024.Idx → Elt F .f32)
    {α : Type} (kk : Unit → Prog (TpuEff nD τ sig (Elt F) Λ₀ (.scVector ((i 0).castLE hcore1) ((i 1).castLE hsub1))) α) (Q : α → sProp 𝕄) :
    iprop(((rV).view.loc (VT d i) ↦[S]{fullShare} f)
      ∗ (((rV).view.loc (VT d i) ↦[S]{fullShare} blk (fun _ _ => zf (F := F)) (fun k => wbN (m0 i + 96 + k)) f 32 32) -∗ wp frame (wpE (defs₀ (F := F)) 𝒱₀ (VT d i) none) Set.univ (kk ⟨⟩) Q))
      ⊢ wp frame (wpE (defs₀ (F := F)) 𝒱₀ (VT d i) none) Set.univ (Scf.Loop.for k1_t9_loop k1_t9_ok ⟨⟩ (k1_t9_body (F := F) i a2 h2 a3 h3 a4 h4 lV h5 rV h6 a7 a8 r0 r1 r2 v2 v12 k1_pay77) >>= kk) Q :=
  wp_clear d k1_t9_loop k1_t9_ok (by decide) _ _ (fun k => k1_off51_inb i k)
    (fun k u => t9_eq i a2 h2 a3 h3 a4 h4 h5 h6 a7 a8 r0 r1 r2 v2 v12 k u) S 32 (fun k => wbN (m0 i + 96 + k)) (off51_eq i) hS f kk Q

/-! ### Loop 10: places the windows of chunk 5 -/

theorem off53_eq : ∀ (i : grid1.Coords) (k : Fin k1_t10_loop.trips) (t : Fin 8),
    k1_off53 i k (BitVec.ofNat 32 (16 * t.val)) = ![32 + k.val, wbN (m0 i + 160 + k.val) + 16 * t.val] := by decide +kernel

theorem so10_inb : ∀ (k : Fin k1_t10_loop.trips) (t : Fin 8) a, (![k1_off52 k, k1_off54 k, k1_off55 k, k1_off56 k, k1_off57 k, k1_off58 k, k1_off59 k, k1_off60 k] : Fin 8 → Fin 2 → ℕ) t a + S1x16.size a ≤ S256x128.size a := by
  intro k t; fin_cases t
  exacts [k1_off52_inb k, k1_off54_inb k, k1_off55_inb k, k1_off56_inb k, k1_off57_inb k, k1_off58_inb k, k1_off59_inb k, k1_off60_inb k]

theorem so10_eq : ∀ (k : Fin k1_t10_loop.trips) (t : Fin 8), (![k1_off52 k, k1_off54 k, k1_off55 k, k1_off56 k, k1_off57 k, k1_off58 k, k1_off59 k, k1_off60 k] : Fin 8 → Fin 2 → ℕ) t = ![160 + k.val, 16 * t.val] := by decide +kernel

set_option maxRecDepth 65536 in
theorem t10_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32) (c0_i32_104 : BitVec 32) (c1_i32_106 : BitVec 32) (k : Fin k1_t10_loop.trips) (u : Unit) :
    k1_t10_body (F := F) i a2 h2 a3 h3 a4 h4 lV h5 rV h6 a7 a8 r0 r1 r2 v2 v12 v13 c0_i32_104 c1_i32_106 k u
      = row8 ![k1_off52 k, k1_off54 k, k1_off55 k, k1_off56 k, k1_off57 k, k1_off58 k, k1_off59 k, k1_off60 k] (so10_inb k)
        (fun t => k1_off53 i k (BitVec.ofNat 32 (16 * t.val))) (fun t => k1_off53_inb i k t) := rfl

theorem wp_t10 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32) (c0_i32_104 : BitVec 32) (c1_i32_106 : BitVec 32)
    (S : Finset S64x1024.Idx) (hS : ∀ y : S64x1024.Idx, 32 ≤ (y 0).val → (y 0).val < 32 + 32 → y ∈ S)
    (f5 : S256x128.Idx → Elt F .f32) (f : S64x1024.Idx → Elt F .f32) (q : PosShare TreeShare)
    {α : Type} (kk : Unit → Prog (TpuEff nD τ sig (Elt F) Λ₀ (.scVector ((i 0).castLE hcore1) ((i 1).castLE hsub1))) α) (Q : α → sProp 𝕄) :
    iprop(((lV).view.loc (VT d i) ↦{q} f5) ∗ ((rV).view.loc (VT d i) ↦[S]{fullShare} f)
      ∗ (((lV).view.loc (VT d i) ↦{q} f5) -∗ ((rV).view.loc (VT d i) ↦[S]{fullShare} placed i f5 f 160 32) -∗ wp frame (wpE (defs₀ (F := F)) 𝒱₀ (VT d i) none) Set.univ (kk ⟨⟩) Q))
      ⊢ wp frame (wpE (defs₀ (F := F)) 𝒱₀ (VT d i) none) Set.univ (Scf.Loop.for k1_t10_loop k1_t10_ok ⟨⟩ (k1_t10_body (F := F) i a2 h2 a3 h3 a4 h4 lV h5 rV h6 a7 a8 r0 r1 r2 v2 v12 v13 c0_i32_104 c1_i32_106) >>= kk) Q :=
  wp_build d k1_t10_loop k1_t10_ok (by decide) _ _ so10_inb _ (fun k => k1_off53_inb i k)
    (fun k u => t10_eq i a2 h2 a3 h3 a4 h4 h5 h6 a7 a8 r0 r1 r2 v2 v12 v13 c0_i32_104 c1_i32_106 k u) S 160 32 (fun k => wbN (m0 i + 160 + k)) so10_eq (off53_eq i) hS f5 f q kk Q

/-! ### Loop 11: clears the windows of chunk 4 -/

theorem off61_eq (i : grid1.Coords) (k : Fin k1_t11_loop.trips) (t : Fin 8) :
    k1_off61 i k (BitVec.ofNat 32 (16 * t.val)) = ![0 + k.val, wbN (m0 i + 128 + k.val) + 16 * t.val] := off43_eq i k t

set_option maxRecDepth 65536 in
theorem t11_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)  (c0_i32_104 : BitVec 32) (c1_i32_106 : BitVec 32) (k : Fin k1_t11_loop.trips) (u : Unit) :
    k1_t11_body (F := F) i a2 h2 a3 h3 a4 h4 lV h5 rV h6 a7 a8 r0 r1 r2 v2 v12 k1_pay77 c0_i32_104 c1_i32_106 k u
      = zrow8 (fun t => k1_off61 i k (BitVec.ofNat 32 (16 * t.val))) (fun t => k1_off61_inb i k t) := rfl

theorem wp_t11 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32)  (c0_i32_104 : BitVec 32) (c1_i32_106 : BitVec 32)
    (S : Finset S64x1024.Idx) (hS : ∀ y : S64x1024.Idx, 0 ≤ (y 0).val → (y 0).val < 0 + 32 → y ∈ S)
    (f : S64x1024.Idx → Elt F .f32)
    {α : Type} (kk : Unit → Prog (TpuEff nD τ sig (Elt F) Λ₀ (.scVector ((i 0).castLE hcore1) ((i 1).castLE hsub1))) α) (Q : α → sProp 𝕄) :
    iprop(((rV).view.loc (VT d i) ↦[S]{fullShare} f)
      ∗ (((rV).view.loc (VT d i) ↦[S]{fullShare} blk (fun _ _ => zf (F := F)) (fun k => wbN (m0 i + 128 + k)) f 0 32) -∗ wp frame (wpE (defs₀ (F := F)) 𝒱₀ (VT d i) none) Set.univ (kk ⟨⟩) Q))
      ⊢ wp frame (wpE (defs₀ (F := F)) 𝒱₀ (VT d i) none) Set.univ (Scf.Loop.for k1_t11_loop k1_t11_ok ⟨⟩ (k1_t11_body (F := F) i a2 h2 a3 h3 a4 h4 lV h5 rV h6 a7 a8 r0 r1 r2 v2 v12 k1_pay77 c0_i32_104 c1_i32_106) >>= kk) Q :=
  wp_clear d k1_t11_loop k1_t11_ok (by decide) _ _ (fun k => k1_off61_inb i k)
    (fun k u => t11_eq i a2 h2 a3 h3 a4 h4 h5 h6 a7 a8 r0 r1 r2 v2 v12 c0_i32_104 c1_i32_106 k u) S 0 (fun k => wbN (m0 i + 128 + k)) (off61_eq i) hS f kk Q

/-! ### Loop 12: places the windows of chunk 6 -/

theorem off63_eq : ∀ (i : grid1.Coords) (k : Fin k1_t12_loop.trips) (t : Fin 8),
    k1_off63 i k (BitVec.ofNat 32 (16 * t.val)) = ![0 + k.val, wbN (m0 i + 192 + k.val) + 16 * t.val] := by decide +kernel

theorem so12_inb : ∀ (k : Fin k1_t12_loop.trips) (t : Fin 8) a, (![k1_off62 k, k1_off64 k, k1_off65 k, k1_off66 k, k1_off67 k, k1_off68 k, k1_off69 k, k1_off70 k] : Fin 8 → Fin 2 → ℕ) t a + S1x16.size a ≤ S256x128.size a := by
  intro k t; fin_cases t
  exacts [k1_off62_inb k, k1_off64_inb k, k1_off65_inb k, k1_off66_inb k, k1_off67_inb k, k1_off68_inb k, k1_off69_inb k, k1_off70_inb k]

theorem so12_eq : ∀ (k : Fin k1_t12_loop.trips) (t : Fin 8), (![k1_off62 k, k1_off64 k, k1_off65 k, k1_off66 k, k1_off67 k, k1_off68 k, k1_off69 k, k1_off70 k] : Fin 8 → Fin 2 → ℕ) t = ![192 + k.val, 16 * t.val] := by decide +kernel

set_option maxRecDepth 65536 in
theorem t12_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32) (c0_i32_104 : BitVec 32) (c1_i32_106 : BitVec 32) (k : Fin k1_t12_loop.trips) (u : Unit) :
    k1_t12_body (F := F) i a2 h2 a3 h3 a4 h4 lV h5 rV h6 a7 a8 r0 r1 r2 v2 v12 v13 c0_i32_104 c1_i32_106 k u
      = row8 ![k1_off62 k, k1_off64 k, k1_off65 k, k1_off66 k, k1_off67 k, k1_off68 k, k1_off69 k, k1_off70 k] (so12_inb k)
        (fun t => k1_off63 i k (BitVec.ofNat 32 (16 * t.val))) (fun t => k1_off63_inb i k t) := rfl

theorem wp_t12 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v2 : BitVec 32) (v12 : BitVec 32) (v13 : FVec F S16 .f32) (c0_i32_104 : BitVec 32) (c1_i32_106 : BitVec 32)
    (S : Finset S64x1024.Idx) (hS : ∀ y : S64x1024.Idx, 0 ≤ (y 0).val → (y 0).val < 0 + 32 → y ∈ S)
    (f5 : S256x128.Idx → Elt F .f32) (f : S64x1024.Idx → Elt F .f32) (q : PosShare TreeShare)
    {α : Type} (kk : Unit → Prog (TpuEff nD τ sig (Elt F) Λ₀ (.scVector ((i 0).castLE hcore1) ((i 1).castLE hsub1))) α) (Q : α → sProp 𝕄) :
    iprop(((lV).view.loc (VT d i) ↦{q} f5) ∗ ((rV).view.loc (VT d i) ↦[S]{fullShare} f)
      ∗ (((lV).view.loc (VT d i) ↦{q} f5) -∗ ((rV).view.loc (VT d i) ↦[S]{fullShare} placed i f5 f 192 0) -∗ wp frame (wpE (defs₀ (F := F)) 𝒱₀ (VT d i) none) Set.univ (kk ⟨⟩) Q))
      ⊢ wp frame (wpE (defs₀ (F := F)) 𝒱₀ (VT d i) none) Set.univ (Scf.Loop.for k1_t12_loop k1_t12_ok ⟨⟩ (k1_t12_body (F := F) i a2 h2 a3 h3 a4 h4 lV h5 rV h6 a7 a8 r0 r1 r2 v2 v12 v13 c0_i32_104 c1_i32_106) >>= kk) Q :=
  wp_build d k1_t12_loop k1_t12_ok (by decide) _ _ so12_inb _ (fun k => k1_off63_inb i k)
    (fun k u => t12_eq i a2 h2 a3 h3 a4 h4 h5 h6 a7 a8 r0 r1 r2 v2 v12 v13 c0_i32_104 c1_i32_106 k u) S 192 0 (fun k => wbN (m0 i + 192 + k)) so12_eq (off63_eq i) hS f5 f q kk Q

/-! ### Loop 13: clears the windows of chunk 5 -/

theorem off71_eq (i : grid1.Coords) (k : Fin k1_t13_loop.trips) (t : Fin 8) :
    k1_off71 i k (BitVec.ofNat 32 (16 * t.val)) = ![32 + k.val, wbN (m0 i + 160 + k.val) + 16 * t.val] := off53_eq i k t

set_option maxRecDepth 65536 in
theorem t13_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v12 : BitVec 32)  (k : Fin k1_t13_loop.trips) (u : Unit) :
    k1_t13_body (F := F) i a2 h2 a3 h3 a4 h4 lV h5 rV h6 a7 a8 r0 r1 r2 v12 k1_pay77 k u
      = zrow8 (fun t => k1_off71 i k (BitVec.ofNat 32 (16 * t.val))) (fun t => k1_off71_inb i k t) := rfl

theorem wp_t13 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v12 : BitVec 32)
    (S : Finset S64x1024.Idx) (hS : ∀ y : S64x1024.Idx, 32 ≤ (y 0).val → (y 0).val < 32 + 32 → y ∈ S)
    (f : S64x1024.Idx → Elt F .f32)
    {α : Type} (kk : Unit → Prog (TpuEff nD τ sig (Elt F) Λ₀ (.scVector ((i 0).castLE hcore1) ((i 1).castLE hsub1))) α) (Q : α → sProp 𝕄) :
    iprop(((rV).view.loc (VT d i) ↦[S]{fullShare} f)
      ∗ (((rV).view.loc (VT d i) ↦[S]{fullShare} blk (fun _ _ => zf (F := F)) (fun k => wbN (m0 i + 160 + k)) f 32 32) -∗ wp frame (wpE (defs₀ (F := F)) 𝒱₀ (VT d i) none) Set.univ (kk ⟨⟩) Q))
      ⊢ wp frame (wpE (defs₀ (F := F)) 𝒱₀ (VT d i) none) Set.univ (Scf.Loop.for k1_t13_loop k1_t13_ok ⟨⟩ (k1_t13_body (F := F) i a2 h2 a3 h3 a4 h4 lV h5 rV h6 a7 a8 r0 r1 r2 v12 k1_pay77) >>= kk) Q :=
  wp_clear d k1_t13_loop k1_t13_ok (by decide) _ _ (fun k => k1_off71_inb i k)
    (fun k u => t13_eq i a2 h2 a3 h3 a4 h4 h5 h6 a7 a8 r0 r1 r2 v12 k u) S 32 (fun k => wbN (m0 i + 160 + k)) (off71_eq i) hS f kk Q

/-! ### Loop 14: places the windows of chunk 7 -/

theorem off73_eq : ∀ (i : grid1.Coords) (k : Fin k1_t14_loop.trips) (t : Fin 8),
    k1_off73 i k (BitVec.ofNat 32 (16 * t.val)) = ![32 + k.val, wbN (m0 i + 224 + k.val) + 16 * t.val] := by decide +kernel

theorem so14_inb : ∀ (k : Fin k1_t14_loop.trips) (t : Fin 8) a, (![k1_off72 k, k1_off74 k, k1_off75 k, k1_off76 k, k1_off77 k, k1_off78 k, k1_off79 k, k1_off80 k] : Fin 8 → Fin 2 → ℕ) t a + S1x16.size a ≤ S256x128.size a := by
  intro k t; fin_cases t
  exacts [k1_off72_inb k, k1_off74_inb k, k1_off75_inb k, k1_off76_inb k, k1_off77_inb k, k1_off78_inb k, k1_off79_inb k, k1_off80_inb k]

theorem so14_eq : ∀ (k : Fin k1_t14_loop.trips) (t : Fin 8), (![k1_off72 k, k1_off74 k, k1_off75 k, k1_off76 k, k1_off77 k, k1_off78 k, k1_off79 k, k1_off80 k] : Fin 8 → Fin 2 → ℕ) t = ![224 + k.val, 16 * t.val] := by decide +kernel

set_option maxRecDepth 65536 in
theorem t14_eq (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v12 : BitVec 32) (k : Fin k1_t14_loop.trips) (u : Unit) :
    k1_t14_body (F := F) i a2 h2 a3 h3 a4 h4 lV h5 rV h6 a7 a8 r0 r1 r2 v12 k u
      = row8 ![k1_off72 k, k1_off74 k, k1_off75 k, k1_off76 k, k1_off77 k, k1_off78 k, k1_off79 k, k1_off80 k] (so14_inb k)
        (fun t => k1_off73 i k (BitVec.ofNat 32 (16 * t.val))) (fun t => k1_off73_inb i k t) := rfl

theorem wp_t14 (i : grid1.Coords) (a2 : Memref sig .scVector .hbm S8192x128 .f32) (h2 : a2.IsWhole) (a3 : Memref sig .scVector .hbm S32x1024 .f32) (h3 : a3.IsWhole) (a4 : Memref sig .scVector .hbm S8192x1024 .f32) (h4 : a4.IsWhole)
    (h5 : (lV).IsWhole) (h6 : (rV).IsWhole) (a7 a8 r0 r1 r2 : DmaSems sig S_) (v12 : BitVec 32)
    (S : Finset S64x1024.Idx) (hS : ∀ y : S64x1024.Idx, 32 ≤ (y 0).val → (y 0).val < 32 + 32 → y ∈ S)
    (f5 : S256x128.Idx → Elt F .f32) (f : S64x1024.Idx → Elt F .f32) (q : PosShare TreeShare)
    {α : Type} (kk : Unit → Prog (TpuEff nD τ sig (Elt F) Λ₀ (.scVector ((i 0).castLE hcore1) ((i 1).castLE hsub1))) α) (Q : α → sProp 𝕄) :
    iprop(((lV).view.loc (VT d i) ↦{q} f5) ∗ ((rV).view.loc (VT d i) ↦[S]{fullShare} f)
      ∗ (((lV).view.loc (VT d i) ↦{q} f5) -∗ ((rV).view.loc (VT d i) ↦[S]{fullShare} placed i f5 f 224 32) -∗ wp frame (wpE (defs₀ (F := F)) 𝒱₀ (VT d i) none) Set.univ (kk ⟨⟩) Q))
      ⊢ wp frame (wpE (defs₀ (F := F)) 𝒱₀ (VT d i) none) Set.univ (Scf.Loop.for k1_t14_loop k1_t14_ok ⟨⟩ (k1_t14_body (F := F) i a2 h2 a3 h3 a4 h4 lV h5 rV h6 a7 a8 r0 r1 r2 v12) >>= kk) Q :=
  wp_build d k1_t14_loop k1_t14_ok (by decide) _ _ so14_inb _ (fun k => k1_off73_inb i k)
    (fun k u => t14_eq i a2 h2 a3 h3 a4 h4 h5 h6 a7 a8 r0 r1 r2 v12 k u) S 224 32 (fun k => wbN (m0 i + 224 + k)) so14_eq (off73_eq i) hS f5 f q kk Q

end Cert.Proof.KI

end
-- ==== Proof.Tile.lean ====
/- One vector subcore's whole run: it fetches its 256 rows of windows, fills its two halves of row
   buffer with zeros, and for each of eight chunks places the windows, sends the 32 rows out and, when
   the copy has landed, clears the windows again. -/
module

public import proofs.«01_k».proof.Proof.TileLoops

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The windows, the zeros and the dense attention in the device's main memory. -/
abbrev vV : Memref Cert.KernelIdeal.sig Kind.scVector Space.hbm Cert.KernelIdeal.S8192x128 EltTy.f32 := Memref.whole Cert.KernelIdeal.main_v11_scv
abbrev zV : Memref Cert.KernelIdeal.sig Kind.scVector Space.hbm Cert.KernelIdeal.S32x1024 EltTy.f32 := Memref.whole Cert.KernelIdeal.main_v10_scv
abbrev aV : Memref Cert.KernelIdeal.sig Kind.scVector Space.hbm Cert.KernelIdeal.S8192x1024 EltTy.f32 := Memref.whole Cert.KernelIdeal.main_v12_scv

/-- The subcore's 256 rows of windows; chunk `r` of its rows of the dense attention; the two halves of the row buffer. -/
abbrev vRow (i : grid1.Coords) : Memref sig .scVector .hbm S256x128 .f32 :=
  (vV).slice (Rect.unit (s := S8192x128) (k1_off1 i) S256x128.size (k1_off1_inb i)) (fun _ => rfl)
abbrev aChunk (i : grid1.Coords) (r : Fin 8) : Memref sig .scVector .hbm S32x1024 .f32 :=
  (aV).slice (Rect.unit (s := S8192x1024) (k1_off11 i (BitVec.ofNat 32 (32 * r.val))) S32x1024.size (k1_off11_inb i r)) (fun _ => rfl)
/-- The same chunk, its offset given as a word. -/
abbrev aC (i : grid1.Coords) (w : BitVec 32) (h : ∀ a, k1_off11 i w a + S32x1024.size a ≤ S8192x1024.size a) : Memref sig .scVector .hbm S32x1024 .f32 :=
  (aV).slice (Rect.unit (s := S8192x1024) (k1_off11 i w) S32x1024.size h) (fun _ => rfl)
abbrev rLo : Memref sig .scVector .vmem S32x1024 .f32 :=
  (rV).slice (Rect.unit (s := S64x1024) ![0, 0] S32x1024.size inb_S64x1024_S32x1024_0_0) (fun _ => rfl)
abbrev rHi : Memref sig .scVector .vmem S32x1024 .f32 :=
  (rV).slice (Rect.unit (s := S64x1024) ![32, 0] S32x1024.size inb_S64x1024_S32x1024_32_0) (fun _ => rfl)

variable (d : Dev nD) (i : grid1.Coords)

/-- The five semaphore cells the subcore uses, at zero. -/
abbrev csem (k : Nat) (hk : k < sig.nDmaSem := by decide) : DmaSem sig := ⟨k, hk⟩
abbrev cells0 (d : Dev nD) (i : grid1.Coords) : sProp 𝕄 :=
  iprop(semVal (VT d i, SemLoc.dma (csem 11)) 0 ∗ semVal (VT d i, SemLoc.dma (csem 12)) 0 ∗ semVal (VT d i, SemLoc.dma (csem 13)) 0
    ∗ semVal (VT d i, SemLoc.dma (csem 14)) 0 ∗ semVal (VT d i, SemLoc.dma (csem 15)) 0)

/-! ## What the copies leave -/

/-- The dense attention the call builds from the windows `Fv`: row `x₀` holds its window at the columns from
    `wbN` of the row's place in its batch on, and zero elsewhere. -/
def dense (Fv : S8192x128.Idx → Elt F .f32) : S8192x1024.Idx → Elt F .f32 := fun x =>
  if wbN ((x 0).val % 1024) ≤ (x 1).val ∧ (x 1).val < wbN ((x 0).val % 1024) + 128
    then Fv (fun a => match a with
      | 0 => x 0
      | 1 => ⟨((x 1).val - wbN ((x 0).val % 1024)) % 128, Nat.mod_lt _ (by decide)⟩)
    else zf

/-- A whole write through a view leaves, at the view's elements, what was written. -/
theorem writes_emb {κ : Kind} {sp : Space} {s : Shape} {e : EltTy} (v : View sig κ sp s e) (f : v.ty.Contents (Elt F))
    (p : s.Idx → Elt F e) (x : s.Idx) (h : Elt F e = Elt F v.ty.elt) :
    v.writes (Elt F) f [⟨Rect.whole s, p⟩] (v.emb x) = cast h (p x) := by
  have := congrFun (View.read_writes_whole (Val := Elt F) v f p) x
  rw [View.read_apply] at this
  rw [← this]; simp

theorem same_read {κ : Kind} {sp : Space} {s : Shape} {e : EltTy} (v : View sig κ sp s e) (f : v.ty.Contents (Elt F)) (x : s.Idx)
    (h : Elt F v.ty.elt = Elt F e) :
    ReadAs.same.apply (v.read (Elt F) f) x = cast h (f (v.emb x)) := View.read_apply _ _

/-- The window buffer after the fetch. -/
abbrev wins (i : grid1.Coords) (Fv : S8192x128.Idx → Elt F .f32) : S256x128.Idx → Elt F .f32 := fun y => Fv ((vRow i).view.emb y)

theorem pts_fetch (f5 : S256x128.Idx → Elt F .f32) (Fv : S8192x128.Idx → Elt F .f32) (p : S256x128.Idx → Elt F .f32)
    (hp : p = ReadAs.same.apply ((vRow i).view.read (Elt F) Fv)) :
    ((lV).view.loc (VT d i) ↦[(lV).view.set]{fullShare} (lV).view.writes (Elt F) f5
        [⟨Rect.whole S256x128, p⟩] : sProp 𝕄)
      = ((lV).view.loc (VT d i) ↦{fullShare} wins i Fv) := by
  subst hp
  rw [View.set_whole]
  congr 1
  exact View.read_writes_whole (Val := Elt F) (lV).view f5 _

theorem pts_fillLo (f6 : S64x1024.Idx → Elt F .f32) (p : S32x1024.Idx → Elt F .f32)
    (hp : p = ReadAs.same.apply ((zV).view.read (Elt F) (fun _ => zf (F := F)))) :
    ((rLo).view.loc (VT d i) ↦[(rLo).view.set]{fullShare} (rLo).view.writes (Elt F) f6
        [⟨Rect.whole S32x1024, p⟩] : sProp 𝕄)
      = ((rLo).view.loc (VT d i) ↦[(rLo).view.set]{fullShare} fun _ => zf (F := F)) := by
  subst hp
  refine pointsTo_congr fun y hy => ?_
  obtain ⟨x, -, rfl⟩ := Finset.mem_map.1 hy
  refine (writes_emb (rLo).view f6 _ x rfl).trans ((cast_eq _ _).trans ?_)
  exact (same_read (zV).view (fun _ => zf (F := F)) x rfl).trans (cast_eq _ _)

theorem pts_fillHi (f6 : S64x1024.Idx → Elt F .f32) (p : S32x1024.Idx → Elt F .f32)
    (hp : p = ReadAs.same.apply ((zV).view.read (Elt F) (fun _ => zf (F := F)))) :
    ((rHi).view.loc (VT d i) ↦[(rHi).view.set]{fullShare} (rHi).view.writes (Elt F) f6
        [⟨Rect.whole S32x1024, p⟩] : sProp 𝕄)
      = ((rHi).view.loc (VT d i) ↦[(rHi).view.set]{fullShare} fun _ => zf (F := F)) := by
  subst hp
  refine pointsTo_congr fun y hy => ?_
  obtain ⟨x, -, rfl⟩ := Finset.mem_map.1 hy
  refine (writes_emb (rHi).view f6 _ x rfl).trans ((cast_eq _ _).trans ?_)
  exact (same_read (zV).view (fun _ => zf (F := F)) x rfl).trans (cast_eq _ _)

theorem off1_eq : ∀ i : grid1.Coords, k1_off1 i = ![((i 1).val * 2 + (i 0).val) * 256, 0] := by decide +kernel
theorem off11_eq : ∀ (i : grid1.Coords) (r : Fin 8), k1_off11 i (BitVec.ofNat 32 (32 * r.val)) = ![((i 1).val * 2 + (i 0).val) * 256 + 32 * r.val, 0] := by
  decide +kernel

theorem base_lt (i : grid1.Coords) : ((i 1).val * 2 + (i 0).val) * 256 + 256 ≤ 8192 := by
  have h0 : (i 0).val < 2 := (i 0).isLt
  have h1 : (i 1).val < 16 := (i 1).isLt
  omega

/-- The rows sent out for chunk `r`: row `u` of the half holds, over zeros, the window of row `32 r + u`. -/
theorem placed_emb (Fv : S8192x128.Idx → Elt F .f32) (r : Fin 8) (sb rb : ℕ) (hsb : sb = 32 * r.val) (u : S32x1024.Idx)
    (y : S64x1024.Idx) (hy0 : (y 0).val = rb + (u 0).val) (hy1 : (y 1).val = (u 1).val) :
    placed i (wins i Fv) (fun _ => zf (F := F)) sb rb y = dense Fv ((aChunk i r).view.emb u) := by
  subst hsb
  have hb := base_lt i
  have hr := r.isLt
  have hu0 : (u 0).val < 32 := (u 0).isLt
  have hu1 : (u 1).val < 1024 := (u 1).isLt
  have e0 : (((aChunk i r).view.emb u) 0).val = ((i 1).val * 2 + (i 0).val) * 256 + 32 * r.val + (u 0).val := by
    show k1_off11 i (BitVec.ofNat 32 (32 * r.val)) 0 + 1 * (u 0).val = _
    rw [off11_eq]; simp
  have e1 : (((aChunk i r).view.emb u) 1).val = (u 1).val := by
    show k1_off11 i (BitVec.ofNat 32 (32 * r.val)) 1 + 1 * (u 1).val = _
    rw [off11_eq]; simp
  have em : (((aChunk i r).view.emb u) 0).val % 1024 = m0 i + 32 * r.val + (u 0).val := by
    rw [e0]; unfold m0; omega
  have ed : dense Fv ((aChunk i r).view.emb u) = if wbN (m0 i + 32 * r.val + (u 0).val) ≤ (u 1).val
      ∧ (u 1).val < wbN (m0 i + 32 * r.val + (u 0).val) + 128 then Fv (fun a => match a with
      | 0 => ((aChunk i r).view.emb u) 0
      | 1 => ⟨((u 1).val - wbN (m0 i + 32 * r.val + (u 0).val)) % 128, Nat.mod_lt _ (by decide)⟩) else zf := by
    unfold dense
    simp only [em, e1]
  have ep : placed i (wins i Fv) (fun _ => zf (F := F)) (32 * r.val) rb y = if wbN (m0 i + 32 * r.val + (u 0).val) ≤ (u 1).val
      ∧ (u 1).val < wbN (m0 i + 32 * r.val + (u 0).val) + 128 then wins i Fv (at256 (32 * r.val + (u 0).val)
        ((u 1).val - wbN (m0 i + 32 * r.val + (u 0).val))) else zf := by
    unfold placed blk
    simp only [hy0, hy1, show rb + (u 0).val - rb = (u 0).val by omega, show rb ≤ rb + (u 0).val by omega,
      show rb + (u 0).val < rb + 32 by omega, true_and]
  rw [ed, ep]
  by_cases h : wbN (m0 i + 32 * r.val + (u 0).val) ≤ (u 1).val ∧ (u 1).val < wbN (m0 i + 32 * r.val + (u 0).val) + 128
  · rw [if_pos h, if_pos h]
    refine congrArg Fv (funext fun a => ?_)
    match a with
    | 0 =>
      apply Fin.ext
      refine Eq.trans ?_ e0.symm
      show k1_off1 i 0 + 1 * ((32 * r.val + (u 0).val) % 256) = _
      rw [off1_eq]; simp only [Matrix.cons_val_zero]; omega
    | 1 =>
      apply Fin.ext
      show k1_off1 i 1 + 1 * (((u 1).val - wbN (m0 i + 32 * r.val + (u 0).val)) % 128) = _
      rw [show k1_off1 i 1 = 0 by rw [off1_eq]; rfl, Nat.zero_add, Nat.one_mul]
      rfl
  · rw [if_neg h, if_neg h]

theorem pts_outLo (Fv : S8192x128.Idx → Elt F .f32) (ga : S8192x1024.Idx → Elt F .f32) (r : Fin 8) (sb : ℕ) (hsb : sb = 32 * r.val)
    (w : BitVec 32) (h : ∀ a, k1_off11 i w a + S32x1024.size a ≤ S8192x1024.size a) (hw : w = BitVec.ofNat 32 (32 * r.val))
    (p : S32x1024.Idx → Elt F .f32) (hp : p = ReadAs.same.apply ((rLo).view.read (Elt F) (placed i (wins i Fv) (fun _ => zf (F := F)) sb 0))) :
    ((aC i w h).view.loc (VT d i) ↦[(aC i w h).view.set]{fullShare} (aC i w h).view.writes (Elt F) ga
        [⟨Rect.whole S32x1024, p⟩] : sProp 𝕄)
      = ((aC i w h).view.loc (VT d i) ↦[(aC i w h).view.set]{fullShare} dense Fv) := by
  subst hp; subst hw
  refine pointsTo_congr fun y hy => ?_
  obtain ⟨x, -, rfl⟩ := Finset.mem_map.1 hy
  refine (writes_emb (aC i _ h).view ga _ x rfl).trans ((cast_eq _ _).trans ?_)
  refine (same_read (rLo).view (placed i (wins i Fv) (fun _ => zf (F := F)) sb 0) x rfl).trans ((cast_eq _ _).trans ?_)
  exact placed_emb i Fv r sb 0 hsb x ((rLo).view.emb x) (show 0 + 1 * (x 0).val = _ by omega) (show 0 + 1 * (x 1).val = _ by omega)

theorem pts_outHi (Fv : S8192x128.Idx → Elt F .f32) (ga : S8192x1024.Idx → Elt F .f32) (r : Fin 8) (sb : ℕ) (hsb : sb = 32 * r.val)
    (w : BitVec 32) (h : ∀ a, k1_off11 i w a + S32x1024.size a ≤ S8192x1024.size a) (hw : w = BitVec.ofNat 32 (32 * r.val))
    (p : S32x1024.Idx → Elt F .f32) (hp : p = ReadAs.same.apply ((rHi).view.read (Elt F) (placed i (wins i Fv) (fun _ => zf (F := F)) sb 32))) :
    ((aC i w h).view.loc (VT d i) ↦[(aC i w h).view.set]{fullShare} (aC i w h).view.writes (Elt F) ga
        [⟨Rect.whole S32x1024, p⟩] : sProp 𝕄)
      = ((aC i w h).view.loc (VT d i) ↦[(aC i w h).view.set]{fullShare} dense Fv) := by
  subst hp; subst hw
  refine pointsTo_congr fun y hy => ?_
  obtain ⟨x, -, rfl⟩ := Finset.mem_map.1 hy
  refine (writes_emb (aC i _ h).view ga _ x rfl).trans ((cast_eq _ _).trans ?_)
  refine (same_read (rHi).view (placed i (wins i Fv) (fun _ => zf (F := F)) sb 32) x rfl).trans ((cast_eq _ _).trans ?_)
  exact placed_emb i Fv r sb 32 hsb x ((rHi).view.emb x) (show 32 + 1 * (x 0).val = _ by omega) (show 0 + 1 * (x 1).val = _ by omega)

theorem mem_rLo (y : S64x1024.Idx) (h0 : 0 ≤ (y 0).val) (h : (y 0).val < 0 + 32) : y ∈ (rLo).view.set := by
  refine Eq.mpr (congrArg (y ∈ ·) (View.set_slice_whole _ _)) ?_
  rw [Rect.mem_set_unit]
  have h1 : (y 1).val < 1024 := (y 1).isLt
  intro a
  match a with
  | 0 => exact ⟨Nat.zero_le _, h⟩
  | 1 => exact ⟨Nat.zero_le _, show (y 1).val < 0 + 1024 by omega⟩

theorem mem_rHi (y : S64x1024.Idx) (h0 : 32 ≤ (y 0).val) (h : (y 0).val < 32 + 32) : y ∈ (rHi).view.set := by
  refine Eq.mpr (congrArg (y ∈ ·) (View.set_slice_whole _ _)) ?_
  rw [Rect.mem_set_unit]
  have h1 : (y 1).val < 1024 := (y 1).isLt
  intro a
  match a with
  | 0 => exact ⟨h0, h⟩
  | 1 => exact ⟨Nat.zero_le _, show (y 1).val < 0 + 1024 by omega⟩

theorem pts_Lo (f : S64x1024.Idx → Elt F .f32) :
    ((rV).view.loc (VT d i) ↦[(rLo).view.set]{fullShare} f : sProp 𝕄) = ((rLo).view.loc (VT d i) ↦[(rLo).view.set]{fullShare} f) := rfl
theorem pts_Hi (f : S64x1024.Idx → Elt F .f32) :
    ((rV).view.loc (VT d i) ↦[(rHi).view.set]{fullShare} f : sProp 𝕄) = ((rHi).view.loc (VT d i) ↦[(rHi).view.set]{fullShare} f) := rfl

/-! ## The run -/

set_option maxHeartbeats 4000000 in
/-- From its rows of windows, a share of the zeros, its eight chunks of the dense attention and its own
    scratch, the subcore leaves the chunks holding the dense attention of the windows. -/
theorem tile_run (O : CellTallies nD τ sig (HIx 1)) (W : Waits sig (HIx 1)) (Fv : S8192x128.Idx → Elt F .f32) (q : PosShare TreeShare)
    (ga : S8192x1024.Idx → Elt F .f32) (f5 : S256x128.Idx → Elt F .f32) (f6 : S64x1024.Idx → Elt F .f32) :
    (iprop(Transfers.MayWaits (VT d i) (default : HIx 1) O
        ∗ ((vRow i).view.loc (VT d i) ↦[(vRow i).view.set]{fullShare} Fv)
        ∗ ((zV).view.loc (VT d i) ↦{q} fun _ => zf (F := F))
        ∗ ((aC i 0#32 (k1_off11_inb i 0)).view.loc (VT d i) ↦[(aC i 0#32 (k1_off11_inb i 0)).view.set]{fullShare} ga)
        ∗ ((aC i 32#32 (k1_off11_inb i 1)).view.loc (VT d i) ↦[(aC i 32#32 (k1_off11_inb i 1)).view.set]{fullShare} ga)
        ∗ ((aC i 64#32 (k1_off11_inb i 2)).view.loc (VT d i) ↦[(aC i 64#32 (k1_off11_inb i 2)).view.set]{fullShare} ga)
        ∗ ((aC i 96#32 (k1_off11_inb i 3)).view.loc (VT d i) ↦[(aC i 96#32 (k1_off11_inb i 3)).view.set]{fullShare} ga)
        ∗ ((aC i 128#32 (k1_off11_inb i 4)).view.loc (VT d i) ↦[(aC i 128#32 (k1_off11_inb i 4)).view.set]{fullShare} ga)
        ∗ ((aC i 160#32 (k1_off11_inb i 5)).view.loc (VT d i) ↦[(aC i 160#32 (k1_off11_inb i 5)).view.set]{fullShare} ga)
        ∗ ((aC i 192#32 (k1_off11_inb i 6)).view.loc (VT d i) ↦[(aC i 192#32 (k1_off11_inb i 6)).view.set]{fullShare} ga)
        ∗ ((aC i 224#32 (k1_off11_inb i 7)).view.loc (VT d i) ↦[(aC i 224#32 (k1_off11_inb i 7)).view.set]{fullShare} ga)
        ∗ ((lV).view.loc (VT d i) ↦[(lV).view.set]{fullShare} f5)
        ∗ ((rLo).view.loc (VT d i) ↦[(rLo).view.set]{fullShare} f6)
        ∗ ((rHi).view.loc (VT d i) ↦[(rHi).view.set]{fullShare} f6)
        ∗ cells0 d i
        ∗ owes (VT d i) O W) : sProp 𝕄)
      ⊢ wp frame (wpE (defs₀ (F := F)) 𝒱₀ (VT d i) none) Set.univ
          (cc1_build i vV (Memref.isWhole_whole _) zV (Memref.isWhole_whole _) aV (Memref.isWhole_whole _)
            lV (Memref.isWhole_whole _) rV (Memref.isWhole_whole _) cc1_scratch2 cc1_scratch3 cc1_scoped0 cc1_scoped1 cc1_scoped2)
          fun _ => iprop(((vRow i).view.loc (VT d i) ↦[(vRow i).view.set]{fullShare} Fv)
        ∗ ((zV).view.loc (VT d i) ↦{q} fun _ => zf (F := F))
        ∗ ((aC i 0#32 (k1_off11_inb i 0)).view.loc (VT d i) ↦[(aC i 0#32 (k1_off11_inb i 0)).view.set]{fullShare} dense Fv)
        ∗ ((aC i 32#32 (k1_off11_inb i 1)).view.loc (VT d i) ↦[(aC i 32#32 (k1_off11_inb i 1)).view.set]{fullShare} dense Fv)
        ∗ ((aC i 64#32 (k1_off11_inb i 2)).view.loc (VT d i) ↦[(aC i 64#32 (k1_off11_inb i 2)).view.set]{fullShare} dense Fv)
        ∗ ((aC i 96#32 (k1_off11_inb i 3)).view.loc (VT d i) ↦[(aC i 96#32 (k1_off11_inb i 3)).view.set]{fullShare} dense Fv)
        ∗ ((aC i 128#32 (k1_off11_inb i 4)).view.loc (VT d i) ↦[(aC i 128#32 (k1_off11_inb i 4)).view.set]{fullShare} dense Fv)
        ∗ ((aC i 160#32 (k1_off11_inb i 5)).view.loc (VT d i) ↦[(aC i 160#32 (k1_off11_inb i 5)).view.set]{fullShare} dense Fv)
        ∗ ((aC i 192#32 (k1_off11_inb i 6)).view.loc (VT d i) ↦[(aC i 192#32 (k1_off11_inb i 6)).view.set]{fullShare} dense Fv)
        ∗ ((aC i 224#32 (k1_off11_inb i 7)).view.loc (VT d i) ↦[(aC i 224#32 (k1_off11_inb i 7)).view.set]{fullShare} dense Fv)
        ∗ (∃ f, (lV).view.loc (VT d i) ↦{fullShare} f)
        ∗ (∃ f, (rLo).view.loc (VT d i) ↦[(rLo).view.set]{fullShare} f)
        ∗ (∃ f, (rHi).view.loc (VT d i) ↦[(rHi).view.set]{fullShare} f)
        ∗ cells0 d i
        ∗ ∃ W', owes (VT d i) O W') := by
  iintro ⟨#Hmw, HV, HZ, HA0, HA1, HA2, HA3, HA4, HA5, HA6, HA7, HL, HR0, HR1, ⟨Hc0, Hc1, Hc2, Hc3, Hc4⟩, HO⟩
  rw [cc1_build_eq_skeleton]
  unfold cc1_build_skel
  rw [k1_part23_eq_skeleton, k1_part24_eq_skeleton, k1_part25_eq_skeleton, k1_part26_eq_skeleton, k1_part27_eq_skeleton]
  unfold k1_part23_skel k1_part24_skel k1_part25_skel k1_part26_skel k1_part27_skel
  sl_exec (disch := exact View.amount_pos _ _ (show 0 < S32x1024.numel by decide))
  ihave HL := (Entails.of_eq (pts_fetch d i f5 Fv (tile_run.sl.dma0 i Fv) rfl)) $$ HL
  ihave HR0 := (Entails.of_eq (pts_fillLo d i f6 (tile_run.sl.dma0_1 d i) rfl)) $$ HR0
  ihave HR1 := (Entails.of_eq (pts_fillHi d i f6 (tile_run.sl.dma0_1 d i) rfl)) $$ HR1
  try rw [pure_bind]
  try rw [bind_assoc]
  iapply (wp_t1 d i _ _ _ _ _ _ _ _ _ _ _ _ _ _ _ (rLo).view.set mem_rLo (wins i Fv) (fun _ => zf (F := F)) fullShare _ _)
  isplitl [HL]; · iexact HL
  isplitl [HR0]; · iexact HR0
  iintro HL HR0
  ihave HR0 := (Entails.of_eq (pts_Lo d i (placed i (wins i Fv) (fun _ => zf (F := F)) 0 0))) $$ HR0
  try sl_exec (disch := exact View.amount_pos _ _ (show 0 < S32x1024.numel by decide))
  try rw [pure_bind]
  try rw [bind_assoc]
  iapply (wp_t2 d i _ _ _ _ _ _ _ _ _ _ _ _ _ _ _ (rHi).view.set mem_rHi (wins i Fv) (fun _ => zf (F := F)) fullShare _ _)
  isplitl [HL]; · iexact HL
  isplitl [HR1]; · iexact HR1
  iintro HL HR1
  ihave HR1 := (Entails.of_eq (pts_Hi d i (placed i (wins i Fv) (fun _ => zf (F := F)) 32 32))) $$ HR1
  try sl_exec (disch := exact View.amount_pos _ _ (show 0 < S32x1024.numel by decide))
  ihave HA0 := (Entails.of_eq (pts_outLo d i Fv _ 0 0 rfl 0#32 (k1_off11_inb i 0) rfl (tile_run.sl.dma0_2 i Fv) rfl)) $$ HA0
  try rw [pure_bind]
  try rw [bind_assoc]
  iapply (wp_t3 d i _ _ _ _ _ _ _ _ _ _ _ _ _ _ _ (rLo).view.set mem_rLo (placed i (wins i Fv) (fun _ => zf (F := F)) 0 0) _ _)
  isplitl [HR0]; · iexact HR0
  iintro HR0
  rw [show blk (fun _ _ => zf (F := F)) (fun k => wbN (m0 i + 0 + k)) (placed i (wins i Fv) (fun _ => zf (F := F)) 0 0) 0 32 = fun _ => zf (F := F)
    from blk_clear _ _ _ _]
  ihave HR0 := (Entails.of_eq (pts_Lo d i (fun _ => zf (F := F)))) $$ HR0
  try sl_exec (disch := exact View.amount_pos _ _ (show 0 < S32x1024.numel by decide))
  try rw [pure_bind]
  try rw [bind_assoc]
  iapply (wp_t4 d i _ _ _ _ _ _ _ _ _ _ _ _ _ _ _ _ (rLo).view.set mem_rLo (wins i Fv) (fun _ => zf (F := F)) fullShare _ _)
  isplitl [HL]; · iexact HL
  isplitl [HR0]; · iexact HR0
  iintro HL HR0
  ihave HR0 := (Entails.of_eq (pts_Lo d i (placed i (wins i Fv) (fun _ => zf (F := F)) 64 0))) $$ HR0
  try sl_exec (disch := exact View.amount_pos _ _ (show 0 < S32x1024.numel by decide))
  ihave HA1 := (Entails.of_eq (pts_outHi d i Fv _ 1 32 rfl 32#32 (k1_off11_inb i 1) rfl (tile_run.sl.dma0_3 i Fv) rfl)) $$ HA1
  try rw [pure_bind]
  try rw [bind_assoc]
  iapply (wp_t5 d i _ _ _ _ _ _ _ _ _ _ _ _ _ _ _ (rHi).view.set mem_rHi (placed i (wins i Fv) (fun _ => zf (F := F)) 32 32) _ _)
  isplitl [HR1]; · iexact HR1
  iintro HR1
  rw [show blk (fun _ _ => zf (F := F)) (fun k => wbN (m0 i + 32 + k)) (placed i (wins i Fv) (fun _ => zf (F := F)) 32 32) 32 32 = fun _ => zf (F := F)
    from blk_clear _ _ _ _]
  ihave HR1 := (Entails.of_eq (pts_Hi d i (fun _ => zf (F := F)))) $$ HR1
  try sl_exec (disch := exact View.amount_pos _ _ (show 0 < S32x1024.numel by decide))
  try rw [pure_bind]
  try rw [bind_assoc]
  iapply (wp_t6 d i _ _ _ _ _ _ _ _ _ _ _ _ _ _ _ _ (rHi).view.set mem_rHi (wins i Fv) (fun _ => zf (F := F)) fullShare _ _)
  isplitl [HL]; · iexact HL
  isplitl [HR1]; · iexact HR1
  iintro HL HR1
  ihave HR1 := (Entails.of_eq (pts_Hi d i (placed i (wins i Fv) (fun _ => zf (F := F)) 96 32))) $$ HR1
  try sl_exec (disch := exact View.amount_pos _ _ (show 0 < S32x1024.numel by decide))
  try sl_exec (disch := exact View.amount_pos _ _ (show 0 < S32x1024.numel by decide))
  ihave HA2 := (Entails.of_eq (pts_outLo d i Fv _ 2 64 rfl 64#32 (k1_off11_inb i 2) rfl (tile_run.sl.dma0_4 i Fv) rfl)) $$ HA2
  try rw [pure_bind]
  try rw [bind_assoc]
  iapply (wp_t7 d i _ _ _ _ _ _ _ _ _ _ _ _ _ _ _ (rLo).view.set mem_rLo (placed i (wins i Fv) (fun _ => zf (F := F)) 64 0) _ _)
  isplitl [HR0]; · iexact HR0
  iintro HR0
  rw [show blk (fun _ _ => zf (F := F)) (fun k => wbN (m0 i + 64 + k)) (placed i (wins i Fv) (fun _ => zf (F := F)) 64 0) 0 32 = fun _ => zf (F := F)
    from blk_clear _ _ _ _]
  ihave HR0 := (Entails.of_eq (pts_Lo d i (fun _ => zf (F := F)))) $$ HR0
  try sl_exec (disch := exact View.amount_pos _ _ (show 0 < S32x1024.numel by decide))
  try rw [pure_bind]
  try rw [bind_assoc]
  iapply (wp_t8 d i _ _ _ _ _ _ _ _ _ _ _ _ _ _ _ _ (rLo).view.set mem_rLo (wins i Fv) (fun _ => zf (F := F)) fullShare _ _)
  isplitl [HL]; · iexact HL
  isplitl [HR0]; · iexact HR0
  iintro HL HR0
  ihave HR0 := (Entails.of_eq (pts_Lo d i (placed i (wins i Fv) (fun _ => zf (F := F)) 128 0))) $$ HR0
  try sl_exec (disch := exact View.amount_pos _ _ (show 0 < S32x1024.numel by decide))
  ihave HA3 := (Entails.of_eq (pts_outHi d i Fv _ 3 96 rfl 96#32 (k1_off11_inb i 3) rfl (tile_run.sl.dma0_5 i Fv) rfl)) $$ HA3
  try rw [pure_bind]
  try rw [bind_assoc]
  iapply (wp_t9 d i _ _ _ _ _ _ _ _ _ _ _ _ _ _ _ (rHi).view.set mem_rHi (placed i (wins i Fv) (fun _ => zf (F := F)) 96 32) _ _)
  isplitl [HR1]; · iexact HR1
  iintro HR1
  rw [show blk (fun _ _ => zf (F := F)) (fun k => wbN (m0 i + 96 + k)) (placed i (wins i Fv) (fun _ => zf (F := F)) 96 32) 32 32 = fun _ => zf (F := F)
    from blk_clear _ _ _ _]
  ihave HR1 := (Entails.of_eq (pts_Hi d i (fun _ => zf (F := F)))) $$ HR1
  rw [pure_bind]
  dsimp -proj only
  try rw [pure_bind]
  try rw [bind_assoc]
  iapply (wp_t10 d i _ _ _ _ _ _ _ _ _ _ _ _ _ _ _ _ _ _ (rHi).view.set mem_rHi (wins i Fv) (fun _ => zf (F := F)) fullShare _ _)
  isplitl [HL]; · iexact HL
  isplitl [HR1]; · iexact HR1
  iintro HL HR1
  ihave HR1 := (Entails.of_eq (pts_Hi d i (placed i (wins i Fv) (fun _ => zf (F := F)) 160 32))) $$ HR1
  try sl_exec (disch := exact View.amount_pos _ _ (show 0 < S32x1024.numel by decide))
  ihave HA4 := (Entails.of_eq (pts_outLo d i Fv _ 4 128 rfl 128#32 (k1_off11_inb i 4) rfl (tile_run.sl.dma0_6 i Fv) rfl)) $$ HA4
  try rw [pure_bind]
  try rw [bind_assoc]
  iapply (wp_t11 d i _ _ _ _ _ _ _ _ _ _ _ _ _ _ _ _ _ (rLo).view.set mem_rLo (placed i (wins i Fv) (fun _ => zf (F := F)) 128 0) _ _)
  isplitl [HR0]; · iexact HR0
  iintro HR0
  rw [show blk (fun _ _ => zf (F := F)) (fun k => wbN (m0 i + 128 + k)) (placed i (wins i Fv) (fun _ => zf (F := F)) 128 0) 0 32 = fun _ => zf (F := F)
    from blk_clear _ _ _ _]
  ihave HR0 := (Entails.of_eq (pts_Lo d i (fun _ => zf (F := F)))) $$ HR0
  try sl_exec (disch := exact View.amount_pos _ _ (show 0 < S32x1024.numel by decide))
  try rw [pure_bind]
  try rw [bind_assoc]
  iapply (wp_t12 d i _ _ _ _ _ _ _ _ _ _ _ _ _ _ _ _ _ _ (rLo).view.set mem_rLo (wins i Fv) (fun _ => zf (F := F)) fullShare _ _)
  isplitl [HL]; · iexact HL
  isplitl [HR0]; · iexact HR0
  iintro HL HR0
  ihave HR0 := (Entails.of_eq (pts_Lo d i (placed i (wins i Fv) (fun _ => zf (F := F)) 192 0))) $$ HR0
  try sl_exec (disch := exact View.amount_pos _ _ (show 0 < S32x1024.numel by decide))
  ihave HA5 := (Entails.of_eq (pts_outHi d i Fv _ 5 160 rfl 160#32 (k1_off11_inb i 5) rfl (tile_run.sl.dma0_7 i Fv) rfl)) $$ HA5
  try rw [pure_bind]
  try rw [bind_assoc]
  iapply (wp_t13 d i _ _ _ _ _ _ _ _ _ _ _ _ _ _ (rHi).view.set mem_rHi (placed i (wins i Fv) (fun _ => zf (F := F)) 160 32) _ _)
  isplitl [HR1]; · iexact HR1
  iintro HR1
  rw [show blk (fun _ _ => zf (F := F)) (fun k => wbN (m0 i + 160 + k)) (placed i (wins i Fv) (fun _ => zf (F := F)) 160 32) 32 32 = fun _ => zf (F := F)
    from blk_clear _ _ _ _]
  ihave HR1 := (Entails.of_eq (pts_Hi d i (fun _ => zf (F := F)))) $$ HR1
  try sl_exec (disch := exact View.amount_pos _ _ (show 0 < S32x1024.numel by decide))
  try rw [pure_bind]
  try rw [bind_assoc]
  iapply (wp_t14 d i _ _ _ _ _ _ _ _ _ _ _ _ _ _ (rHi).view.set mem_rHi (wins i Fv) (fun _ => zf (F := F)) fullShare _ _)
  isplitl [HL]; · iexact HL
  isplitl [HR1]; · iexact HR1
  iintro HL HR1
  ihave HR1 := (Entails.of_eq (pts_Hi d i (placed i (wins i Fv) (fun _ => zf (F := F)) 224 32))) $$ HR1
  try sl_exec (disch := exact View.amount_pos _ _ (show 0 < S32x1024.numel by decide))
  ihave HA6 := (Entails.of_eq (pts_outLo d i Fv _ 6 192 rfl 192#32 (k1_off11_inb i 6) rfl (tile_run.sl.dma0_8 i Fv) rfl)) $$ HA6
  ihave HA7 := (Entails.of_eq (pts_outHi d i Fv _ 7 224 rfl 224#32 (k1_off11_inb i 7) rfl (tile_run.sl.dma0_9 i Fv) rfl)) $$ HA7
  sl_step
  sl_close

end Cert.Proof.KI
-- ==== Proof.Call.lean ====
/- The SparseCore call as the launch sees it: what its handshakes carry, how the pieces go to the
   subcores, and a subcore's scratch and semaphores. -/
module

public import proofs.«01_k».proof.Proof.Tile
public import Idealize.ShloMosaic.Lib.SparseCore.Ops

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## What the call's handshakes carry -/

abbrev vLoc (d : Dev nD) : Loc nD τ sig := (SparseCore.T d).loc main_v11
abbrev zLoc (d : Dev nD) : Loc nD τ sig := (SparseCore.T d).loc main_v10
abbrev aLoc (d : Dev nD) : Loc nD τ sig := (SparseCore.T d).loc main_v12

/-- The grid point of SparseCore `c`'s vector subcore `s`. -/
abbrev coordsV (c : Fin (grid1.bound 0)) (s : Fin (grid1.bound 1)) : grid1.Coords :=
  fun | 0 => c | 1 => s | ⟨_ + 2, h⟩ => absurd h (Nat.not_lt.2 (Nat.le_add_left _ _))

/-- The subcore's rows of the windows, and chunk `r` of its rows of the dense attention, as element sets. -/
abbrev vSet (i : grid1.Coords) : Finset S8192x128.Idx := (vRow i).view.set
abbrev aSet (i : grid1.Coords) (r : Fin 8) : Finset S8192x1024.Idx := (aChunk i r).view.set

/-- The share of the zeros that the subcore at grid point `i` reads. -/
abbrev zq (c : Fin 2) (s : Fin 16) : PosShare TreeShare := Transfers.shareTok fullShare 32 (finProdFinEquiv (c, s))

/-- A subcore's pieces: its rows of the windows, its share of the zeros, its eight chunks of the dense attention. -/
abbrev pieces (d : Dev nD) (Fv : S8192x128.Idx → Elt F .f32) (g : S8192x1024.Idx → Elt F .f32) (c : Fin 2) (s : Fin 16) : sProp 𝕄 :=
  iprop((vLoc d ↦[vSet (coordsV c s)]{fullShare} Fv) ∗ (zLoc d ↦{zq c s} fun _ => zf (F := F))
    ∗ bigSep Finset.univ fun r : Fin 8 => aLoc d ↦[aSet (coordsV c s) r]{fullShare} g)

/-- The call takes each SparseCore its subcores' pieces and brings them back with the dense attention written. -/
def P (Fv : Dev nD → S8192x128.Idx → Elt F .f32) (ga : Dev nD → S8192x1024.Idx → Elt F .f32) :
    (K (F := F)).Pay (nD := nD) (Val := Elt F) (Name := ℕ) (U := UU) where
  st := fun q d => match q with | 0 => fun c => bigSep Finset.univ fun s : Fin 16 => pieces d (Fv d) (ga d) (Fin.cast nCore_zero c) s
  dn := fun q d => match q with | 0 => fun c => bigSep Finset.univ fun s : Fin 16 => pieces d (Fv d) (dense (Fv d)) (Fin.cast nCore_zero c) s
  go := fun q d => match q with | 0 => fun c s => pieces d (Fv d) (ga d) (Fin.cast nCore_zero c) (Fin.cast nSub_zero s)
  td := fun q d => match q with | 0 => fun c s => pieces d (Fv d) (dense (Fv d)) (Fin.cast nCore_zero c) (Fin.cast nSub_zero s)
  x := fun _ _ => iprop(emp)

variable (Fv : Dev nD → S8192x128.Idx → Elt F .f32) (ga : Dev nD → S8192x1024.Idx → Elt F .f32)

instance P_storable : (P (F := F) Fv ga).IsStorable where
  st q d c := match q with
    | 0 => (inferInstance : BI.Storable (upEmb : UEmb _ 𝕄) (bigSep Finset.univ fun s : Fin 16 => pieces d (Fv d) (ga d) (Fin.cast nCore_zero c) s))
  dn q d c := match q with
    | 0 => (inferInstance : BI.Storable (upEmb : UEmb _ 𝕄) (bigSep Finset.univ fun s : Fin 16 => pieces d (Fv d) (dense (Fv d)) (Fin.cast nCore_zero c) s))
  go q d c s := match q with
    | 0 => (inferInstance : BI.Storable (upEmb : UEmb _ 𝕄) (pieces d (Fv d) (ga d) (Fin.cast nCore_zero c) (Fin.cast nSub_zero s)))
  td q d c s := match q with
    | 0 => (inferInstance : BI.Storable (upEmb : UEmb _ 𝕄) (pieces d (Fv d) (dense (Fv d)) (Fin.cast nCore_zero c) (Fin.cast nSub_zero s)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P Fv ga) 0 := by
  intro d c
  show (bigSep Finset.univ fun s : Fin 16 => pieces d (Fv d) (ga d) (Fin.cast nCore_zero c) s) ⊢ |={Set.univ}=> iprop(
      (bigSep Finset.univ fun i : Fin ((K (F := F)).nSub 0) => pieces d (Fv d) (ga d) (Fin.cast nCore_zero c) (Fin.cast nSub_zero i))
      ∗ ((bigSep Finset.univ fun i : Fin ((K (F := F)).nSub 0) => pieces d (Fv d) (dense (Fv d)) (Fin.cast nCore_zero c) (Fin.cast nSub_zero i))
          -∗ bigSep Finset.univ fun s : Fin 16 => pieces d (Fv d) (dense (Fv d)) (Fin.cast nCore_zero c) s))
  rw [bigSep_tasks (F := F) (fun s => pieces d (Fv d) (ga d) (Fin.cast nCore_zero c) s),
    bigSep_tasks (F := F) (fun s => pieces d (Fv d) (dense (Fv d)) (Fin.cast nCore_zero c) s)]
  iintro H; imodintro
  isplitl [H]; · iexact H
  iintro H; iexact H

/-! ## A subcore's scratch and semaphores -/

variable (d : Dev nD) (i : grid1.Coords)

abbrev cI (i : grid1.Coords) : Fin τ.nSC := (i 0).castLE hcore1
abbrev sI (i : grid1.Coords) : Fin τ.nSub := (i 1).castLE hsub1

theorem scell_lt : ∀ k : Fin 5, 11 + k.val < sig.nDmaSem := by decide
abbrev scell (d : Dev nD) (c : Fin τ.nSC) (s : Fin τ.nSub) (k : Fin 5) : GSem nD τ sig := (V d c s, .dma ⟨11 + k.val, scell_lt k⟩)

theorem scell_mem (c : Fin τ.nSC) (s : Fin τ.nSub) (k : Fin 5) : scell d c s k ∈ ownCells (V d c s) :=
  mem_ownCells.mpr ⟨rfl, (show ∀ k : Fin 5, (SemLoc.dma ⟨11 + k.val, scell_lt k⟩ : SemLoc sig).isScoped .scVector = true by decide) _⟩

/-- The subcore's own cells at zero: the five it uses, and the rest. -/
theorem ownSems0_V :
    (ownSems0 (VT d i) : sProp 𝕄)
      = iprop(cells0 d i ∗ bigSep ((ownCells (VT d i)) \ Finset.univ.image (scell d (cI i) (sI i))) fun g => semVal g 0) := by
  unfold SparseCore.Cfg.ownSems0
  rw [SparseCore.bigSep_sdiff_split' (t := Finset.univ.image (scell d (cI i) (sI i)))
      (Finset.image_subset_iff.mpr fun k _ => scell_mem d (cI i) (sI i) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The two scratch buffers are among the subcore's own. -/
theorem ownBufs_V :
    (ownBufs (VT d i) : sProp 𝕄)
      = iprop((∃ f, (VT d i).loc cc1_scratch0 ↦{fullShare} f) ∗ (∃ f, (VT d i).loc cc1_scratch1 ↦{fullShare} f)
          ∗ bigSep (((ownRefs (τ := τ) (.scVector (cI i) (sI i))).erase ((Proc.scVector (cI i) (sI i)).devRef cc1_scratch0)).erase
              ((Proc.scVector (cI i) (sI i)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cI i) (sI i))
    (b := (Proc.scVector (cI i) (sI i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cI i) (sI i)) (b := (Proc.scVector (cI i) (sI i)).devRef cc1_scratch1) rfl⟩)]

theorem set_rLo : (rLo).view.set = (Rect.unit (s := S64x1024) ![0, 0] S32x1024.size inb_S64x1024_S32x1024_0_0).set := View.set_slice_whole _ _
theorem set_rHi : (rHi).view.set = (Rect.unit (s := S64x1024) ![32, 0] S32x1024.size inb_S64x1024_S32x1024_32_0).set := View.set_slice_whole _ _

theorem halves_disjoint : Disjoint (rLo).view.set (rHi).view.set := by
  rw [set_rLo, set_rHi]
  refine Finset.disjoint_left.mpr fun y h h' => ?_
  rw [Rect.mem_set_unit] at h h'
  have a : (y 0).val < 0 + 32 := (h 0).2
  have b : 32 ≤ (y 0).val := (h' 0).1
  omega

theorem halves_cover : (rLo).view.set ∪ (rHi).view.set = (Finset.univ : Finset S64x1024.Idx) := by
  refine Finset.eq_univ_of_forall fun y => ?_
  rw [Finset.mem_union]
  have h0 : (y 0).val < 64 := (y 0).isLt
  by_cases h : (y 0).val < 32
  · exact .inl (mem_rLo y (Nat.zero_le _) (by omega))
  · exact .inr (mem_rHi y (by omega) (by omega))

/-- The row buffer is its two halves. -/
theorem halves (f : S64x1024.Idx → Elt F .f32) :
    ((rV).view.loc (VT d i) ↦{fullShare} f : sProp 𝕄)
      ⊣⊢ iprop(((rLo).view.loc (VT d i) ↦[(rLo).view.set]{fullShare} f) ∗ ((rHi).view.loc (VT d i) ↦[(rHi).view.set]{fullShare} f)) := by
  have h : ((rV).view.loc (VT d i) ↦[(rLo).view.set ∪ (rHi).view.set]{fullShare} f : sProp 𝕄)
      ⊣⊢ iprop(((rV).view.loc (VT d i) ↦[(rLo).view.set]{fullShare} f) ∗ ((rV).view.loc (VT d i) ↦[(rHi).view.set]{fullShare} f)) :=
    pointsTo_union halves_disjoint
  rw [halves_cover] at h
  exact h

/-! ## A subcore's obligation -/

/-- The row buffer from its halves, whatever each holds. -/
theorem halves_join (d : Dev nD) (i : grid1.Coords) (f g : S64x1024.Idx → Elt F .f32) :
    iprop(((rLo).view.loc (VT d i) ↦[(rLo).view.set]{fullShare} f) ∗ ((rHi).view.loc (VT d i) ↦[(rHi).view.set]{fullShare} g))
      ⊢ (iprop(∃ h, (VT d i).loc cc1_scratch1 ↦{fullShare} h) : sProp 𝕄) := by
  have e : (iprop(((rV).view.loc (VT d i) ↦[(rLo).view.set]{fullShare} f) ∗ ((rV).view.loc (VT d i) ↦[(rHi).view.set]{fullShare} g)) : sProp 𝕄)
      ⊢ iprop((rV).view.loc (VT d i) ↦[(rLo).view.set ∪ (rHi).view.set]{fullShare} (rHi).view.set.piecewise g f) := pointsTo_join halves_disjoint
  rw [halves_cover] at e
  refine BIBase.Entails.trans e ?_
  iintro H
  iexists _
  iexact H

/-- The local window buffer as the body names it. -/
theorem pts_lV (d : Dev nD) (i : grid1.Coords) (g : S256x128.Idx → Elt F .f32) :
    ((VT d i).loc cc1_scratch0 ↦{fullShare} g : sProp 𝕄) = ((lV).view.loc (VT d i) ↦[(lV).view.set]{fullShare} g) := by
  rw [show (lV).view.set = (Finset.univ : Finset S256x128.Idx) from View.set_whole _]

/-- The eight chunks in a row. -/
theorem chunks8 (d : Dev nD) (i : grid1.Coords) (g : S8192x1024.Idx → Elt F .f32) :
    (bigSep Finset.univ (fun r : Fin 8 => aLoc d ↦[aSet i r]{fullShare} g) : sProp 𝕄)
      = iprop(((aC i 0#32 (k1_off11_inb i 0)).view.loc (VT d i) ↦[(aC i 0#32 (k1_off11_inb i 0)).view.set]{fullShare} g)
          ∗ ((aC i 32#32 (k1_off11_inb i 1)).view.loc (VT d i) ↦[(aC i 32#32 (k1_off11_inb i 1)).view.set]{fullShare} g)
          ∗ ((aC i 64#32 (k1_off11_inb i 2)).view.loc (VT d i) ↦[(aC i 64#32 (k1_off11_inb i 2)).view.set]{fullShare} g)
          ∗ ((aC i 96#32 (k1_off11_inb i 3)).view.loc (VT d i) ↦[(aC i 96#32 (k1_off11_inb i 3)).view.set]{fullShare} g)
          ∗ ((aC i 128#32 (k1_off11_inb i 4)).view.loc (VT d i) ↦[(aC i 128#32 (k1_off11_inb i 4)).view.set]{fullShare} g)
          ∗ ((aC i 160#32 (k1_off11_inb i 5)).view.loc (VT d i) ↦[(aC i 160#32 (k1_off11_inb i 5)).view.set]{fullShare} g)
          ∗ ((aC i 192#32 (k1_off11_inb i 6)).view.loc (VT d i) ↦[(aC i 192#32 (k1_off11_inb i 6)).view.set]{fullShare} g)
          ∗ ((aC i 224#32 (k1_off11_inb i 7)).view.loc (VT d i) ↦[(aC i 224#32 (k1_off11_inb i 7)).view.set]{fullShare} g)) := by
  rw [show (Finset.univ : Finset (Fin 8)) = {0, 1, 2, 3, 4, 5, 6, 7} by decide]
  iterate 7 rw [SparseCore.bigSep_insert' (by decide)]
  rw [bigSep_singleton]
  rfl

theorem tile_body (d : Dev nD) (c : Fin (grid1.bound 0)) (s : Fin (grid1.bound 1)) (hF : (K (F := F)).Facts)
    (Fv : S8192x128.Idx → Elt F .f32) (ga : S8192x1024.Idx → Elt F .f32)
    (O : CellTallies nD τ sig (HIx 1)) (W : Waits sig (HIx 1)) (hO : ∀ g, O g none = 0) :
    iprop(levAts (K (F := F)).L (K (F := F)).lev ∗ emp ∗ pieces d Fv ga c s
        ∗ scopedBufs (VT d (coordsV c s)) ∗ scopedSems0 (VT d (coordsV c s)) ∗ owes (VT d (coordsV c s)) O W)
      ⊢ wp frame (wpE (defs₀ (F := F)) 𝒱₀ (VT d (coordsV c s)) none) Set.univ
          (cc1_build (coordsV c s) vV (Memref.isWhole_whole _) zV (Memref.isWhole_whole _) aV (Memref.isWhole_whole _)
            lV (Memref.isWhole_whole _) rV (Memref.isWhole_whole _) cc1_scratch2 cc1_scratch3 cc1_scoped0 cc1_scoped1 cc1_scoped2)
          fun _ => iprop(pieces d Fv (dense Fv) c s
            ∗ scopedBufs (VT d (coordsV c s)) ∗ scopedSems0 (VT d (coordsV c s))
            ∗ ∃ W', ⌜∀ p ∈ W', p ∈ W ∨ p.2 = none ∨ p.2 = some (0 : Fin 1)⌝ ∗ owes (VT d (coordsV c s)) O W') := by
  rw [(K (F := F)).scopedBufs_V hF d (cI (coordsV c s)) (sI (coordsV c s)),
    SparseCore.Cfg.scopedSems0_V (Val := Elt F) d (cI (coordsV c s)) (sI (coordsV c s)), ownSems0_V, ownBufs_V]
  unfold pieces
  rw [chunks8 (F := F) d (coordsV c s) ga, chunks8 (F := F) d (coordsV c s) (dense Fv)]
  iintro ⟨#Hlv, -, ⟨Hv, Hz, HA0, HA1, HA2, HA3, HA4, HA5, HA6, HA7⟩, ⟨⟨%g0, HL⟩, ⟨%t0, HR⟩, Hbufs⟩, ⟨HC, Hsems⟩, HO⟩
  ihave Hmw := (show levAts (K (F := F)).L (K (F := F)).lev ⊢ Transfers.MayWaits (VT d (coordsV c s)) (default : HIx 1) O from
    (K (F := F)).mayWaits_none (thr := VT d (coordsV c s)) hO) $$ Hlv
  ihave HL' := (Entails.of_eq (pts_lV (F := F) d (coordsV c s) g0)) $$ HL
  ihave HR' := (halves (F := F) d (coordsV c s) t0).1 $$ HR
  icases HR' with ⟨HR0, HR1⟩
  iapply (wp_wand_r Idealize.ShloMosaic.frame (wpE (defs₀ (F := F)) 𝒱₀ (VT d (coordsV c s)) none) Set.univ)
  isplitl [Hv Hz HA0 HA1 HA2 HA3 HA4 HA5 HA6 HA7 HL' HR0 HR1 HC HO]
  · iapply (tile_run d (coordsV c s) O W Fv (zq c s) ga g0 t0)
    isplitr; · iexact Hmw
    isplitl [Hv]; · iexact Hv
    isplitl [Hz]; · iexact Hz
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HL']; · iexact HL'
    isplitl [HR0]; · iexact HR0
    isplitl [HR1]; · iexact HR1
    isplitl [HC]; · iexact HC
    iexact HO
  iintro %_ ⟨Hv, Hz, HA0, HA1, HA2, HA3, HA4, HA5, HA6, HA7, ⟨%g1, HL⟩, ⟨%t1, HR0⟩, ⟨%t2, HR1⟩, HC, ⟨%W', HO⟩⟩
  ihave HR := (halves_join (F := F) d (coordsV c s) t1 t2) $$ [HR0 HR1]
  · isplitl [HR0]; · iexact HR0
    iexact HR1
  isplitl [Hv Hz HA0 HA1 HA2 HA3 HA4 HA5 HA6 HA7]
  · isplitl [Hv]; · iexact Hv
    isplitl [Hz]; · iexact Hz
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    iexact HA7
  isplitl [HL HR Hbufs]
  · isplitl [HL]; · iexists g1; iexact HL
    isplitl [HR]; · iexact HR
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 1 ()
      = SparseCore.onTile hcore1 hsub1 (fun c s => cc1_build (coordsV c s)
          vV (Memref.isWhole_whole _) zV (Memref.isWhole_whole _) aV (Memref.isWhole_whole _)
          lV (Memref.isWhole_whole _) rV (Memref.isWhole_whole _) cc1_scratch2 cc1_scratch3 cc1_scoped0 cc1_scoped1 cc1_scoped2) ⟨⟩ c s := rfl

theorem tileObl (hF : (K (F := F)).Facts) : (K (F := F)).TileObl (D (F := F)) 𝒱 (P Fv ga) v₀ 0 := by
  intro d c i O W hO _ _
  simp only [show (P Fv ga).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body d ⟨_, hci.1⟩ ⟨_, hci.2⟩ hF (Fv d) (ga d) O W hO

/-! ## The arrays and their pieces -/

theorem vRow_set (c : Fin 2) (s : Fin 16) (y : S8192x128.Idx) :
    y ∈ vSet (coordsV c s) ↔ (s.val * 2 + c.val) * 256 ≤ (y 0).val ∧ (y 0).val < (s.val * 2 + c.val) * 256 + 256 := by
  have e := off1_eq (coordsV c s)
  refine Iff.trans (Iff.of_eq (congrArg (y ∈ ·) (View.set_slice_whole _ _))) ?_
  rw [Rect.mem_set_unit]
  have h1 : (y 1).val < 128 := (y 1).isLt
  rw [e]
  constructor
  · intro h; exact h 0
  · intro h a
    fin_cases a
    · exact h
    · exact ⟨Nat.zero_le _, by show (y 1).val < 0 + 128; omega⟩

theorem aChunk_set (c : Fin 2) (s : Fin 16) (r : Fin 8) (y : S8192x1024.Idx) :
    y ∈ aSet (coordsV c s) r ↔ (s.val * 2 + c.val) * 256 + 32 * r.val ≤ (y 0).val ∧ (y 0).val < (s.val * 2 + c.val) * 256 + 32 * r.val + 32 := by
  have e := off11_eq (coordsV c s) r
  refine Iff.trans (Iff.of_eq (congrArg (y ∈ ·) (View.set_slice_whole _ _))) ?_
  rw [Rect.mem_set_unit]
  have h1 : (y 1).val < 1024 := (y 1).isLt
  rw [e]
  constructor
  · intro h; exact h 0
  · intro h a
    fin_cases a
    · exact h
    · exact ⟨Nat.zero_le _, by show (y 1).val < 0 + 1024; omega⟩

theorem pts_rows (d : Dev nD) (f : S8192x128.Idx → Elt F .f32) :
    (vLoc d ↦{fullShare} f : sProp 𝕄) = bigSep Finset.univ fun p : Fin 2 × Fin 16 => vLoc d ↦[vSet (coordsV p.1 p.2)]{fullShare} f := by
  rw [← pointsTo_biUnion Finset.univ (ℓ := vLoc d) (fun p : Fin 2 × Fin 16 => vSet (coordsV p.1 p.2)) ?_]
  · rw [show ((Finset.univ : Finset (Fin 2 × Fin 16)).biUnion fun p => vSet (coordsV p.1 p.2)) = (Finset.univ : Finset S8192x128.Idx) from ?_]
    refine Finset.eq_univ_of_forall fun y => Finset.mem_biUnion.mpr ?_
    have h0 : (y 0).val < 8192 := (y 0).isLt
    refine ⟨(⟨(y 0).val / 256 % 2, by omega⟩, ⟨(y 0).val / 256 / 2, by omega⟩), Finset.mem_univ _, ?_⟩
    rw [vRow_set]; dsimp only; omega
  · rintro ⟨c, s⟩ _ ⟨c', s'⟩ _ hne
    refine Finset.disjoint_left.mpr fun y h h' => hne ?_
    rw [vRow_set] at h h'
    have := c.isLt; have := c'.isLt
    exact Prod.ext (Fin.ext (by dsimp only at *; omega)) (Fin.ext (by dsimp only at *; omega))

theorem pts_chunks (d : Dev nD) (f : S8192x1024.Idx → Elt F .f32) :
    (aLoc d ↦{fullShare} f : sProp 𝕄) = bigSep Finset.univ fun p : Fin 2 × Fin 16 =>
      bigSep Finset.univ fun r : Fin 8 => aLoc d ↦[aSet (coordsV p.1 p.2) r]{fullShare} f := by
  rw [← BI.bigSep_univ_prod (fun p : (Fin 2 × Fin 16) × Fin 8 => (aLoc d ↦[aSet (coordsV p.1.1 p.1.2) p.2]{fullShare} f : sProp 𝕄)),
    ← pointsTo_biUnion Finset.univ (ℓ := aLoc d) (fun p : (Fin 2 × Fin 16) × Fin 8 => aSet (coordsV p.1.1 p.1.2) p.2) ?_]
  · rw [show ((Finset.univ : Finset ((Fin 2 × Fin 16) × Fin 8)).biUnion fun p => aSet (coordsV p.1.1 p.1.2) p.2) = (Finset.univ : Finset S8192x1024.Idx) from ?_]
    refine Finset.eq_univ_of_forall fun y => Finset.mem_biUnion.mpr ?_
    have h0 : (y 0).val < 8192 := (y 0).isLt
    refine ⟨((⟨(y 0).val / 256 % 2, by omega⟩, ⟨(y 0).val / 256 / 2, by omega⟩), ⟨(y 0).val % 256 / 32, by omega⟩), Finset.mem_univ _, ?_⟩
    rw [aChunk_set]; dsimp only; omega
  · rintro ⟨⟨c, s⟩, r⟩ _ ⟨⟨c', s'⟩, r'⟩ _ hne
    refine Finset.disjoint_left.mpr fun y h h' => hne ?_
    rw [aChunk_set] at h h'
    have := c.isLt; have := c'.isLt; have := r.isLt; have := r'.isLt
    exact Prod.ext (Prod.ext (Fin.ext (by dsimp only at *; omega)) (Fin.ext (by dsimp only at *; omega))) (Fin.ext (by dsimp only at *; omega))

end Cert.Proof.KI
-- ==== Proof.TcBody.lean ====
/- The two bodies on the TensorCore, run once each: from their windows' staging buffers at any contents they
   return with the inputs as they were and the outputs at the stated functions of them. -/
module

public import proofs.«01_k».proof.Proof.Call
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.VecWindow
public import Idealize.ShloMosaic.Lib.Tactic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What the bodies compute -/

section
variable (x : Vec F S1x384x1024 .f32) (wq : Vec F S48x384 .f32) (bq : Vec F S48x1 .f32) (wk : Vec F S48x384 .f32) (bk : Vec F S48x1 .f32)

/-- Queries and keys of one image, and the row and column numbers of its pixels. -/
def qF : FVec F S48x1024 .f32 := k0_pay3 x wq bq
def kF : FVec F S48x1024 .f32 := k0_pay4 x wk bk
def pixI : IVec S1x1024 32 := iota .tc S1x1024 32 [1] iota_S1x1024_d1_w32
def rowI : IVec S1x1024 32 := k0_pay5
def colI : IVec S1x1024 32 := k0_pay6 pixI

/-- The exponentials of the nine neighbours' energies, shifted by their maximum. -/
def expF : FVec F S9x1024 .f32 :=
  k0_pay26 (qF x wq bq) (kF x wk bk) (rowI) (colI) (k0_pay7 (qF x wq bq) (kF x wk bk) pixI (rowI))
    (k0_pay9 (qF x wq bq) (kF x wk bk) (rowI) (colI) (k0_pay8 (kF x wk bk)))
    (k0_pay13 (colI) (k0_pay10 (qF x wq bq) (kF x wk bk)) (k0_pay11 (rowI)) (k0_pay12 (colI)) 0#32)
    (k0_pay14 (qF x wq bq) (kF x wk bk) (rowI) (colI))
    (k0_pay17 (rowI) (colI) (k0_pay15 (qF x wq bq) (kF x wk bk)) (k0_pay16 (rowI)))
    (k0_pay21 (k0_pay18 (qF x wq bq) (kF x wk bk)) (k0_pay19 (rowI) (colI)) (k0_pay20 (F := F)))
    (k0_pay22 (qF x wq bq) (kF x wk bk) (rowI) (colI))
    (k0_pay23 (qF x wq bq) (kF x wk bk)) (k0_pay24 (rowI)) (k0_pay25)

/-- The attention of one image, sixteen rows of which nine are used. -/
def attnF : FVec F S1x16x1024 .f32 := k0_pay28 (expF x wq bq wk bk)

def dstI : IVec S1024x128 32 := iota .tc S1024x128 32 [0] iota_S1024x128_d0_w32
def laneI : IVec S1024x128 32 := iota .tc S1024x128 32 [1] iota_S1024x128_d1_w32
/-- The lane's offset from the pixel, as a neighbour's offset. -/
def relI : IVec S1024x128 32 := k0_pay31 dstI laneI (k0_pay30) 0#32

/-- The windows of one image: each pixel's row of the dense attention, cut to 128 columns. -/
def valsF (s : Vec F S16x16 .f32) : FVec F S1x1024x128 .f32 :=
  k0_pay1 (k0_pay29 (expF x wq bq wk bk) s) (relI) (k0_pay32 (k0_pay29 (expF x wq bq wk bk) s) dstI laneI (k0_pay30) 0#32)
    (k0_pay33)

/-- The second body's result for one image. -/
def outF (a : Vec F S1x16x1024 .f32) (wv : Vec F S384x384 .f32) (bv : Vec F S384x1 .f32) (g : Vec F S1x1 .f32) : FVec F S1x384x1024 .f32 :=
  k2_pay1 (k2_pay2 x) (k2_pay3 x wv bv) (k2_pay4 a) (k2_pay5 x wv bv) (k2_pay6 x wv bv) (k2_pay7 x wv bv a) (k2_pay8 (F := F)) (k2_pay9 a) g

end

/-- The first body with its parts put together: its loads and stores over the functions above. -/
theorem attn_flat (i : grid0.Coords) (arg1 : Memref sig .tc .vmem S1x384x1024 .f32) (harg1 : arg1.IsWhole) (arg2 : Memref sig .tc .vmem S48x384 .f32) (harg2 : arg2.IsWhole) (arg3 : Memref sig .tc .vmem S48x1 .f32) (harg3 : arg3.IsWhole) (arg4 : Memref sig .tc .vmem S48x384 .f32) (harg4 : arg4.IsWhole) (arg5 : Memref sig .tc .vmem S48x1 .f32) (harg5 : arg5.IsWhole) (arg6 : Memref sig .tc .vmem S16x16 .f32) (harg6 : arg6.IsWhole) (arg7 : Memref sig .tc .vmem S1x16x1024 .f32) (harg7 : arg7.IsWhole) (arg8 : Memref sig .tc .vmem S1x1024x128 .f32) (harg8 : arg8.IsWhole) :
    cc0__attn_body (F := F) i arg1 harg1 arg2 harg2 arg3 harg3 arg4 harg4 arg5 harg5 arg6 harg6 arg7 harg7 arg8 harg8 = (do
      let v0 : Vec F S1x384x1024 .f32 ← Prog.lift (.load arg1 (Rect.unit (s := S1x384x1024) ![0, 0, 0] S1x384x1024.size inb_S1x384x1024_S1x384x1024_0_0_0).toLoadRect (View.loadsAt_vmem h_S1x384x1024))
      let v2 : Vec F S48x384 .f32 ← Prog.lift (.load arg2 (Rect.unit (s := S48x384) ![0, 0] S48x384.size inb_S48x384_S48x384_0_0).toLoadRect (View.loadsAt_vmem h_S48x384))
      let v4 : Vec F S48x1 .f32 ← Prog.lift (.load arg3 (Rect.unit (s := S48x1) ![0, 0] S48x1.size inb_S48x1_S48x1_0_0).toLoadRect (View.loadsAt_vmem h_S48x1))
      let v8 : Vec F S48x384 .f32 ← Prog.lift (.load arg4 (Rect.unit (s := S48x384) ![0, 0] S48x384.size inb_S48x384_S48x384_0_0).toLoadRect (View.loadsAt_vmem h_S48x384))
      let v10 : Vec F S48x1 .f32 ← Prog.lift (.load arg5 (Rect.unit (s := S48x1) ![0, 0] S48x1.size inb_S48x1_S48x1_0_0).toLoadRect (View.loadsAt_vmem h_S48x1))
      let _v307 : Vec F S1x16x1024 .f32 ← Prog.lift (.load arg7 (Rect.unit (s := S1x16x1024) ![0, 0, 0] S1x16x1024.size inb_S1x16x1024_S1x16x1024_0_0_0).toLoadRect (View.loadsAt_vmem h_S1x16x1024))
      Prog.lift (.store arg7 (Rect.unit (s := S1x16x1024) ![0, 0, 0] S1x16x1024.size inb_S1x16x1024_S1x16x1024_0_0_0) (attnF v0 v2 v4 v8 v10) Finset.univ (View.stores_vmem_bits_univ h_S1x16x1024 rfl) (.inl rfl))
      let v310 : Vec F S16x16 .f32 ← Prog.lift (.load arg6 (Rect.unit (s := S16x16) ![0, 0] S16x16.size inb_S16x16_S16x16_0_0).toLoadRect (View.loadsAt_vmem h_S16x16))
      let _v404 : Vec F S1x1024x128 .f32 ← Prog.lift (.load arg8 (Rect.unit (s := S1x1024x128) ![0, 0, 0] S1x1024x128.size inb_S1x1024x128_S1x1024x128_0_0_0).toLoadRect (View.loadsAt_vmem h_S1x1024x128))
      Prog.lift (.store arg8 (Rect.unit (s := S1x1024x128) ![0, 0, 0] S1x1024x128.size inb_S1x1024x128_S1x1024x128_0_0_0) (valsF v0 v2 v4 v8 v10 v310) Finset.univ (View.stores_vmem_bits_univ h_S1x1024x128 rfl) (.inl rfl))
      pure ⟨⟩ : Prog (TpuEff nD τ sig (Elt F) Λ₀ .tc) PUnit) := by
  rw [cc0__attn_body_eq_skeleton]; unfold cc0__attn_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [bind_assoc, pure_bind]
  unfold attnF valsF expF qF kF relI rowI colI pixI dstI laneI
  rfl

/-! ## The runs -/

set_option maxRecDepth 65536 in
theorem attn_run (d : Dev nD) (i : grid0.Coords) (arg1 : Memref sig .tc .vmem S1x384x1024 .f32) (harg1 : arg1.IsWhole) (arg2 : Memref sig .tc .vmem S48x384 .f32) (harg2 : arg2.IsWhole) (arg3 : Memref sig .tc .vmem S48x1 .f32) (harg3 : arg3.IsWhole) (arg4 : Memref sig .tc .vmem S48x384 .f32) (harg4 : arg4.IsWhole) (arg5 : Memref sig .tc .vmem S48x1 .f32) (harg5 : arg5.IsWhole) (arg6 : Memref sig .tc .vmem S16x16 .f32) (harg6 : arg6.IsWhole) (arg7 : Memref sig .tc .vmem S1x16x1024 .f32) (harg7 : arg7.IsWhole) (arg8 : Memref sig .tc .vmem S1x1024x128 .f32) (harg8 : arg8.IsWhole)
    (X1 : Vec F S1x384x1024 .f32) (X2 : Vec F S48x384 .f32) (X3 : Vec F S48x1 .f32) (X4 : Vec F S48x384 .f32) (X5 : Vec F S48x1 .f32) (X6 : Vec F S16x16 .f32) (Q : PUnit → sProp 𝕄) :
    iprop(owns (T d) arg1 fullShare X1 ∗ owns (T d) arg2 fullShare X2 ∗ owns (T d) arg3 fullShare X3 ∗ owns (T d) arg4 fullShare X4 ∗ owns (T d) arg5 fullShare X5 ∗ owns (T d) arg6 fullShare X6 ∗ (∃ e, owns (T d) arg7 fullShare e) ∗ (∃ e, owns (T d) arg8 fullShare e)
      ∗ (iprop(owns (T d) arg1 fullShare X1 ∗ owns (T d) arg2 fullShare X2 ∗ owns (T d) arg3 fullShare X3 ∗ owns (T d) arg4 fullShare X4 ∗ owns (T d) arg5 fullShare X5 ∗ owns (T d) arg6 fullShare X6 ∗ owns (T d) arg7 fullShare (attnF X1 X2 X3 X4 X5) ∗ owns (T d) arg8 fullShare (valsF X1 X2 X3 X4 X5 X6)) -∗ Q ⟨⟩))
    ⊢ wp frame (wpE (defs₀ (F := F)) 𝒱₀ (T d) none) Set.univ (cc0__attn_body i arg1 harg1 arg2 harg2 arg3 harg3 arg4 harg4 arg5 harg5 arg6 harg6 arg7 harg7 arg8 harg8) Q := by
  rw [attn_flat]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%e7, %f7, -, H7⟩, ⟨%e8, %f8, -, H8⟩, Hk⟩
  subst hf1
  subst hf2
  subst hf3
  subst hf4
  subst hf5
  subst hf6
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    refine (View.read_writes_full _ _ _ _ _).trans ?_
    rw [← View.readAt_full arg1.view f1 inb_S1x384x1024_S1x384x1024_0_0_0, ← View.readAt_full arg2.view f2 inb_S48x384_S48x384_0_0, ← View.readAt_full arg3.view f3 inb_S48x1_S48x1_0_0, ← View.readAt_full arg4.view f4 inb_S48x384_S48x384_0_0, ← View.readAt_full arg5.view f5 inb_S48x1_S48x1_0_0]
  iexists _; isplitr; swap; · iexact H8
  ipureintro
  refine (View.read_writes_full _ _ _ _ _).trans ?_
  rw [← View.readAt_full arg1.view f1 inb_S1x384x1024_S1x384x1024_0_0_0, ← View.readAt_full arg2.view f2 inb_S48x384_S48x384_0_0, ← View.readAt_full arg3.view f3 inb_S48x1_S48x1_0_0, ← View.readAt_full arg4.view f4 inb_S48x384_S48x384_0_0, ← View.readAt_full arg5.view f5 inb_S48x1_S48x1_0_0, ← View.readAt_full arg6.view f6 inb_S16x16_S16x16_0_0]

set_option maxRecDepth 65536 in
theorem out_run (d : Dev nD) (i : grid2.Coords) (arg1 : Memref sig .tc .vmem S1x384x1024 .f32) (harg1 : arg1.IsWhole) (arg2 : Memref sig .tc .vmem S1x16x1024 .f32) (harg2 : arg2.IsWhole) (arg3 : Memref sig .tc .vmem S384x384 .f32) (harg3 : arg3.IsWhole) (arg4 : Memref sig .tc .vmem S384x1 .f32) (harg4 : arg4.IsWhole) (arg5 : Memref sig .tc .vmem S1x1 .f32) (harg5 : arg5.IsWhole) (arg6 : Memref sig .tc .vmem S1x384x1024 .f32) (harg6 : arg6.IsWhole)
    (X1 : Vec F S1x384x1024 .f32) (X2 : Vec F S1x16x1024 .f32) (X3 : Vec F S384x384 .f32) (X4 : Vec F S384x1 .f32) (X5 : Vec F S1x1 .f32) (Q : PUnit → sProp 𝕄) :
    iprop(owns (T d) arg1 fullShare X1 ∗ owns (T d) arg2 fullShare X2 ∗ owns (T d) arg3 fullShare X3 ∗ owns (T d) arg4 fullShare X4 ∗ owns (T d) arg5 fullShare X5 ∗ (∃ e, owns (T d) arg6 fullShare e)
      ∗ (iprop(owns (T d) arg1 fullShare X1 ∗ owns (T d) arg2 fullShare X2 ∗ owns (T d) arg3 fullShare X3 ∗ owns (T d) arg4 fullShare X4 ∗ owns (T d) arg5 fullShare X5 ∗ owns (T d) arg6 fullShare (outF X1 X2 X3 X4 X5)) -∗ Q ⟨⟩))
    ⊢ wp frame (wpE (defs₀ (F := F)) 𝒱₀ (T d) none) Set.univ (cc2__out_body i arg1 harg1 arg2 harg2 arg3 harg3 arg4 harg4 arg5 harg5 arg6 harg6) Q := by
  rw [cc2__out_body_eq_skeleton]; unfold cc2__out_body_skel
  simp only [k2_part1_eq_skeleton]
  unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%e6, %f6, -, H6⟩, Hk⟩
  subst hf1
  subst hf2
  subst hf3
  subst hf4
  subst hf5
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  iexists _; isplitr; swap; · iexact H6
  ipureintro
  refine (View.read_writes_full _ _ _ _ _).trans ?_
  rw [← View.readAt_full arg1.view f1 inb_S1x384x1024_S1x384x1024_0_0_0, ← View.readAt_full arg2.view f2 inb_S1x16x1024_S1x16x1024_0_0_0, ← View.readAt_full arg3.view f3 inb_S384x384_S384x384_0_0, ← View.readAt_full arg4.view f4 inb_S384x1_S384x1_0_0, ← View.readAt_full arg5.view f5 inb_S1x1_S1x1_0_0]
  rfl

end Cert.Proof.KI
-- ==== Proof.TcRegion.lean ====
/- The two calls on the TensorCore as regions of @main: entered with every unscoped buffer at a valuation and
   left with the results' arrays written, the waits recorded meanwhile at the lowest level. -/
module

public import proofs.«01_k».proof.Proof.TcBody
public import Idealize.ShloMosaic.Lib.Pipeline.RegionArraysS

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.Pipeline (Dat BodyObligation)

abbrev adm : (p : Fin 2) → (pcfgs (F := F) p).Adm := fun p => (cfgs p).toPCfg_adm

theorem Otc_none (d : Dev nD) (n : ℕ) (g : GSem nD τ sig) : (K (F := F)).Otc d n g none = 0 := by
  by_contra h
  have := SparseCore.Cfg.lev_of_Otc_pos (Nat.pos_of_ne_zero h)
  rw [SparseCore.Cfg.lev_none] at this
  omega

/-- The waits a TensorCore may have recorded before SparseCore call `n`. -/
abbrev recAt (c : Dev nD) (n : ℕ) : Set (SemLoc sig × HIx 1) := {q | (K (F := F)).lev (T c, q.1) q.2 ≤ 8 * n}

variable (W : Dev nD → Valuation τ sig (Elt F)) (n : ℕ)

/-! ## Call 0 -/

abbrev in0_0 (c : Dev nD) (t : Fin cfg0.N) : Vec F S1x384x1024 .f32 := ((cfg0.win 0).blk t).view.read (Elt F) (W c (Proc.devRef .tc (Pipeline.arrRef spec0 0)))
abbrev in0_1 (c : Dev nD) (t : Fin cfg0.N) : Vec F S48x384 .f32 := ((cfg0.win 1).blk t).view.read (Elt F) (W c (Proc.devRef .tc (Pipeline.arrRef spec0 1)))
abbrev in0_2 (c : Dev nD) (t : Fin cfg0.N) : Vec F S48x1 .f32 := ((cfg0.win 2).blk t).view.read (Elt F) (W c (Proc.devRef .tc (Pipeline.arrRef spec0 2)))
abbrev in0_3 (c : Dev nD) (t : Fin cfg0.N) : Vec F S48x384 .f32 := ((cfg0.win 3).blk t).view.read (Elt F) (W c (Proc.devRef .tc (Pipeline.arrRef spec0 3)))
abbrev in0_4 (c : Dev nD) (t : Fin cfg0.N) : Vec F S48x1 .f32 := ((cfg0.win 4).blk t).view.read (Elt F) (W c (Proc.devRef .tc (Pipeline.arrRef spec0 4)))
abbrev in0_5 (c : Dev nD) (t : Fin cfg0.N) : Vec F S16x16 .f32 := ((cfg0.win 5).blk t).view.read (Elt F) (W c (Proc.devRef .tc (Pipeline.arrRef spec0 5)))
def res0_6 (c : Dev nD) (t : Fin cfg0.N) : FVec F S1x16x1024 .f32 := attnF (in0_0 W c t) (in0_1 W c t) (in0_2 W c t) (in0_3 W c t) (in0_4 W c t)
def res0_7 (c : Dev nD) (t : Fin cfg0.N) : FVec F S1x1024x128 .f32 := valsF (in0_0 W c t) (in0_1 W c t) (in0_2 W c t) (in0_3 W c t) (in0_4 W c t) (in0_5 W c t)

/-- The region's proof data: the arrays at the valuation, each output's block the body's function of the inputs' blocks. -/
def dat0 (c : Dev nD) : Dat τ (Elt F) (HIx 1) ℕ UU ℕ cfg0 c where
  A w := W c (Proc.devRef .tc (Pipeline.arrRef spec0 w))
  after w t := match w with
    | ⟨0, _⟩ => in0_0 W c t
    | ⟨1, _⟩ => in0_1 W c t
    | ⟨2, _⟩ => in0_2 W c t
    | ⟨3, _⟩ => in0_3 W c t
    | ⟨4, _⟩ => in0_4 W c t
    | ⟨5, _⟩ => in0_5 W c t
    | ⟨6, _⟩ => res0_6 W c t
    | ⟨7, _⟩ => res0_7 W c t
  Φ _ := Pipeline.scopedRest (Ix := HIx 1) (Name := ℕ) (U := UU) (Lvl := ℕ) (Val := Elt F) spec0 c
  q _ := fullShare
  owed _ := (K (F := F)).Otc c n
  recorded _ := recAt (F := F) c n

theorem before0_0 (c : Dev nD) (t : Fin cfg0.N) (d : (cfg0.win 0).block.Idx → Elt F (cfg0.win 0).elt) : (dat0 W n c).before 0 t d = in0_0 W c t :=
  (Dat.before_in_eq_fetched (dat0 W n c) 0 rfl (fun _ => rfl) (fun _ _ _ => rfl) (fun _ => rfl) t d).trans rfl
theorem before0_1 (c : Dev nD) (t : Fin cfg0.N) (d : (cfg0.win 1).block.Idx → Elt F (cfg0.win 1).elt) : (dat0 W n c).before 1 t d = in0_1 W c t :=
  (Dat.before_in_eq_fetched (dat0 W n c) 1 rfl (fun _ => rfl) (fun _ _ _ => rfl) (fun _ => rfl) t d).trans rfl
theorem before0_2 (c : Dev nD) (t : Fin cfg0.N) (d : (cfg0.win 2).block.Idx → Elt F (cfg0.win 2).elt) : (dat0 W n c).before 2 t d = in0_2 W c t :=
  (Dat.before_in_eq_fetched (dat0 W n c) 2 rfl (fun _ => rfl) (fun _ _ _ => rfl) (fun _ => rfl) t d).trans rfl
theorem before0_3 (c : Dev nD) (t : Fin cfg0.N) (d : (cfg0.win 3).block.Idx → Elt F (cfg0.win 3).elt) : (dat0 W n c).before 3 t d = in0_3 W c t :=
  (Dat.before_in_eq_fetched (dat0 W n c) 3 rfl (fun _ => rfl) (fun _ _ _ => rfl) (fun _ => rfl) t d).trans rfl
theorem before0_4 (c : Dev nD) (t : Fin cfg0.N) (d : (cfg0.win 4).block.Idx → Elt F (cfg0.win 4).elt) : (dat0 W n c).before 4 t d = in0_4 W c t :=
  (Dat.before_in_eq_fetched (dat0 W n c) 4 rfl (fun _ => rfl) (fun _ _ _ => rfl) (fun _ => rfl) t d).trans rfl
theorem before0_5 (c : Dev nD) (t : Fin cfg0.N) (d : (cfg0.win 5).block.Idx → Elt F (cfg0.win 5).elt) : (dat0 W n c).before 5 t d = in0_5 W c t :=
  (Dat.before_in_eq_fetched (dat0 W n c) 5 rfl (fun _ => rfl) (fun _ _ _ => rfl) (fun _ => rfl) t d).trans rfl

theorem body_row0 (t : Fin cfg0.N) : defs₀ (F := F) .tc cfg0.body (cfg0.bodyArgs t (cfg0.slots t)) = bodyAt0 t := rfl

def bodyPre0 (c : Dev nD) (t : Fin cfg0.N) : sProp 𝕄 :=
  iprop((dat0 W n c).Φ t.castSucc ∗ (dat0 W n c).owesAt none t.castSucc
    ∗ (∃ d, owns (T c) ((cfg0.win 0).stage (cfg0.slots t 0)) fullShare ((dat0 W n c).before 0 t d))
    ∗ (∃ d, owns (T c) ((cfg0.win 1).stage (cfg0.slots t 1)) fullShare ((dat0 W n c).before 1 t d))
    ∗ (∃ d, owns (T c) ((cfg0.win 2).stage (cfg0.slots t 2)) fullShare ((dat0 W n c).before 2 t d))
    ∗ (∃ d, owns (T c) ((cfg0.win 3).stage (cfg0.slots t 3)) fullShare ((dat0 W n c).before 3 t d))
    ∗ (∃ d, owns (T c) ((cfg0.win 4).stage (cfg0.slots t 4)) fullShare ((dat0 W n c).before 4 t d))
    ∗ (∃ d, owns (T c) ((cfg0.win 5).stage (cfg0.slots t 5)) fullShare ((dat0 W n c).before 5 t d))
    ∗ (∃ d, owns (T c) ((cfg0.win 6).stage (cfg0.slots t 6)) fullShare ((dat0 W n c).before 6 t d))
    ∗ (∃ d, owns (T c) ((cfg0.win 7).stage (cfg0.slots t 7)) fullShare ((dat0 W n c).before 7 t d)))
def bodyPost0 (c : Dev nD) (t : Fin cfg0.N) : sProp 𝕄 :=
  iprop((dat0 W n c).Φ t.succ ∗ (dat0 W n c).owesAt none t.succ
    ∗ owns (T c) ((cfg0.win 0).stage (cfg0.slots t 0)) fullShare ((dat0 W n c).after 0 t)
    ∗ owns (T c) ((cfg0.win 1).stage (cfg0.slots t 1)) fullShare ((dat0 W n c).after 1 t)
    ∗ owns (T c) ((cfg0.win 2).stage (cfg0.slots t 2)) fullShare ((dat0 W n c).after 2 t)
    ∗ owns (T c) ((cfg0.win 3).stage (cfg0.slots t 3)) fullShare ((dat0 W n c).after 3 t)
    ∗ owns (T c) ((cfg0.win 4).stage (cfg0.slots t 4)) fullShare ((dat0 W n c).after 4 t)
    ∗ owns (T c) ((cfg0.win 5).stage (cfg0.slots t 5)) fullShare ((dat0 W n c).after 5 t)
    ∗ owns (T c) ((cfg0.win 6).stage (cfg0.slots t 6)) fullShare ((dat0 W n c).after 6 t)
    ∗ owns (T c) ((cfg0.win 7).stage (cfg0.slots t 7)) fullShare ((dat0 W n c).after 7 t))

set_option maxHeartbeats 4000000 in
theorem sound0 (c : Dev nD) (t : Fin cfg0.N) :
    bodyPre0 W n c t ⊢ wp frame (wpE (defs₀ (F := F)) 𝒱₀ (T c) none) Set.univ (bodyAt0 t) (fun _ => bodyPost0 W n c t) := by
  unfold bodyPre0 bodyPost0 bodyAt0
  rw [show (dat0 W n c).Φ t.succ = (dat0 W n c).Φ t.castSucc from rfl,
    show (dat0 W n c).owesAt none t.succ = (dat0 W n c).owesAt none t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  rw [before0_0]
  rw [before0_1]
  rw [before0_2]
  rw [before0_3]
  rw [before0_4]
  rw [before0_5]
  iapply (attn_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) (in0_0 W c t) (in0_1 W c t) (in0_2 W c t) (in0_3 W c t) (in0_4 W c t) (in0_5 W c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation0 (c : Dev nD) : BodyObligation (dat0 W n c) (defs₀ (F := F)) 𝒱₀ none Set.univ := fun t => by
  rw [bigSep_W0, bigSep_W0, body_row0]
  exact triple_restated (sound0 W n c t) rfl .rfl fun _ => .rfl

/-! ## Call 1 -/

abbrev in2_0 (c : Dev nD) (t : Fin cfg2.N) : Vec F S1x384x1024 .f32 := ((cfg2.win 0).blk t).view.read (Elt F) (W c (Proc.devRef .tc (Pipeline.arrRef spec2 0)))
abbrev in2_1 (c : Dev nD) (t : Fin cfg2.N) : Vec F S1x16x1024 .f32 := ((cfg2.win 1).blk t).view.read (Elt F) (W c (Proc.devRef .tc (Pipeline.arrRef spec2 1)))
abbrev in2_2 (c : Dev nD) (t : Fin cfg2.N) : Vec F S384x384 .f32 := ((cfg2.win 2).blk t).view.read (Elt F) (W c (Proc.devRef .tc (Pipeline.arrRef spec2 2)))
abbrev in2_3 (c : Dev nD) (t : Fin cfg2.N) : Vec F S384x1 .f32 := ((cfg2.win 3).blk t).view.read (Elt F) (W c (Proc.devRef .tc (Pipeline.arrRef spec2 3)))
abbrev in2_4 (c : Dev nD) (t : Fin cfg2.N) : Vec F S1x1 .f32 := ((cfg2.win 4).blk t).view.read (Elt F) (W c (Proc.devRef .tc (Pipeline.arrRef spec2 4)))
def res2_5 (c : Dev nD) (t : Fin cfg2.N) : FVec F S1x384x1024 .f32 := outF (in2_0 W c t) (in2_1 W c t) (in2_2 W c t) (in2_3 W c t) (in2_4 W c t)

/-- The region's proof data: the arrays at the valuation, each output's block the body's function of the inputs' blocks. -/
def dat2 (c : Dev nD) : Dat τ (Elt F) (HIx 1) ℕ UU ℕ cfg2 c where
  A w := W c (Proc.devRef .tc (Pipeline.arrRef spec2 w))
  after w t := match w with
    | ⟨0, _⟩ => in2_0 W c t
    | ⟨1, _⟩ => in2_1 W c t
    | ⟨2, _⟩ => in2_2 W c t
    | ⟨3, _⟩ => in2_3 W c t
    | ⟨4, _⟩ => in2_4 W c t
    | ⟨5, _⟩ => res2_5 W c t
  Φ _ := Pipeline.scopedRest (Ix := HIx 1) (Name := ℕ) (U := UU) (Lvl := ℕ) (Val := Elt F) spec2 c
  q _ := fullShare
  owed _ := (K (F := F)).Otc c n
  recorded _ := recAt (F := F) c n

theorem before2_0 (c : Dev nD) (t : Fin cfg2.N) (d : (cfg2.win 0).block.Idx → Elt F (cfg2.win 0).elt) : (dat2 W n c).before 0 t d = in2_0 W c t :=
  (Dat.before_in_eq_fetched (dat2 W n c) 0 rfl (fun _ => rfl) (fun _ _ _ => rfl) (fun _ => rfl) t d).trans rfl
theorem before2_1 (c : Dev nD) (t : Fin cfg2.N) (d : (cfg2.win 1).block.Idx → Elt F (cfg2.win 1).elt) : (dat2 W n c).before 1 t d = in2_1 W c t :=
  (Dat.before_in_eq_fetched (dat2 W n c) 1 rfl (fun _ => rfl) (fun _ _ _ => rfl) (fun _ => rfl) t d).trans rfl
theorem before2_2 (c : Dev nD) (t : Fin cfg2.N) (d : (cfg2.win 2).block.Idx → Elt F (cfg2.win 2).elt) : (dat2 W n c).before 2 t d = in2_2 W c t :=
  (Dat.before_in_eq_fetched (dat2 W n c) 2 rfl (fun _ => rfl) (fun _ _ _ => rfl) (fun _ => rfl) t d).trans rfl
theorem before2_3 (c : Dev nD) (t : Fin cfg2.N) (d : (cfg2.win 3).block.Idx → Elt F (cfg2.win 3).elt) : (dat2 W n c).before 3 t d = in2_3 W c t :=
  (Dat.before_in_eq_fetched (dat2 W n c) 3 rfl (fun _ => rfl) (fun _ _ _ => rfl) (fun _ => rfl) t d).trans rfl
theorem before2_4 (c : Dev nD) (t : Fin cfg2.N) (d : (cfg2.win 4).block.Idx → Elt F (cfg2.win 4).elt) : (dat2 W n c).before 4 t d = in2_4 W c t :=
  (Dat.before_in_eq_fetched (dat2 W n c) 4 rfl (fun _ => rfl) (fun _ _ _ => rfl) (fun _ => rfl) t d).trans rfl

theorem body_row2 (t : Fin cfg2.N) : defs₀ (F := F) .tc cfg2.body (cfg2.bodyArgs t (cfg2.slots t)) = bodyAt2 t := rfl

def bodyPre2 (c : Dev nD) (t : Fin cfg2.N) : sProp 𝕄 :=
  iprop((dat2 W n c).Φ t.castSucc ∗ (dat2 W n c).owesAt none t.castSucc
    ∗ (∃ d, owns (T c) ((cfg2.win 0).stage (cfg2.slots t 0)) fullShare ((dat2 W n c).before 0 t d))
    ∗ (∃ d, owns (T c) ((cfg2.win 1).stage (cfg2.slots t 1)) fullShare ((dat2 W n c).before 1 t d))
    ∗ (∃ d, owns (T c) ((cfg2.win 2).stage (cfg2.slots t 2)) fullShare ((dat2 W n c).before 2 t d))
    ∗ (∃ d, owns (T c) ((cfg2.win 3).stage (cfg2.slots t 3)) fullShare ((dat2 W n c).before 3 t d))
    ∗ (∃ d, owns (T c) ((cfg2.win 4).stage (cfg2.slots t 4)) fullShare ((dat2 W n c).before 4 t d))
    ∗ (∃ d, owns (T c) ((cfg2.win 5).stage (cfg2.slots t 5)) fullShare ((dat2 W n c).before 5 t d)))
def bodyPost2 (c : Dev nD) (t : Fin cfg2.N) : sProp 𝕄 :=
  iprop((dat2 W n c).Φ t.succ ∗ (dat2 W n c).owesAt none t.succ
    ∗ owns (T c) ((cfg2.win 0).stage (cfg2.slots t 0)) fullShare ((dat2 W n c).after 0 t)
    ∗ owns (T c) ((cfg2.win 1).stage (cfg2.slots t 1)) fullShare ((dat2 W n c).after 1 t)
    ∗ owns (T c) ((cfg2.win 2).stage (cfg2.slots t 2)) fullShare ((dat2 W n c).after 2 t)
    ∗ owns (T c) ((cfg2.win 3).stage (cfg2.slots t 3)) fullShare ((dat2 W n c).after 3 t)
    ∗ owns (T c) ((cfg2.win 4).stage (cfg2.slots t 4)) fullShare ((dat2 W n c).after 4 t)
    ∗ owns (T c) ((cfg2.win 5).stage (cfg2.slots t 5)) fullShare ((dat2 W n c).after 5 t))

set_option maxHeartbeats 4000000 in
theorem sound2 (c : Dev nD) (t : Fin cfg2.N) :
    bodyPre2 W n c t ⊢ wp frame (wpE (defs₀ (F := F)) 𝒱₀ (T c) none) Set.univ (bodyAt2 t) (fun _ => bodyPost2 W n c t) := by
  unfold bodyPre2 bodyPost2 bodyAt2
  rw [show (dat2 W n c).Φ t.succ = (dat2 W n c).Φ t.castSucc from rfl,
    show (dat2 W n c).owesAt none t.succ = (dat2 W n c).owesAt none t.castSucc from rfl]
  iintro ⟨HΦ, HO, ⟨%d0, H0⟩, ⟨%d1, H1⟩, ⟨%d2, H2⟩, ⟨%d3, H3⟩, ⟨%d4, H4⟩, ⟨%d5, H5⟩⟩
  rw [before2_0]
  rw [before2_1]
  rw [before2_2]
  rw [before2_3]
  rw [before2_4]
  iapply (out_run c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) (in2_0 W c t) (in2_1 W c t) (in2_2 W c t) (in2_3 W c t) (in2_4 W c t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

theorem obligation2 (c : Dev nD) : BodyObligation (dat2 W n c) (defs₀ (F := F)) 𝒱₀ none Set.univ := fun t => by
  rw [bigSep_W2, bigSep_W2, body_row2]
  exact triple_restated (sound2 W n c t) rfl .rfl fun _ => .rfl

/-! ## The regions -/

/-- The proof data of both pipelines. -/
def pdats : (p : Fin 2) → (c : Dev nD) → Dat τ (Elt F) (HIx 1) ℕ UU ℕ (Pipeline.pin (pcfgs (F := F)) adm p) c
  | ⟨0, _⟩ => fun c => dat0 W n c
  | ⟨1, _⟩ => fun c => dat2 W n c

/-- What @main's thread holds between its steps: the unscoped buffers at a valuation and what it owes. -/
def stAt (V : Dev nD → Valuation τ sig (Elt F)) (c : Dev nD) : sProp 𝕄 :=
  iprop(StableHlo.held (T c) (Pipeline.ucRefs τ sig) (V c)
    ∗ ∃ Wt, ⌜(K (F := F)).WBelow (T c) Wt (8 * n)⌝ ∗ owes (T c) ((K (F := F)).Otc c n) Wt)

theorem waits_le {cfg : Pipeline.Cfg sig Λ₀} (c : Dev nD) (Wt : Waits sig (HIx 1))
    (h : ∀ p ∈ Wt, p ∈ recAt (F := F) c n ∪ cfg.waitPairs none) : (K (F := F)).WBelow (T c) Wt (8 * n) := by
  intro p hp
  rcases h p hp with h | ⟨w, s, h⟩
  · exact h
  · subst h
    rw [SparseCore.Cfg.lev_none]
    omega

theorem pdats_Φ0 (c : Dev nD) (t : Fin ((Pipeline.pin (pcfgs (F := F)) adm 0).N + 1)) :
    (pdats W n 0 c).Φ t = Pipeline.scopedRest (Ix := HIx 1) (Name := ℕ) (U := UU) (Lvl := ℕ) (Val := Elt F) spec0 c := rfl

/-- The region of call 0. -/
def reg0 : Pipeline.RegionSeg (pcfgs (F := F)) adm (pdats W n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 W n c).loose
  hwaits c := Pipeline.cellsWaits_intro (Pipeline.pin pcfgs adm) (pdats W n) none 0 c fun w s t =>
    (K (F := F)).mayWait_none _ (O := (K (F := F)).Otc c n) (Otc_none c n)
  pre := stAt n W
  post := stAt n fun c => Pipeline.afterRegion (pdats W n 0 c) (W c)
  X _ := BI.emp
  Y _ := BI.emp
  Z c := StableHlo.held (T c) (Pipeline.ucRefs τ sig \ Pipeline.arrRefs spec0) (W c)
  hentry c := by
    rw [Pipeline.ownSems0_none, Pipeline.prefHeld_of_none _ rfl]
    have ha := Pipeline.arrays_held (pcfgs (F := F)) adm (pdats W n) 0 launch0.toP c ((pdats W n 0 c).share_full fun _ => rfl)
      ((pdats W n 0 c).arrAt · 0) (W c) fun w => rfl
    rw [ha]
    unfold stAt
    rw [StableHlo.held_sub_split (T c) (Pipeline.arrRefs_sub_ucRefs spec0 winFacts0.arr_unscoped) (W c)]
    iintro ⟨⟨⟨Ha, Hr⟩, ⟨%Wt, %hW, HO⟩⟩, -, -⟩
    imodintro
    isplitl [Ha]; · iexact Ha
    isplitr; · iempintro
    isplitl [HO]
    · unfold Dat.owesAt Pipeline.owesWithin Dat.bound
      iexists Wt; isplitr; · ipureintro; exact fun p hp => Or.inl (hW p hp)
      iexact HO
    isplitr; · iempintro
    iexact Hr
  hin c := by
    rw [pdats_Φ0]
    iintro ⟨-, -, Hr⟩; iexact Hr
  hout c := by
    rw [Pipeline.ownSems0_none, pdats_Φ0]
    iintro Hr
    isplitr; · iempintro
    isplitr; · iempintro
    iexact Hr
  hexit c := by
    have ha := Pipeline.arrays_held (pcfgs (F := F)) adm (pdats W n) 0 launch0.toP c ((pdats W n 0 c).share_full fun _ => rfl)
      ((pdats W n 0 c).arrAt · (Pipeline.pin pcfgs adm 0).N) (Pipeline.afterRegion (pdats W n 0 c) (W c))
      fun w => (Pipeline.afterRegion_arr (pdats W n 0 c) (W c) launch0.win.arr_inj w).symm
    have hc : (StableHlo.held (T c) (Pipeline.ucRefs τ sig \ Pipeline.arrRefs spec0) (Pipeline.afterRegion (pdats W n 0 c) (W c)) : sProp 𝕄)
        = StableHlo.held (T c) (Pipeline.ucRefs τ sig \ Pipeline.arrRefs spec0) (W c) :=
      StableHlo.held_congr (T c) (Pipeline.afterRegion_off (pdats W n 0 c) (W c) (Pipeline.ucRefs τ sig))
    rw [ha]
    unfold stAt
    rw [StableHlo.held_sub_split (T c) (Pipeline.arrRefs_sub_ucRefs spec0 winFacts0.arr_unscoped) (Pipeline.afterRegion (pdats W n 0 c) (W c)), hc]
    iintro ⟨Ha, HO, -, Hr⟩
    imodintro
    isplitl [Ha Hr]
    · isplitl [Ha]; · iexact Ha
      iexact Hr
    unfold Dat.owesAt Pipeline.owesWithin Dat.bound
    icases HO with ⟨%Wt, %hW, HO⟩; iexists Wt; isplitr; · ipureintro; exact waits_le (cfg := cfg0) n c Wt hW
    iexact HO

theorem pdats_Φ2 (c : Dev nD) (t : Fin ((Pipeline.pin (pcfgs (F := F)) adm 1).N + 1)) :
    (pdats W n 1 c).Φ t = Pipeline.scopedRest (Ix := HIx 1) (Name := ℕ) (U := UU) (Lvl := ℕ) (Val := Elt F) spec2 c := rfl

/-- The region of call 1. -/
def reg2 : Pipeline.RegionSeg (pcfgs (F := F)) adm (pdats W n) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 W n c).loose
  hwaits c := Pipeline.cellsWaits_intro (Pipeline.pin pcfgs adm) (pdats W n) none 1 c fun w s t =>
    (K (F := F)).mayWait_none _ (O := (K (F := F)).Otc c n) (Otc_none c n)
  pre := stAt n W
  post := stAt n fun c => Pipeline.afterRegion (pdats W n 1 c) (W c)
  X _ := BI.emp
  Y _ := BI.emp
  Z c := StableHlo.held (T c) (Pipeline.ucRefs τ sig \ Pipeline.arrRefs spec2) (W c)
  hentry c := by
    rw [Pipeline.ownSems0_none, Pipeline.prefHeld_of_none _ rfl]
    have ha := Pipeline.arrays_held (pcfgs (F := F)) adm (pdats W n) 1 launch2.toP c ((pdats W n 1 c).share_full fun _ => rfl)
      ((pdats W n 1 c).arrAt · 0) (W c) fun w => rfl
    rw [ha]
    unfold stAt
    rw [StableHlo.held_sub_split (T c) (Pipeline.arrRefs_sub_ucRefs spec2 winFacts2.arr_unscoped) (W c)]
    iintro ⟨⟨⟨Ha, Hr⟩, ⟨%Wt, %hW, HO⟩⟩, -, -⟩
    imodintro
    isplitl [Ha]; · iexact Ha
    isplitr; · iempintro
    isplitl [HO]
    · unfold Dat.owesAt Pipeline.owesWithin Dat.bound
      iexists Wt; isplitr; · ipureintro; exact fun p hp => Or.inl (hW p hp)
      iexact HO
    isplitr; · iempintro
    iexact Hr
  hin c := by
    rw [pdats_Φ2]
    iintro ⟨-, -, Hr⟩; iexact Hr
  hout c := by
    rw [Pipeline.ownSems0_none, pdats_Φ2]
    iintro Hr
    isplitr; · iempintro
    isplitr; · iempintro
    iexact Hr
  hexit c := by
    have ha := Pipeline.arrays_held (pcfgs (F := F)) adm (pdats W n) 1 launch2.toP c ((pdats W n 1 c).share_full fun _ => rfl)
      ((pdats W n 1 c).arrAt · (Pipeline.pin pcfgs adm 1).N) (Pipeline.afterRegion (pdats W n 1 c) (W c))
      fun w => (Pipeline.afterRegion_arr (pdats W n 1 c) (W c) launch2.win.arr_inj w).symm
    have hc : (StableHlo.held (T c) (Pipeline.ucRefs τ sig \ Pipeline.arrRefs spec2) (Pipeline.afterRegion (pdats W n 1 c) (W c)) : sProp 𝕄)
        = StableHlo.held (T c) (Pipeline.ucRefs τ sig \ Pipeline.arrRefs spec2) (W c) :=
      StableHlo.held_congr (T c) (Pipeline.afterRegion_off (pdats W n 1 c) (W c) (Pipeline.ucRefs τ sig))
    rw [ha]
    unfold stAt
    rw [StableHlo.held_sub_split (T c) (Pipeline.arrRefs_sub_ucRefs spec2 winFacts2.arr_unscoped) (Pipeline.afterRegion (pdats W n 1 c) (W c)), hc]
    iintro ⟨Ha, HO, -, Hr⟩
    imodintro
    isplitl [Ha Hr]
    · isplitl [Ha]; · iexact Ha
      iexact Hr
    unfold Dat.owesAt Pipeline.owesWithin Dat.bound
    icases HO with ⟨%Wt, %hW, HO⟩; iexists Wt; isplitr; · ipureintro; exact waits_le (cfg := cfg2) n c Wt hW
    iexact HO

end Cert.Proof.KI
-- ==== Proof.Run.lean ====
/- The program's whole run: @main's host operations, the attention call, the call on the SparseCores between the
   row shares, the output call; what every unscoped buffer holds at the end. -/
module

public import proofs.«01_k».proof.Proof.TcRegion
public import Idealize.ShloMosaic.Lib.StableHlo.Run

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.Pipeline (ucRefs)

/-! ## @main's host operations, in the four stretches between its calls -/

abbrev opsA : List (HloOp τ sig (Elt F)) :=
  [StableHlo.reshape main_arg0 main_v0 (rfl : (.f32 : EltTy) = .f32) shapeCasts_S8x384x32x32_S8x384x1024,
   StableHlo.reshape main_arg2 main_v1 (rfl : (.f32 : EltTy) = .f32) shapeCasts_S48_S48x1,
   StableHlo.reshape main_arg4 main_v2 (rfl : (.f32 : EltTy) = .f32) shapeCasts_S48_S48x1,
   StableHlo.nullary main_v3 (iotaInDim S16x16 32 0),
   StableHlo.nullary main_v4 (iotaInDim S16x16 32 1),
   StableHlo.nullary main_c (constantI S_ 32 0#32),
   StableHlo.unary main_c main_v5 (broadcastInDim S16x16 ![] bcast_S_S16x16 : (⟨S_, .i32⟩ : BufTy).Contents (Elt F) → (⟨S16x16, .i32⟩ : BufTy).Contents (Elt F)),
   StableHlo.binary main_v3 main_v5 main_v6 (addi : (⟨S16x16, .i32⟩ : BufTy).Contents (Elt F) → (⟨S16x16, .i32⟩ : BufTy).Contents (Elt F) → (⟨S16x16, .i32⟩ : BufTy).Contents (Elt F)),
   StableHlo.binary main_v6 main_v4 main_v7 (cmpi .eq : (⟨S16x16, .i32⟩ : BufTy).Contents (Elt F) → (⟨S16x16, .i32⟩ : BufTy).Contents (Elt F) → (⟨S16x16, .i1⟩ : BufTy).Contents (Elt F)),
   StableHlo.unary main_v7 main_v8 (uitofp .f32 : (⟨S16x16, .i1⟩ : BufTy).Contents (Elt F) → (⟨S16x16, .f32⟩ : BufTy).Contents (Elt F))]
theorem opsA_sub : (opsA : List (HloOp τ sig (Elt F))).Forall fun op => op.bufs ⊆ StableHlo.tcRefs τ sig :=
  ⟨StableHlo.reshape_bufs_sub .., StableHlo.reshape_bufs_sub .., StableHlo.reshape_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub ..⟩
theorem opsA_fresh : (opsA : List (HloOp τ sig (Elt F))).Forall fun op => op.fresh = ∅ :=
  ⟨rfl, rfl, rfl, rfl, rfl, rfl, rfl, rfl, rfl, rfl⟩

abbrev opsB : List (HloOp τ sig (Elt F)) :=
  [StableHlo.nullary main_cst (constant S_ .f32 0x00000000#32),
   StableHlo.unary main_cst main_v10 (broadcastInDim S32x1024 ![] bcast_S_S32x1024 : (⟨S_, .f32⟩ : BufTy).Contents (Elt F) → (⟨S32x1024, .f32⟩ : BufTy).Contents (Elt F)),
   StableHlo.reshape main_v9_1 main_v11 (rfl : (.f32 : EltTy) = .f32) shapeCasts_S8x1024x128_S8192x128]
theorem opsB_sub : (opsB : List (HloOp τ sig (Elt F))).Forall fun op => op.bufs ⊆ StableHlo.tcRefs τ sig :=
  ⟨StableHlo.nullary_bufs_sub .., StableHlo.unary_bufs_sub .., StableHlo.reshape_bufs_sub ..⟩
theorem opsB_fresh : (opsB : List (HloOp τ sig (Elt F))).Forall fun op => op.fresh = ∅ :=
  ⟨rfl, rfl, rfl⟩

abbrev opsC : List (HloOp τ sig (Elt F)) :=
  [StableHlo.reshape main_arg6 main_v13 (rfl : (.f32 : EltTy) = .f32) shapeCasts_S384_S384x1,
   StableHlo.reshape main_arg7 main_v14 (rfl : (.f32 : EltTy) = .f32) shapeCasts_S1_S1x1]
theorem opsC_sub : (opsC : List (HloOp τ sig (Elt F))).Forall fun op => op.bufs ⊆ StableHlo.tcRefs τ sig :=
  ⟨StableHlo.reshape_bufs_sub .., StableHlo.reshape_bufs_sub ..⟩
theorem opsC_fresh : (opsC : List (HloOp τ sig (Elt F))).Forall fun op => op.fresh = ∅ :=
  ⟨rfl, rfl⟩

abbrev opsD : List (HloOp τ sig (Elt F)) :=
  [StableHlo.reshape main_v15 main_v16 (rfl : (.f32 : EltTy) = .f32) shapeCasts_S8x384x1024_S8x384x32x32,
   StableHlo.reshape main_v12 main_v17 (rfl : (.f32 : EltTy) = .f32) shapeCasts_S8192x1024_S8x1024x1024]
theorem opsD_sub : (opsD : List (HloOp τ sig (Elt F))).Forall fun op => op.bufs ⊆ StableHlo.tcRefs τ sig :=
  ⟨StableHlo.reshape_bufs_sub .., StableHlo.reshape_bufs_sub ..⟩
theorem opsD_fresh : (opsD : List (HloOp τ sig (Elt F))).Forall fun op => op.fresh = ∅ :=
  ⟨rfl, rfl⟩

/-- A line of host operations at the head of @main, over the unscoped buffers. -/
theorem wp_ops (d : Dev nD) (ops : List (HloOp τ sig (Elt F))) (hs : ops.Forall fun op => op.bufs ⊆ StableHlo.tcRefs τ sig)
    (hf : ops.Forall fun op => op.fresh = ∅) (V : Valuation τ sig (Elt F)) {β : Type}
    (k : PUnit → Prog (TpuEff nD τ sig (Elt F) (SparseCore.Sig (Pipeline.Sig Λ₀ (Fin 2) fun p => (pcfgs (F := F) p).Adm) 1) .tc) β) (Q : β → sProp 𝕄) :
    iprop((boundary (T d) ∗ StableHlo.held (T d) (ucRefs τ sig) V)
        ∗ ((boundary (T d) ∗ StableHlo.held (T d) (ucRefs τ sig) (StableHlo.after ops V)) -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  iintro ⟨H, Hk⟩
  iapply (StableHlo.wp_seq 𝒱 none Set.univ d (ucRefs τ sig) k ops
    (fun op h => Pipeline.sub_ucRefs op (List.forall_iff_forall_mem.mp hs op h)) (List.forall_iff_forall_mem.mp hf) V) $$ H
  iexact Hk

/-- @main: its lines of host operations and its three calls. -/
theorem main_eq (d : Dev nD) : main (F := F) d =
    (StableHlo.seq opsA >>= fun _ => .op (.customCall (SparseCore.inner (Pipeline.entry 0)) ()) fun _ =>
      StableHlo.seq opsB >>= fun _ => (K (F := F)).run d 0 >>= fun _ =>
      StableHlo.seq opsC >>= fun _ => .op (.customCall (SparseCore.inner (Pipeline.entry 1)) ()) fun _ =>
      StableHlo.seq opsD >>= fun _ => pure ⟨⟩) := by
  simp only [main, StableHlo.seq, Prog.lift, bind_assoc, pure_bind, Prog.bind_op, Prog.bind_ret]

/-! ## The contents of the unscoped buffers along @main -/

variable (m : (ℓ : Loc nD τ sig) → Buf (Elt F) ℓ) (ρ : Dev nD → PrngReg)

abbrev r' (r : Ref sig .tc) : DevRef τ sig := Proc.devRef .tc r

def V0 (d : Dev nD) : Valuation τ sig (Elt F) := fun b => m (d, b)
def VA (d : Dev nD) : Valuation τ sig (Elt F) := StableHlo.after opsA (V0 m d)
def VB (d : Dev nD) : Valuation τ sig (Elt F) := Pipeline.afterRegion (pdats (VA m) 0 0 d) (VA m d)
def VC (d : Dev nD) : Valuation τ sig (Elt F) := StableHlo.after opsB (VB m d)
def VD (d : Dev nD) : Valuation τ sig (Elt F) := Function.update (VC m d) (r' main_v12) (dense (VC m d (r' main_v11)))
def VE (d : Dev nD) : Valuation τ sig (Elt F) := StableHlo.after opsC (VD m d)
def VF (d : Dev nD) : Valuation τ sig (Elt F) := Pipeline.afterRegion (pdats (VE m) 1 1 d) (VE m d)
def VG (d : Dev nD) : Valuation τ sig (Elt F) := StableHlo.after opsD (VF m d)

theorem VC_zero (d : Dev nD) : VC m d (r' main_v10) = fun _ : S32x1024.Idx => zf := by
  unfold VC
  after_results_simp
  rfl

/-! ## The regions, in @main -/

/-- The pipelines' rounds library inside the certificate's component. -/
abbrev EP : Emb UP (MT nD τ sig (HIx 1) (Elt F) ℕ UU ℕ) := (Emb.inl : Emb UP (UP × Counters)).trans embR

abbrev PP : (K (F := F)).Pay (nD := nD) (Val := Elt F) (Name := ℕ) (U := UU) := P (fun d => VC m d (r' main_v11)) (fun d => VC m d (r' main_v12))

/-- The ghost state of pipeline `p` on device `d`. -/
abbrev gh (p : Fin 2) (d : Dev nD) : sProp 𝕄 :=
  iprop(Pipeline.cellsGhost (Pipeline.pin (pcfgs (F := F)) adm) EP p d ∗ Pipeline.toksInit (Pipeline.pin (pcfgs (F := F)) adm) EP p d)

theorem reg0_wp [∀ e, Nonempty (Elt F e)] (κ : GSem nD τ sig → ℕ) (W : Dev nD → Valuation τ sig (Elt F)) (n : ℕ) (d : Dev nD) {β : Type}
    (k : PUnit → Prog (TpuEff nD τ sig (Elt F) (SparseCore.Sig (Pipeline.Sig Λ₀ (Fin 2) fun p => (pcfgs (F := F) p).Adm) 1) .tc) β) (Q : β → sProp 𝕄) :
    iprop((K (F := F)).ctx EH (PP m) κ ∗ (boundary (T d) ∗ StableHlo.held (T d) (ucRefs τ sig) (W d)) ∗ (K (F := F)).tcSt EH d n ∗ gh 0 d
        ∗ ((boundary (T d) ∗ StableHlo.held (T d) (ucRefs τ sig) (Pipeline.afterRegion (pdats W n 0 d) (W d))) -∗ (K (F := F)).tcSt EH d n
            -∗ wp frame (wpE ((K (F := F)).defs (D (F := F))) 𝒱 (T d) none) Set.univ (k ⟨⟩) Q))
      ⊢ wp frame (wpE ((K (F := F)).defs (D (F := F))) 𝒱 (T d) none) Set.univ (.op (.customCall (SparseCore.inner (Pipeline.entry 0)) ()) k) Q := by
  unfold SparseCore.Cfg.tcSt
  iintro ⟨#Hctx, ⟨Hb, Hh⟩, ⟨HO, Hst⟩, ⟨Hg, Ht⟩, Hk⟩
  rw [show (Prog.op (.customCall (SparseCore.inner (Pipeline.entry 0)) ()) k : Prog (TpuEff nD τ sig (Elt F) (SparseCore.Sig (Pipeline.Sig Λ₀ (Fin 2) fun p => (pcfgs (F := F) p).Adm) 1) .tc) β)
    = SparseCore.liftProg (.op (.customCall (Pipeline.entry 0) ()) .ret) >>= k from rfl, wp_bind]
  iapply ((K (F := F)).wp_liftProg (D (F := F)) 𝒱 (T d) Set.univ none (.op (.customCall (Pipeline.entry 0) ()) .ret)
    (fun x => wp frame (wpE ((K (F := F)).defs (D (F := F))) 𝒱 (T d) none) Set.univ (k x) Q))
  iapply (Pipeline.RegionSeg.wp (pcfgs (F := F)) adm (pdats W n) none cellOf_inj EP defs₀ 𝒱₀ (K (F := F)).L (K (F := F)).lev (reg0 W n) d none
    (fun u h => nomatch h) .ret (fun x => wp frame (wpE ((K (F := F)).defs (D (F := F))) 𝒱 (T d) none) Set.univ (k x) Q))
  isplitl [Hk Hst]
  · rw [show (reg0 W n).post d = stAt n (fun c => Pipeline.afterRegion (pdats W n 0 c) (W c)) d from rfl]
    unfold stAt
    iintro ⟨Hb, Hh, HO⟩
    rw [wp_ret]; imodintro
    ispecialize Hk $$ [Hb Hh]
    · isplitl [Hb] <;> iassumption
    iapply Hk
    isplitl [HO]; · iexact HO
    iexact Hst
  isplitl [Hb]; · iexact Hb
  isplitl [Hh HO]
  · rw [show (reg0 W n).pre d = stAt n W d from rfl]
    unfold stAt
    isplitl [Hh]; · iexact Hh
    iexact HO
  isplitr
  · iapply ((K (F := F)).ctx_levAts (EH := EH) (P := PP m) κ); iexact Hctx
  isplitl [Hg]; · iexact Hg
  iexact Ht

theorem reg2_wp [∀ e, Nonempty (Elt F e)] (κ : GSem nD τ sig → ℕ) (W : Dev nD → Valuation τ sig (Elt F)) (n : ℕ) (d : Dev nD) {β : Type}
    (k : PUnit → Prog (TpuEff nD τ sig (Elt F) (SparseCore.Sig (Pipeline.Sig Λ₀ (Fin 2) fun p => (pcfgs (F := F) p).Adm) 1) .tc) β) (Q : β → sProp 𝕄) :
    iprop((K (F := F)).ctx EH (PP m) κ ∗ (boundary (T d) ∗ StableHlo.held (T d) (ucRefs τ sig) (W d)) ∗ (K (F := F)).tcSt EH d n ∗ gh 1 d
        ∗ ((boundary (T d) ∗ StableHlo.held (T d) (ucRefs τ sig) (Pipeline.afterRegion (pdats W n 1 d) (W d))) -∗ (K (F := F)).tcSt EH d n
            -∗ wp frame (wpE ((K (F := F)).defs (D (F := F))) 𝒱 (T d) none) Set.univ (k ⟨⟩) Q))
      ⊢ wp frame (wpE ((K (F := F)).defs (D (F := F))) 𝒱 (T d) none) Set.univ (.op (.customCall (SparseCore.inner (Pipeline.entry 1)) ()) k) Q := by
  unfold SparseCore.Cfg.tcSt
  iintro ⟨#Hctx, ⟨Hb, Hh⟩, ⟨HO, Hst⟩, ⟨Hg, Ht⟩, Hk⟩
  rw [show (Prog.op (.customCall (SparseCore.inner (Pipeline.entry 1)) ()) k : Prog (TpuEff nD τ sig (Elt F) (SparseCore.Sig (Pipeline.Sig Λ₀ (Fin 2) fun p => (pcfgs (F := F) p).Adm) 1) .tc) β)
    = SparseCore.liftProg (.op (.customCall (Pipeline.entry 1) ()) .ret) >>= k from rfl, wp_bind]
  iapply ((K (F := F)).wp_liftProg (D (F := F)) 𝒱 (T d) Set.univ none (.op (.customCall (Pipeline.entry 1) ()) .ret)
    (fun x => wp frame (wpE ((K (F := F)).defs (D (F := F))) 𝒱 (T d) none) Set.univ (k x) Q))
  iapply (Pipeline.RegionSeg.wp (pcfgs (F := F)) adm (pdats W n) none cellOf_inj EP defs₀ 𝒱₀ (K (F := F)).L (K (F := F)).lev (reg2 W n) d none
    (fun u h => nomatch h) .ret (fun x => wp frame (wpE ((K (F := F)).defs (D (F := F))) 𝒱 (T d) none) Set.univ (k x) Q))
  isplitl [Hk Hst]
  · rw [show (reg2 W n).post d = stAt n (fun c => Pipeline.afterRegion (pdats W n 1 c) (W c)) d from rfl]
    unfold stAt
    iintro ⟨Hb, Hh, HO⟩
    rw [wp_ret]; imodintro
    ispecialize Hk $$ [Hb Hh]
    · isplitl [Hb] <;> iassumption
    iapply Hk
    isplitl [HO]; · iexact HO
    iexact Hst
  isplitl [Hb]; · iexact Hb
  isplitl [Hh HO]
  · rw [show (reg2 W n).pre d = stAt n W d from rfl]
    unfold stAt
    isplitl [Hh]; · iexact Hh
    iexact HO
  isplitr
  · iapply ((K (F := F)).ctx_levAts (EH := EH) (P := PP m) κ); iexact Hctx
  isplitl [Hg]; · iexact Hg
  iexact Ht

/-! ## The SparseCore call's operands, whole and in the tasks' pieces -/

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem zeros_eq (d : Dev nD) : (zLoc d ↦{fullShare} (fun _ => zf) : sProp 𝕄)
    = iprop((zLoc d ↦{Transfers.shareDrop fullShare 32} fun _ => zf) ∗ bigSep Finset.univ fun p : Fin 2 × Fin 16 => zLoc d ↦{zq p.1 p.2} fun _ => zf) := by
  rw [← bigSep_univ_equiv (finProdFinEquiv : Fin 2 × Fin 16 ≃ Fin 32) (fun i : Fin 32 => (zLoc d ↦{Transfers.shareTok fullShare 32 i} (fun _ => zf) : sProp 𝕄))]
  exact BI.Entails.antisymm (Transfers.pointsTo_toks fullShare 32).1 (Transfers.pointsTo_toks fullShare 32).2

theorem pieces_eq (d : Dev nD) (Fv : S8192x128.Idx → Elt F .f32) (g : S8192x1024.Idx → Elt F .f32) :
    (iprop((vLoc d ↦{fullShare} Fv) ∗ (zLoc d ↦{fullShare} fun _ => zf) ∗ (aLoc d ↦{fullShare} g)) : sProp 𝕄)
      = iprop((bigSep Finset.univ fun c : Fin 2 => bigSep Finset.univ fun s : Fin 16 => pieces d Fv g c s)
          ∗ zLoc d ↦{Transfers.shareDrop fullShare 32} fun _ => zf) := by
  rw [← BI.bigSep_univ_prod (fun p : Fin 2 × Fin 16 => pieces d Fv g p.1 p.2)]
  unfold pieces
  rw [bigSep_sep', bigSep_sep', ← pts_rows, ← pts_chunks, zeros_eq]
  refine BI.Entails.antisymm (show (_ : sProp 𝕄) ⊢ _ from ?_) (show (_ : sProp 𝕄) ⊢ _ from ?_)
  · iintro ⟨Hv, ⟨Hd, Hz⟩, Ha⟩
    isplitr [Hd]
    · isplitl [Hv]; · iexact Hv
      isplitl [Hz]; · iexact Hz
      iexact Ha
    · iexact Hd
  · iintro ⟨⟨Hv, Hz, Ha⟩, Hd⟩
    isplitl [Hv]; · iexact Hv
    isplitr [Ha]
    · isplitl [Hd]; · iexact Hd
      iexact Hz
    · iexact Ha

theorem st_eq (d : Dev nD) :
    (bigSep Finset.univ fun c : Fin ((K (F := F)).nCore 0) => (PP m).st 0 d c)
      = (bigSep Finset.univ fun c : Fin 2 => bigSep Finset.univ fun s : Fin 16 => pieces d (VC m d (r' main_v11)) (VC m d (r' main_v12)) c s : sProp 𝕄) :=
  bigSep_cores (fun c : Fin 2 => bigSep Finset.univ fun s : Fin 16 => pieces d (VC m d (r' main_v11)) (VC m d (r' main_v12)) c s)
theorem dn_eq (d : Dev nD) :
    (bigSep Finset.univ fun c : Fin ((K (F := F)).nCore 0) => (PP m).dn 0 d c)
      = (bigSep Finset.univ fun c : Fin 2 => bigSep Finset.univ fun s : Fin 16 => pieces d (VC m d (r' main_v11)) (dense (VC m d (r' main_v11))) c s : sProp 𝕄) :=
  bigSep_cores (fun c : Fin 2 => bigSep Finset.univ fun s : Fin 16 => pieces d (VC m d (r' main_v11)) (dense (VC m d (r' main_v11))) c s)

abbrev S3 : Finset (DevRef τ sig) := {r' main_v11, r' main_v10, r' main_v12}

theorem S3_sub : S3 ⊆ ucRefs τ sig := by
  intro b hb
  refine Finset.mem_filter.mpr ⟨?_, ?_⟩
  · simp only [S3, Finset.mem_insert, Finset.mem_singleton] at hb
    rcases hb with h | h | h <;> subst h <;> exact StableHlo.devRef_mem_tcRefs _
  · simp only [S3, Finset.mem_insert, Finset.mem_singleton] at hb
    rcases hb with h | h | h <;> subst h <;> decide

theorem held_S3 (d : Dev nD) (W : Valuation τ sig (Elt F)) :
    (StableHlo.held (T d) S3 W : sProp 𝕄) = iprop((vLoc d ↦{fullShare} W (r' main_v11)) ∗ (zLoc d ↦{fullShare} W (r' main_v10)) ∗ (aLoc d ↦{fullShare} W (r' main_v12))) := by
  unfold StableHlo.held S3
  rw [SparseCore.bigSep_insert' (by decide), SparseCore.bigSep_insert' (by decide), bigSep_singleton]

/-- The unscoped buffers before the SparseCore call: the tasks' pieces and the rest. -/
theorem held_VC (d : Dev nD) : (StableHlo.held (T d) (ucRefs τ sig) (VC m d) : sProp 𝕄)
    = iprop(((bigSep Finset.univ fun c : Fin ((K (F := F)).nCore 0) => (PP m).st 0 d c) ∗ zLoc d ↦{Transfers.shareDrop fullShare 32} fun _ => zf)
        ∗ StableHlo.held (T d) (ucRefs τ sig \ S3) (VC m d)) := by
  rw [StableHlo.held_sub_split (T d) S3_sub, held_S3, st_eq, ← pieces_eq, VC_zero]
theorem held_VD (d : Dev nD) : (StableHlo.held (T d) (ucRefs τ sig) (VD m d) : sProp 𝕄)
    = iprop(((bigSep Finset.univ fun c : Fin ((K (F := F)).nCore 0) => (PP m).dn 0 d c) ∗ zLoc d ↦{Transfers.shareDrop fullShare 32} fun _ => zf)
        ∗ StableHlo.held (T d) (ucRefs τ sig \ S3) (VC m d)) := by
  have hr : (StableHlo.held (T d) (ucRefs τ sig \ S3) (VD m d) : sProp 𝕄) = StableHlo.held (T d) (ucRefs τ sig \ S3) (VC m d) :=
    StableHlo.held_congr (T d) fun b hb => Function.update_of_ne (fun h => (Finset.mem_sdiff.mp hb).2 (by rw [h]; decide)) _ _
  rw [StableHlo.held_sub_split (T d) S3_sub, held_S3, dn_eq, ← pieces_eq, hr,
    show VD m d (r' main_v12) = dense (VC m d (r' main_v11)) from Function.update_self _ _ _,
    show VD m d (r' main_v11) = VC m d (r' main_v11) from Function.update_of_ne (by decide) _ _,
    show VD m d (r' main_v10) = VC m d (r' main_v10) from Function.update_of_ne (by decide) _ _, VC_zero]

theorem unscoped_held (d : Dev nD) : (unscopedBufs d (fun b => m ((SparseCore.T d).loc b)) : sProp 𝕄) = StableHlo.held (T d) (ucRefs τ sig) (V0 m d) :=
  Pipeline.unscopedBufs_held d (fun b => m (d, b))

/-! ## @main -/

abbrev FIN (d : Dev nD) : sProp 𝕄 := StableHlo.held (T d) (ucRefs τ sig) (VG m d)
abbrev G (d : Dev nD) : sProp 𝕄 := iprop(gh 0 d ∗ gh 1 d)

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, ⟨Hg0, Hg1⟩⟩
  iapply (wp_ops d opsA opsA_sub opsA_fresh (V0 m d) _ _)
  isplitl [Hb Hheld]; · isplitl [Hb] <;> iassumption
  iintro Hbh
  iapply (reg0_wp m κ (VA m) 0 d _ _)
  isplitr; · iexact Hctx
  isplitl [Hbh]; · iexact Hbh
  isplitl [Hst]; · iexact Hst
  isplitl [Hg0]; · iexact Hg0
  iintro Hbh
  iintro Hst
  iapply (wp_ops d opsB opsB_sub opsB_fresh (VB m d) _ _)
  isplitl [Hbh]; · iexact Hbh
  iintro ⟨Hb, Hheld⟩
  rw [show StableHlo.after opsB (VB m d) = VC m d from rfl]
  ihave Hh := (BIBase.Entails.of_eq (held_VC m d)) $$ Hheld
  icases Hh with ⟨⟨Hpc, Hz⟩, Hr⟩
  rw [wp_bind]
  iapply ((K (F := F)).wp_run (D (F := F)) 𝒱 (EH := EH) (P := PP m) κ d 0) $$ [Hst Hpc Hz Hr Hb Hts Hg1]
  isplitr; · iexact Hctx
  isplitl [Hst]; · iexact Hst
  isplitl [Hpc]; · iexact Hpc
  iintro ⟨Hst, Hdn⟩
  iapply (wp_ops d opsC opsC_sub opsC_fresh (VD m d) _ _)
  isplitl [Hdn Hz Hr Hb]
  · isplitl [Hb]; · iexact Hb
    rw [held_VD]
    isplitr [Hr]
    · isplitl [Hdn] <;> iassumption
    · iexact Hr
  iintro Hbh
  iapply (reg2_wp m κ (VE m) 1 d _ _)
  isplitr; · iexact Hctx
  isplitl [Hbh]; · iexact Hbh
  isplitl [Hst]; · iexact Hst
  isplitl [Hg1]; · iexact Hg1
  iintro Hbh
  iintro Hst
  iapply (wp_ops d opsD opsD_sub opsD_fresh (VF m d) _ _)
  isplitl [Hbh]; · iexact Hbh
  iintro ⟨Hb, Hheld⟩
  rw [wp_pure]
  imodintro
  isplitl [Hst]; · iexact Hst
  isplitl [Hheld]; · iexact Hheld
  isplitl [Hb] <;> iassumption

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [show (bigSep Finset.univ fun d : Dev nD => G (F := F) d) = (iprop((bigSep Finset.univ fun c : Dev nD => bigSep Finset.univ fun p : Fin 2 => Pipeline.cellsGhost (Pipeline.pin (pcfgs (F := F)) adm) EP p c)
          ∗ (bigSep Finset.univ fun c : Dev nD => bigSep Finset.univ fun p : Fin 2 => Pipeline.toksInit (Pipeline.pin (pcfgs (F := F)) adm) EP p c)) : sProp 𝕄) from ?_]
    · isplitl [Hg] <;> iassumption
    · rw [← bigSep_sep']
      refine bigSep_congr fun d _ => ?_
      rw [← bigSep_sep', bigSep_fin_two]
      rfl
  rw [show (bigSep Finset.univ fun thr : Thread nD τ => bigSep Finset.univ fun q : Fin 1 => (PP m).x q thr) = (bigSep Finset.univ fun _ => iprop(emp) : sProp 𝕄) from
    bigSep_congr fun _ _ => bigSep_univ_of_subsingleton (0 : Fin 1), show (bigSep Finset.univ fun _ : Thread nD τ => (iprop(emp) : sProp 𝕄)) = iprop(emp) from bigSep_emp_const _]
  iempintro

/-! ## What is read off the final state -/

/-- Every unscoped buffer of the device ends at `VG`. -/
def fq (d : Dev nD) (s' : Phys nD τ sig (Elt F)) : Prop := ∀ b ∈ ucRefs τ sig, s'.mem.mem (d, b) = VG m d b

theorem hfin (d : Dev nD) (s' : Phys nD τ sig (Elt F)) : iprop(FIN m d ∗ SI s') ⊢ (⌜fq m d s'⌝ : sProp 𝕄) := by
  refine (show iprop(FIN m d ∗ SI s') ⊢ iprop(⌜∀ b ∈ ucRefs τ sig, s'.mem.mem (d, b) = VG m d b⌝ ∗ SI s') from pointsTo_read_all (ucRefs τ sig) (fun b => ((d, b) : Loc nD τ sig)) (VG m d) s').trans sep_elim_left

def QC : PUnit × MemSt nD τ sig (Elt F) → Prop := fun r => (∀ c : Dev nD, ∀ b ∈ ucRefs τ sig, r.2.mem (c, b) = VG m c b) ∧ r.2.sem = fun _ => 0

/-- Every weakly fair execution of the program terminates, the semaphores at zero, every unscoped buffer at `VG`. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl _ _ scFacts)
    (fun q _ => match q with | 0 => SparseCore.Cfg.VecSplit.of_plain (vecSplit _ _))
    m ρ main G (FIN m) (u₀ (F := F)) (sep_elim_left.trans (hu₀ m)) (hmain m ρ) (fq m) (hfin m) (QC m) (fun _ h hz => ⟨h, hz⟩)

end Cert.Proof.KI
-- ==== Proof.Args.lean ====
/- The buffers @main's operations and calls do not write end at their launch contents: the frame. -/
module

public import proofs.«01_k».proof.Proof.Run

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.Pipeline (ucRefs)

variable (m : (ℓ : Loc nD τ sig) → Buf (Elt F) ℓ) (ρ : Dev nD → PrngReg)

/-- Every buffer @main writes. -/
abbrev written : List (Ref sig .tc) := [main_v0, main_v1, main_v2, main_v3, main_v4, main_c, main_v5, main_v6, main_v7, main_v8, main_v9_0, main_v9_1,
  main_cst, main_v10, main_v11, main_v12, main_v13, main_v14, main_v15, main_v16, main_v17]

theorem opsA_writes : (opsA : List (HloOp τ sig (Elt F))).Forall fun op => op.writes ⊆ (written.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩
theorem opsB_writes : (opsB : List (HloOp τ sig (Elt F))).Forall fun op => op.writes ⊆ (written.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩
theorem opsC_writes : (opsC : List (HloOp τ sig (Elt F))).Forall fun op => op.writes ⊆ (written.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩
theorem opsD_writes : (opsD : List (HloOp τ sig (Elt F))).Forall fun op => op.writes ⊆ (written.map (Proc.devRef (τ := τ) .tc)).toFinset := by
  simp only [List.Forall]; exact ⟨by simp only [StableHlo.nullary_writes, StableHlo.unary_writes, StableHlo.binary_writes, StableHlo.reshape_writes, Finset.singleton_subset_iff, List.mem_toFinset]; exact List.mem_map_of_mem (by decide), by simp only [StableHlo.nullary_writes, StableHlo.unary_writes, StableHlo.binary_writes, StableHlo.reshape_writes, Finset.singleton_subset_iff, List.mem_toFinset]; exact List.mem_map_of_mem (by decide)⟩

theorem outs0 : ∀ w : Fin 8, Pipeline.arrRef spec0 w ∉ written → (spec0 w).isOut = false := by decide +kernel
theorem outs2 : ∀ w : Fin 6, Pipeline.arrRef spec2 w ∉ written → (spec2 w).isOut = false := by decide +kernel

theorem VG_keep (d : Dev nD) (r : Ref sig .tc) (hr : r ∉ written) : VG m d (r' r) = m (d, r' r) := by
  unfold VG
  rw [StableHlo.after_of_writes_sub opsD _ opsD_writes hr]
  unfold VF
  rw [Pipeline.afterRegion_keeps (pdats (VE m) 1 1 d) (VE m d) launch2.win.arr_inj (fun w => rfl) r (fun w e => outs2 w (by rw [← e] at hr; exact hr))]
  unfold VE
  rw [StableHlo.after_of_writes_sub opsC _ opsC_writes hr]
  unfold VD
  rw [Function.update_of_ne (StableHlo.devRef_ne_of_ne fun e => hr (by rw [e]; decide))]
  unfold VC
  rw [StableHlo.after_of_writes_sub opsB _ opsB_writes hr]
  unfold VB
  rw [Pipeline.afterRegion_keeps (pdats (VA m) 0 0 d) (VA m d) launch0.win.arr_inj (fun w => rfl) r (fun w e => outs0 w (by rw [← e] at hr; exact hr))]
  unfold VA
  rw [StableHlo.after_of_writes_sub opsA _ opsA_writes hr]
  rfl

theorem uc_mem (r : Ref sig .tc) (h : (r' r).isScoped = false) : r' r ∈ ucRefs τ sig :=
  Finset.mem_filter.mpr ⟨StableHlo.devRef_mem_tcRefs _, by rw [h]; decide⟩

/-- The run with the arguments unchanged, the two results at `VG`. -/
theorem run_args [∀ e, Nonempty (Elt F e)] : θ_run (Cert.KernelIdeal.defs (F := F)) (Cert.KernelIdeal.threads (F := F)) ⟨m, fun _ => 0, ρ⟩
    fun r => (∀ c : Dev nD,
      r.2.mem ((c.tc : Thread nD τ).loc main_v16) = VG m c (r' main_v16)
      ∧ r.2.mem ((c.tc : Thread nD τ).loc main_v17) = VG m c (r' main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run _ _ _).mono (fun _ h => ⟨fun c => ⟨h.1 c _ (uc_mem main_v16 rfl), h.1 c _ (uc_mem main_v17 rfl),
    (h.1 c _ (uc_mem main_arg0 rfl)).trans (VG_keep m c main_arg0 (by decide)),
    (h.1 c _ (uc_mem main_arg1 rfl)).trans (VG_keep m c main_arg1 (by decide)),
    (h.1 c _ (uc_mem main_arg2 rfl)).trans (VG_keep m c main_arg2 (by decide)),
    (h.1 c _ (uc_mem main_arg3 rfl)).trans (VG_keep m c main_arg3 (by decide)),
    (h.1 c _ (uc_mem main_arg4 rfl)).trans (VG_keep m c main_arg4 (by decide)),
    (h.1 c _ (uc_mem main_arg5 rfl)).trans (VG_keep m c main_arg5 (by decide)),
    (h.1 c _ (uc_mem main_arg6 rfl)).trans (VG_keep m c main_arg6 (by decide)),
    (h.1 c _ (uc_mem main_arg7 rfl)).trans (VG_keep m c main_arg7 (by decide))⟩, h.2⟩) (run_main m ρ)

end Cert.Proof.KI
-- ==== Proof.RefRun.lean ====
/- The reference's run: its two results at the composed terms of its arguments, its arguments unchanged, and no
   semaphore declared. -/
module

public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof.RI

open Cert.ReferenceIdeal Cert.ReferenceIdeal.Gen Cert.ReferenceIdeal.Value
open Idealize.ShloMosaic Idealize.ShloMosaic.StableHlo Idealize.SL.Sem

variable {F : FTy → Type} [FloatOps F]

/-- The contents of the device's buffers after the reference, as a function of those at the start. -/
abbrev res (V0 : Valuation τ sig (Elt F)) : Valuation τ sig (Elt F) := Value.val2 V0

/-- Every run of the reference ends with the results at `res`, the arguments unchanged and every counter at zero. -/
theorem run_ref (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v91) = res (launchContents m c) (Proc.devRef .tc main_v91)
      ∧ r.2.mem ((c.tc : Thread nD τ).loc main_v85) = res (launchContents m c) (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => by
      obtain ⟨h0, h1, h2⟩ := h c
      exact ⟨h0.trans (val2_main_v91 (launchContents m c)).symm, h1.trans (val2_main_v85 (launchContents m c)).symm, h2⟩,
      sem_eq_zero_of_no_sems (by decide) r.2⟩) (Value.run m ρ)

end Cert.Proof.RI
-- ==== Proof.Frames.lean ====
/- The claims that say nothing of values: every run of the three programs ends with the arguments unchanged and the
   counters at zero, and the named constant is the number it stands for. -/
module

public import proofs.«01_k».proof.Defs
public import proofs.«01_k».proof.Proof.Args
public import proofs.«01_k».proof.Proof.Bits.Args
public import proofs.«01_k».proof.Proof.RefRun
public import Idealize.ShloMosaic.Adequacy
public import Idealize.ShloMosaic.Init

@[expose] public section

noncomputable section

namespace Cert.Proof

open Idealize.ShloMosaic Idealize.SL.Sem

/-- The kernel as printed. -/
theorem frame_k : Cert.quiescent_Kernel (hKernel := Cert.Kernel.Gen.facts) := fun m ρ _ =>
  (θ_run _ _ _).mono (fun _ h => ⟨fun c => (h.1 c).2.2, h.2⟩) (KB.run_args (F := Bits) m ρ)

/-- The kernel with the mask's constant named. -/
theorem frame_ki : Cert.quiescent_KernelIdeal (hKernelIdeal := Cert.KernelIdeal.Gen.facts) := fun m ρ _ =>
  (θ_run _ _ _).mono (fun _ h => ⟨fun c => (h.1 c).2.2, h.2⟩) (KI.run_args (F := Ideal) m ρ)

/-- The reference. -/
theorem frame_ri : Cert.quiescent_ReferenceIdeal (hReferenceIdeal := Cert.ReferenceIdeal.Gen.facts) := fun m ρ _ =>
  (θ_run _ _ _).mono (fun _ h => ⟨fun c => (h.1 c).2.2, h.2⟩) (RI.run_ref (F := Ideal) m ρ)

/-- The mask's constant is the number that its name stands for. -/
theorem preserves : Cert.preserves_Kernel_KernelIdeal :=
  IdealRules.named_const.statement Cert.KernelIdeal.κ "mask" .f32 0xF149F2CA#32 ⊥ rfl

end Cert.Proof
-- ==== Proof.KArr.lean ====
/- What the kernel's buffers hold along @main: the two results read back through the three calls to the arguments. -/
module

public import proofs.«01_k».proof.Proof.Args
public import Idealize.ShloMosaic.Lib.Pipeline.ValueKit

@[expose] public section

set_option maxRecDepth 16384

noncomputable section

namespace Cert.Proof.KI

open Cert.KernelIdeal Cert.KernelIdeal.Gen
open Idealize.ShloMosaic Idealize.SL.Sem
open Idealize.ShloMosaic.SparseCore (S V T)
open Idealize.ShloMosaic.SparseCore.Cfg (HIx)

variable {F : FTy → Type} [FloatOps F] [Named F]
variable (m : (ℓ : Loc nD τ sig) → Buf (Elt F) ℓ) (d : Dev nD)

/-! ## The operands of the first call -/

def xA : Vec F S8x384x1024 .f32 := shapeCast S8x384x1024 (m (d, r' main_arg0) : Vec F S8x384x32x32 .f32) shapeCasts_S8x384x32x32_S8x384x1024
def wqA : Vec F S48x384 .f32 := m (d, r' main_arg1)
def bqA : Vec F S48x1 .f32 := shapeCast S48x1 (m (d, r' main_arg2) : Vec F S48 .f32) shapeCasts_S48_S48x1
def wkA : Vec F S48x384 .f32 := m (d, r' main_arg3)
def bkA : Vec F S48x1 .f32 := shapeCast S48x1 (m (d, r' main_arg4) : Vec F S48 .f32) shapeCasts_S48_S48x1
def eyeA : Vec F S16x16 .f32 :=
  uitofp .f32 (cmpi .eq (addi (iotaInDim S16x16 32 0) (broadcastInDim S16x16 ![] bcast_S_S16x16 (constantI S_ 32 0#32))) (iotaInDim S16x16 32 1))

/-- Image `b`'s block of an array of eight images. -/
abbrev imB {R C : ℕ} (A : (⟨3, ![8, R, C]⟩ : Shape).Idx → Elt F .f32) (b : Fin 8) : (⟨3, ![1, R, C]⟩ : Shape).Idx → Elt F .f32 :=
  fun y => A (ix3 b (y 1) (y 2))

theorem VA_v0 : VA m d (r' main_v0) = xA m d := by unfold VA; after_results_simp; rfl
theorem VA_arg1 : VA m d (r' main_arg1) = wqA m d := by unfold VA; after_results_simp; rfl
theorem VA_v1 : VA m d (r' main_v1) = bqA m d := by unfold VA; after_results_simp; rfl
theorem VA_arg3 : VA m d (r' main_arg3) = wkA m d := by unfold VA; after_results_simp; rfl
theorem VA_v2 : VA m d (r' main_v2) = bkA m d := by unfold VA; after_results_simp; rfl
theorem VA_v8 : VA m d (r' main_v8) = eyeA := by unfold VA; after_results_simp; rfl

/-- The image that a point of the first call takes. -/
abbrev im0 (t : Fin cfg0.N) : Fin 8 := ⟨t, t.2⟩
abbrev im2 (t : Fin cfg2.N) : Fin 8 := ⟨t, t.2⟩

theorem idx0_0 : ∀ t : Fin cfg0.N, win0_0.index t = ![(t : ℕ), 0, 0] := by decide +kernel
theorem idx0_1 : ∀ t : Fin cfg0.N, win0_1.index t = ![0, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0, 0] := by decide +kernel
theorem idx0_5 : ∀ t : Fin cfg0.N, win0_5.index t = ![0, 0] := by decide +kernel
theorem idx0_6 : ∀ t : Fin cfg0.N, win0_6.index t = ![(t : ℕ), 0, 0] := by decide +kernel
theorem idx0_7 : ∀ t : Fin cfg0.N, win0_7.index t = ![(t : ℕ), 0, 0] := by decide +kernel
theorem idx2_0 : ∀ t : Fin cfg2.N, win2_0.index t = ![(t : ℕ), 0, 0] := by decide +kernel
theorem idx2_1 : ∀ t : Fin cfg2.N, win2_1.index t = ![(t : ℕ), 0, 0] := by decide +kernel
theorem idx2_2 : ∀ t : Fin cfg2.N, win2_2.index t = ![0, 0] := by decide +kernel
theorem idx2_3 : ∀ t : Fin cfg2.N, win2_3.index t = ![0, 0] := by decide +kernel
theorem idx2_4 : ∀ t : Fin cfg2.N, win2_4.index t = ![0, 0] := by decide +kernel
theorem idx2_5 : ∀ t : Fin cfg2.N, win2_5.index t = ![(t : ℕ), 0, 0] := by decide +kernel

theorem in0_0_eq (t : Fin cfg0.N) : in0_0 (VA m) d t = imB (xA m d) (im0 t) := by
  funext y
  rw [← VA_v0]
  unfold in0_0
  blk_ext [idx0_0 t]
theorem in0_1_eq (t : Fin cfg0.N) : in0_1 (VA m) d t = wqA m d := by
  funext y
  rw [← VA_arg1]
  unfold in0_1
  blk_ext [idx0_1 t]
theorem in0_2_eq (t : Fin cfg0.N) : in0_2 (VA m) d t = bqA m d := by
  funext y
  rw [← VA_v1]
  unfold in0_2
  blk_ext [idx0_2 t]
theorem in0_3_eq (t : Fin cfg0.N) : in0_3 (VA m) d t = wkA m d := by
  funext y
  rw [← VA_arg3]
  unfold in0_3
  blk_ext [idx0_3 t]
theorem in0_4_eq (t : Fin cfg0.N) : in0_4 (VA m) d t = bkA m d := by
  funext y
  rw [← VA_v2]
  unfold in0_4
  blk_ext [idx0_4 t]
theorem in0_5_eq (t : Fin cfg0.N) : in0_5 (VA m) d t = eyeA := by
  funext y
  rw [← VA_v8]
  unfold in0_5
  blk_ext [idx0_5 t]

/-! ## The first call's two arrays -/

def attnA : Vec F S8x16x1024 .f32 := fun i => attnF (imB (xA m d) (i 0)) (wqA m d) (bqA m d) (wkA m d) (bkA m d) (ix3 0 (i 1) (i 2))
def valsA : Vec F S8x1024x128 .f32 := fun i => valsF (imB (xA m d) (i 0)) (wqA m d) (bqA m d) (wkA m d) (bkA m d) eyeA (ix3 0 (i 1) (i 2))

theorem keeps0 : ∀ w : Fin 8, Pipeline.arrRef spec0 w = main_v0 → (spec0 w).isOut = false := by decide +kernel
theorem keeps2 : ∀ w : Fin 6, Pipeline.arrRef spec2 w = main_v12 → (spec2 w).isOut = false := by decide +kernel

theorem one_image {R C : ℕ} (y : (⟨3, ![1, R, C]⟩ : Shape).Idx) : y = ix3 0 (y 1) (y 2) := by
  refine (eq_ix3 y).trans ?_
  exact congrArg (fun a : Fin 1 => ix3 a (y 1) (y 2)) (@Subsingleton.elim (Fin 1) _ (y 0) 0)

theorem res0_6_eq (t : Fin cfg0.N) (y : S1x16x1024.Idx) : res0_6 (VA m) d t y = attnA m d (ix3 (im0 t) (y 1) (y 2)) := by
  unfold res0_6 attnA
  rw [in0_0_eq, in0_1_eq, in0_2_eq, in0_3_eq, in0_4_eq]
  exact congrArg _ (one_image y)
theorem res0_7_eq (t : Fin cfg0.N) (y : S1x1024x128.Idx) : res0_7 (VA m) d t y = valsA m d (ix3 (im0 t) (y 1) (y 2)) := by
  unfold res0_7 valsA
  rw [in0_0_eq, in0_1_eq, in0_2_eq, in0_3_eq, in0_4_eq, in0_5_eq]
  exact congrArg _ (one_image y)

theorem VB_v9_0 : VB m d (r' main_v9_0) = attnA m d := by
  refine (Pipeline.afterRegion_arr (pdats (VA m) 0 0 d) (VA m d) launch0.win.arr_inj 6).trans ?_
  refine (dat0 (VA m) 0 d).arrAt_eq_of_covers 6 _ (by decide +kernel) fun t hf y => ?_
  blk_simp
  refine (res0_6_eq m d t y).trans (congrArg (attnA m d) ?_)
  blk_ext [idx0_6 t]

set_option maxHeartbeats 2000000 in
theorem VB_v9_1 : VB m d (r' main_v9_1) = valsA m d := by
  refine (Pipeline.afterRegion_arr (pdats (VA m) 0 0 d) (VA m d) launch0.win.arr_inj 7).trans ?_
  refine (dat0 (VA m) 0 d).arrAt_eq_of_covers 7 _ (by decide +kernel) fun t hf y => ?_
  blk_simp
  refine (res0_7_eq m d t y).trans (congrArg (valsA m d) ?_)
  blk_ext [idx0_7 t]

/-- A buffer that no host operation and no call up to the output call writes. -/
theorem VE_keep (r : Ref sig .tc) (hr : r ∉ written) : VE m d (r' r) = m (d, r' r) := by
  unfold VE
  rw [StableHlo.after_of_writes_sub opsC _ opsC_writes hr]
  unfold VD
  rw [Function.update_of_ne (StableHlo.devRef_ne_of_ne fun e => hr (by rw [e]; decide))]
  unfold VC
  rw [StableHlo.after_of_writes_sub opsB _ opsB_writes hr]
  unfold VB
  rw [Pipeline.afterRegion_keeps (pdats (VA m) 0 0 d) (VA m d) launch0.win.arr_inj (fun w => rfl) r (fun w e => outs0 w (by rw [← e] at hr; exact hr))]
  unfold VA
  rw [StableHlo.after_of_writes_sub opsA _ opsA_writes hr]
  rfl

/-- The operands of the output call. -/
def wvA : Vec F S384x384 .f32 := m (d, r' main_arg5)
def bvA : Vec F S384x1 .f32 := shapeCast S384x1 (m (d, r' main_arg6) : Vec F S384 .f32) shapeCasts_S384_S384x1
def gA : Vec F S1x1 .f32 := shapeCast S1x1 (m (d, r' main_arg7) : Vec F S1 .f32) shapeCasts_S1_S1x1

theorem VC_of_VB (r : Ref sig .tc) (h : r ≠ main_cst ∧ r ≠ main_v10 ∧ r ≠ main_v11) : VC m d (r' r) = VB m d (r' r) := by
  unfold VC
  refine StableHlo.after_of_writes_sub (W := [main_cst, main_v10, main_v11]) opsB _ ?_ ?_
  · refine ⟨?_, ?_, ?_⟩ <;> simp
  · simp [h.1, h.2.1, h.2.2]

theorem VE_of_VB (r : Ref sig .tc) (h : r ≠ main_cst ∧ r ≠ main_v10 ∧ r ≠ main_v11) (h' : r ≠ main_v12 ∧ r ≠ main_v13 ∧ r ≠ main_v14) :
    VE m d (r' r) = VB m d (r' r) := by
  refine Eq.trans ?_ (VC_of_VB m d r h)
  unfold VE
  refine (StableHlo.after_of_writes_sub (W := [main_v13, main_v14]) opsC _ ?_ ?_).trans ?_
  · refine ⟨?_, ?_⟩ <;> simp
  · simp [h'.2.1, h'.2.2]
  · unfold VD
    exact Function.update_of_ne (StableHlo.devRef_ne_of_ne h'.1) _ _

theorem VE_v0 : VE m d (r' main_v0) = xA m d := by
  refine (VE_of_VB m d main_v0 (by decide) (by decide)).trans ?_
  unfold VB
  rw [Pipeline.afterRegion_keeps (pdats (VA m) 0 0 d) (VA m d) launch0.win.arr_inj (fun w => rfl) main_v0 (fun w e => keeps0 w e)]
  exact VA_v0 m d
theorem VE_v9_0 : VE m d (r' main_v9_0) = attnA m d := (VE_of_VB m d main_v9_0 (by decide) (by decide)).trans (VB_v9_0 m d)
theorem VE_arg5 : VE m d (r' main_arg5) = wvA m d := VE_keep m d main_arg5 (by decide)
theorem VD_keep (r : Ref sig .tc) (hr : r ∉ written) : VD m d (r' r) = m (d, r' r) := by
  rw [← VE_keep m d r hr]
  unfold VE
  rw [StableHlo.after_of_writes_sub opsC _ opsC_writes hr]
theorem VE_v13 : VE m d (r' main_v13) = bvA m d := by
  unfold VE; after_results_simp; rw [VD_keep m d main_arg6 (by decide)]; rfl
theorem VE_v14 : VE m d (r' main_v14) = gA m d := by
  unfold VE; after_results_simp; rw [VD_keep m d main_arg7 (by decide)]; rfl

theorem in2_0_eq (t : Fin cfg2.N) : in2_0 (VE m) d t = imB (xA m d) (im2 t) := by
  funext y
  rw [← VE_v0]
  unfold in2_0
  blk_ext [idx2_0 t]
theorem in2_1_eq (t : Fin cfg2.N) : in2_1 (VE m) d t = imB (attnA m d) (im2 t) := by
  funext y
  rw [← VE_v9_0]
  unfold in2_1
  blk_ext [idx2_1 t]
theorem in2_2_eq (t : Fin cfg2.N) : in2_2 (VE m) d t = wvA m d := by
  funext y
  rw [← VE_arg5]
  unfold in2_2
  blk_ext [idx2_2 t]
theorem in2_3_eq (t : Fin cfg2.N) : in2_3 (VE m) d t = bvA m d := by
  funext y
  rw [← VE_v13]
  unfold in2_3
  blk_ext [idx2_3 t]
theorem in2_4_eq (t : Fin cfg2.N) : in2_4 (VE m) d t = gA m d := by
  funext y
  rw [← VE_v14]
  unfold in2_4
  blk_ext [idx2_4 t]

/-! ## The output call's array and the two results -/

def outA : Vec F S8x384x1024 .f32 := fun i =>
  outF (imB (xA m d) (i 0)) (imB (attnA m d) (i 0)) (wvA m d) (bvA m d) (gA m d) (ix3 0 (i 1) (i 2))

theorem res2_5_eq (t : Fin cfg2.N) (y : S1x384x1024.Idx) : res2_5 (VE m) d t y = outA m d (ix3 (im2 t) (y 1) (y 2)) := by
  unfold res2_5 outA
  rw [in2_0_eq, in2_1_eq, in2_2_eq, in2_3_eq, in2_4_eq]
  exact congrArg _ (one_image y)

theorem VF_v15 : VF m d (r' main_v15) = outA m d := by
  refine (Pipeline.afterRegion_arr (pdats (VE m) 1 1 d) (VE m d) launch2.win.arr_inj 5).trans ?_
  refine (dat2 (VE m) 1 d).arrAt_eq_of_covers 5 _ (by decide +kernel) fun t hf y => ?_
  blk_simp
  refine (res2_5_eq m d t y).trans (congrArg (outA m d) ?_)
  blk_ext [idx2_5 t]

theorem VF_v12 : VF m d (r' main_v12) = dense (shapeCast S8192x128 (valsA m d) shapeCasts_S8x1024x128_S8192x128) := by
  unfold VF
  rw [Pipeline.afterRegion_keeps (pdats (VE m) 1 1 d) (VE m d) launch2.win.arr_inj (fun w => rfl) main_v12 (fun w e => keeps2 w e)]
  unfold VE
  refine (StableHlo.after_of_writes_sub (W := [main_v13, main_v14]) opsC _ ⟨by simp, by simp⟩ (by decide)).trans ?_
  unfold VD
  rw [Function.update_self]
  refine congrArg dense ?_
  unfold VC
  after_results_simp
  rw [VB_v9_1]
  rfl

theorem VG_v16 : VG m d (r' main_v16) = shapeCast S8x384x32x32 (outA m d) shapeCasts_S8x384x1024_S8x384x32x32 := by
  unfold VG
  after_results_simp
  rw [VF_v15]
  rfl

theorem VG_v17 : VG m d (r' main_v17) = shapeCast S8x1024x1024 (dense (shapeCast S8192x128 (valsA m d) shapeCasts_S8x1024x128_S8192x128)) shapeCasts_S8192x1024_S8x1024x1024 := by
  unfold VG
  after_results_simp
  rw [VF_v12]
  rfl

end Cert.Proof.KI
-- ==== Proof.Spec.lean ====
/- The mathematics that both programs compute, on extended reals, for one image of 1024 pixels (a 32 by 32 grid, row
   by row). Neighbour `i` of nine stands `i / 3 - 1` rows and `i % 3 - 1` columns away. -/
module

public import Idealize.ShloMosaic.PureOps.Ideal

@[expose] public section

noncomputable section

namespace Cert.Proof.Spec

open Idealize.ShloMosaic

/-- The neighbour is on the grid. -/
abbrev valid (n i : ℕ) : Prop := (1 ≤ n / 32 + i / 3 ∧ n / 32 + i / 3 ≤ 32) ∧ (1 ≤ n % 32 + i % 3 ∧ n % 32 + i % 3 ≤ 32)

/-- How far the neighbour's number is from the pixel's, plus 33. -/
abbrev off (i : ℕ) : ℕ := i / 3 * 32 + i % 3

/-- The neighbour's number, around the end. -/
abbrev nb (n i : ℕ) : ℕ := (n + 991 + off i) % 1024

theorem nb_lt (n i : ℕ) : nb n i < 1024 := Nat.mod_lt _ (by decide)

/-- A neighbour on the grid stands at the pixel's number plus its offset. -/
theorem nb_valid (n i : ℕ) (hn : n < 1024) (hi : i < 9) (h : valid n i) : nb n i + 33 = n + off i := by
  unfold nb off; unfold valid at h; omega

/-- A linear map of the pixels' channels, plus a bias. -/
def proj {C : ℕ} (w : Fin C → EReal) (b : EReal) (x : Fin C → Fin 1024 → EReal) (n : Fin 1024) : EReal :=
  ∑ c, w c * x c n + b

/-- The energy of neighbour `i`. -/
def energy (q k : Fin 48 → Fin 1024 → EReal) (n : Fin 1024) (i : Fin 9) : EReal :=
  if valid n i then ∑ d, q d n * k d ⟨nb n i, nb_lt n i⟩ else ⊥

/-- The greatest energy of the nine. -/
def emax (e : Fin 9 → EReal) : EReal := Finset.univ.fold max ⊥ e

/-- The exponential of an energy less the greatest. -/
def eexp (e : Fin 9 → EReal) (i : Fin 9) : EReal := Ideal.exp (e i - emax e)

/-- The softmax of the nine energies. -/
def soft (e : Fin 9 → EReal) (i : Fin 9) : EReal := Ideal.div (eexp e i) (∑ j, eexp e j)

/-- The attention of pixel `n` to its neighbour `i`. -/
def att (q k : Fin 48 → Fin 1024 → EReal) (n : Fin 1024) (i : Fin 9) : EReal := soft (energy q k n) i

/-- The dense attention of pixel `n` to pixel `j`. -/
def dense (a : Fin 9 → EReal) (n j : ℕ) : EReal := ∑ i : Fin 9, if j + 33 = n + off i then a i else 0

/-- The weighted sum of the neighbours' values. -/
def mix (a : Fin 9 → EReal) (v : Fin 1024 → EReal) (n : Fin 1024) : EReal := ∑ i : Fin 9, v ⟨nb n i, nb_lt n i⟩ * a i

end Cert.Proof.Spec
-- ==== Proof.Math.lean ====
/- Facts about the mathematics of the two programs: the dense attention holds each neighbour's attention once, and a
   neighbour off the grid has none when the energies are finite. -/
module

public import proofs.«01_k».proof.Proof.Spec
public import Idealize.ShloMosaic.Lib.IdealHost

@[expose] public section

noncomputable section

namespace Cert.Proof.Spec

open Idealize.ShloMosaic

theorem off_inj : ∀ i j : Fin 9, off i = off j → i = j := by decide

theorem dense_at (a : Fin 9 → EReal) (n j : ℕ) (i : Fin 9) (h : j + 33 = n + off i) : dense a n j = a i := by
  unfold dense
  rw [Finset.sum_eq_single i]
  · exact if_pos h
  · intro i' _ hi
    exact if_neg fun h' => hi (off_inj i' i (by omega))
  · intro h'; exact absurd (Finset.mem_univ _) h'

theorem dense_none (a : Fin 9 → EReal) (n j : ℕ) (h : ∀ i : Fin 9, j + 33 ≠ n + off i) : dense a n j = 0 :=
  Finset.sum_eq_zero fun i _ => if_neg (h i)

/-- The dense attention as a chain of choices, the last neighbour first. -/
theorem dense_chain (a : Fin 9 → EReal) (n j : ℕ) :
    (if j + 33 = n + off 8 then a 8 else if j + 33 = n + off 7 then a 7 else if j + 33 = n + off 6 then a 6
      else if j + 33 = n + off 5 then a 5 else if j + 33 = n + off 4 then a 4 else if j + 33 = n + off 3 then a 3
      else if j + 33 = n + off 2 then a 2 else if j + 33 = n + off 1 then a 1 else if j + 33 = n + off 0 then a 0 else 0) = dense a n j := by
  split_ifs with h8 h7 h6 h5 h4 h3 h2 h1 h0
  · exact (dense_at a n j 8 h8).symm
  · exact (dense_at a n j 7 h7).symm
  · exact (dense_at a n j 6 h6).symm
  · exact (dense_at a n j 5 h5).symm
  · exact (dense_at a n j 4 h4).symm
  · exact (dense_at a n j 3 h3).symm
  · exact (dense_at a n j 2 h2).symm
  · exact (dense_at a n j 1 h1).symm
  · exact (dense_at a n j 0 h0).symm
  · refine (dense_none a n j fun i => ?_).symm
    obtain ⟨i, hi⟩ := i
    interval_cases i
    · exact h0
    · exact h1
    · exact h2
    · exact h3
    · exact h4
    · exact h5
    · exact h6
    · exact h7
    · exact h8

/-- The values summed with a row of the dense attention are the sum over the neighbours, when a neighbour off the grid has no attention. -/
theorem mix_dense (a : Fin 9 → EReal) (v : Fin 1024 → EReal) (n : Fin 1024) (hz : ∀ i : Fin 9, ¬ valid n i → a i = 0) :
    ∑ m : Fin 1024, v m * dense a n m = mix a v n := by
  have h1 : ∀ m : Fin 1024, v m * dense a n m = ∑ i : Fin 9, if (m : ℕ) + 33 = n + off i then v m * a i else 0 := by
    intro m
    by_cases h : ∃ i : Fin 9, (m : ℕ) + 33 = n + off i
    · obtain ⟨i, h⟩ := h
      rw [dense_at a n m i h, Finset.sum_eq_single i]
      · exact (if_pos h).symm
      · intro i' _ hi
        exact if_neg fun h' => hi (off_inj i' i (by omega))
      · intro h'; exact absurd (Finset.mem_univ _) h'
    · rw [dense_none a n m fun i hi => h ⟨i, hi⟩, mul_zero]
      exact (Finset.sum_eq_zero fun i _ => if_neg fun hi => h ⟨i, hi⟩).symm
  rw [Finset.sum_congr rfl fun m _ => h1 m, Finset.sum_comm]
  refine Finset.sum_congr rfl fun i _ => ?_
  by_cases hv : valid n i
  · have hnb := nb_valid n i n.2 i.2 hv
    rw [Finset.sum_eq_single (⟨nb n i, nb_lt n i⟩ : Fin 1024)]
    · exact if_pos hnb
    · intro m _ hm
      exact if_neg fun h' => hm (Fin.ext (by show (m : ℕ) = nb n i; omega))
    · intro h'; exact absurd (Finset.mem_univ _) h'
  · rw [hz i hv, mul_zero]
    exact Finset.sum_eq_zero fun m _ => by rw [mul_zero, ite_self]

/-- A real number. -/
abbrev Real' (y : EReal) : Prop := y ≠ ⊥ ∧ y ≠ ⊤

theorem real_add {y z : EReal} (hy : Real' y) (hz : Real' z) : Real' (y + z) := by
  lift y to ℝ using ⟨hy.2, hy.1⟩
  lift z to ℝ using ⟨hz.2, hz.1⟩
  exact ⟨EReal.coe_ne_bot (y + z), EReal.coe_ne_top (y + z)⟩

theorem real_mul {y z : EReal} (hy : Real' y) (hz : Real' z) : Real' (y * z) := by
  lift y to ℝ using ⟨hy.2, hy.1⟩
  lift z to ℝ using ⟨hz.2, hz.1⟩
  rw [← EReal.coe_mul]
  exact ⟨EReal.coe_ne_bot _, EReal.coe_ne_top _⟩

theorem real_sum {ι : Type} [Fintype ι] (f : ι → EReal) (h : ∀ i, Real' (f i)) : Real' (∑ i, f i) := by
  refine Finset.sum_induction f Real' (fun _ _ => real_add) ⟨EReal.coe_ne_bot 0, EReal.coe_ne_top 0⟩ fun i _ => h i

theorem real_proj {C : ℕ} (w : Fin C → EReal) (b : EReal) (x : Fin C → Fin 1024 → EReal) (n : Fin 1024) (hw : ∀ c, Real' (w c)) (hb : Real' b)
    (hx : ∀ c n, Real' (x c n)) : Real' (proj w b x n) :=
  real_add (real_sum _ fun c => real_mul (hw c) (hx c n)) hb

theorem exp_nonneg (y : EReal) : 0 ≤ Ideal.exp y := by
  induction y using EReal.rec with
  | bot => exact le_refl _
  | coe r => exact EReal.coe_nonneg.mpr (Real.exp_pos r).le
  | top => exact le_top

/-- The denominator of the softmax is positive when the centre's energy is real and none is infinite. -/
theorem denominator_ne (e : Fin 9 → EReal) (h4 : e 4 ≠ ⊥) (ht : ∀ i, e i ≠ ⊤) : ∑ j, eexp e j ≠ 0 := by
  have hM4 : e 4 ≤ emax e := Finset.le_fold_max _ |>.mpr (Or.inr ⟨4, Finset.mem_univ _, le_refl _⟩)
  have hMt : emax e < ⊤ := Finset.fold_max_lt _ |>.mpr ⟨bot_lt_top, fun i _ => lt_top_iff_ne_top.mpr (ht i)⟩
  have hMb : emax e ≠ ⊥ := fun h => h4 (le_bot_iff.mp (h ▸ hM4))
  have hpos : 0 < eexp e 4 := by
    unfold eexp
    generalize emax e = M at hM4 hMt hMb
    generalize hy : e 4 = y at *
    have hyt : y ≠ ⊤ := hy ▸ ht 4
    lift y to ℝ using ⟨hyt, h4⟩
    lift M to ℝ using ⟨hMt.ne, hMb⟩
    rw [← EReal.coe_sub]
    exact EReal.coe_pos.mpr (Real.exp_pos _)
  have : 0 < ∑ j, eexp e j := lt_of_lt_of_le hpos (Finset.single_le_sum (f := eexp e) (fun i _ => exp_nonneg _) (Finset.mem_univ 4))
  exact this.ne'

theorem valid_centre (n : ℕ) (hn : n < 1024) : valid n 4 := by unfold valid; omega

/-- A neighbour off the grid has no attention when the queries and keys are finite. -/
theorem att_invalid (q k : Fin 48 → Fin 1024 → EReal) (hq : ∀ d n, Real' (q d n)) (hk : ∀ d n, Real' (k d n)) (n : Fin 1024) (i : Fin 9)
    (hi : ¬ valid n i) : att q k n i = 0 := by
  have hr : ∀ i : Fin 9, valid n i → Real' (energy q k n i) := fun i h => by
    unfold energy
    rw [if_pos h]
    exact real_sum _ fun d => real_mul (hq d n) (hk d _)
  have hb : ∀ i : Fin 9, ¬ valid n i → energy q k n i = ⊥ := fun i h => if_neg h
  have hden := denominator_ne (energy q k n) (hr 4 (valid_centre n n.2)).1 fun i => by
    by_cases h : valid n i
    · exact (hr i h).2
    · rw [hb i h]; exact bot_ne_top
  have h0 : eexp (energy q k n) i = 0 := by
    unfold eexp
    rw [hb i hi, sub_eq_add_neg, EReal.bot_add]
    rfl
  unfold att soft
  rw [h0]
  exact Ideal.zero_div hden

end Cert.Proof.Spec
-- ==== Proof.KRows.lean ====
/- The TensorCore bodies' vectors at the ideal instance, read at an index. -/
module

public import proofs.«01_k».proof.Proof.TcBody
public import proofs.«01_k».proof.Proof.Spec
public import Idealize.ShloMosaic.Lib.Pointwise

@[expose] public section

set_option maxRecDepth 16384

noncomputable section

namespace Cert.Proof.KI

open Cert.KernelIdeal Cert.KernelIdeal.Gen
open Idealize.ShloMosaic Cert.Proof

/-- A condition as a bit. -/
abbrev bit (p : Prop) [Decidable p] : BitVec 1 := if p then 1#1 else 0#1

theorem select_bit {α : Type} (p : Prop) [Decidable p] (a b : α) : Scalar.select (bit p) a b = if p then a else b := by
  by_cases h : p <;> simp [bit, h, Scalar.select]

theorem rowI_apply (n : Fin 1024) : rowI (ix2 0 n) = BitVec.ofNat 32 (n / 32) := by
  pointwise [rowI, k0_pay5]
  revert n; decide +kernel

theorem colI_apply (n : Fin 1024) : colI (ix2 0 n) = BitVec.ofNat 32 (n % 32) := by
  pointwise [colI, pixI, k0_pay6]
  revert n; decide +kernel

theorem mask_named : (Named.named κ "mask" 4048155338#32 : Ideal .f32) = (⊥ : EReal) := rfl

section
variable (x : Vec Ideal S1x384x1024 .f32) (wq : Vec Ideal S48x384 .f32) (bq : Vec Ideal S48x1 .f32) (wk : Vec Ideal S48x384 .f32) (bk : Vec Ideal S48x1 .f32)

theorem qF_apply (d : Fin 48) (n : Fin 1024) :
    qF x wq bq (ix2 d n) = Spec.proj (fun c : Fin 384 => wq (ix2 d c)) (bq (ix2 d 0)) (fun c n => x (ix3 0 c n)) n := by
  pointwise [qF, k0_pay3, k0_pay2, Spec.proj]

theorem kF_apply (d : Fin 48) (n : Fin 1024) :
    kF x wk bk (ix2 d n) = Spec.proj (fun c : Fin 384 => wk (ix2 d c)) (bk (ix2 d 0)) (fun c n => x (ix3 0 c n)) n := by
  pointwise [kF, k0_pay4, k0_pay2, Spec.proj]
end

variable (q k : FVec Ideal S48x1024 .f32)

/-- The energies of the nine neighbours, each a row of 1024 pixels. -/
abbrev eI (n : Fin 1024) : Fin 9 → EReal := Spec.energy (fun d n => q (ix2 d n)) (fun d n => k (ix2 d n)) n

/-- The validity of a neighbour as the bodies compute it, from the pixel's row and column. -/
theorem valid_bits (n : Fin 1024) (i : Fin 9) (a b : BitVec 32) (ha : a = BitVec.ofNat 32 (i / 3 + 4294967295)) (hb : b = BitVec.ofNat 32 (i % 3 + 4294967295)) :
    IntOp.andi
      (IntOp.andi
        (IntOp.andi (IntOp.cmpi CmpIPredicate.sge (IntOp.addi (BitVec.ofNat 32 (↑n / 32)) a) 0#32)
          (IntOp.cmpi CmpIPredicate.slt (IntOp.addi (BitVec.ofNat 32 (↑n / 32)) a) 32#32))
        (IntOp.cmpi CmpIPredicate.sge (IntOp.addi (BitVec.ofNat 32 (↑n % 32)) b) 0#32))
      (IntOp.cmpi CmpIPredicate.slt (IntOp.addi (BitVec.ofNat 32 (↑n % 32)) b) 32#32) = bit (Spec.valid n i) := by
  subst ha hb; revert n i; decide +kernel

/-- A row of the energies: the selected dot products are the energy when the rolled key is the neighbour's. -/
theorem energy_of (n : Fin 1024) (i : Fin 9) (K : Fin 48 → EReal) (hK : ∀ d, K d = k (ix2 d ⟨Spec.nb n i, Spec.nb_lt n i⟩)) :
    Scalar.select (α := EReal) (bit (Spec.valid n i)) (∑ d, q (ix2 d n) * K d) (Named.named (F := Ideal) (φ := .f32) κ "mask" 4048155338#32) = eI q k n i := by
  refine (select_bit _ _ _).trans ?_
  unfold eI Spec.energy
  exact if_congr Iff.rfl (Finset.sum_congr rfl fun d _ => by rw [hK]) mask_named

/-- The same, from a bit that is shown to be the validity. -/
theorem energy_sel (n : Fin 1024) (i : Fin 9) (b : BitVec 1) (hb : b = bit (Spec.valid n i)) (K : Fin 48 → EReal)
    (hK : ∀ d, K d = k (ix2 d ⟨Spec.nb n i, Spec.nb_lt n i⟩)) :
    Scalar.select (α := EReal) b (∑ d, q (ix2 d n) * K d) (Named.named (F := Ideal) (φ := .f32) κ "mask" 4048155338#32) = eI q k n i := by
  subst hb; exact energy_of q k n i K hK

/-- Two entries of one column list at the same place. -/
theorem at_eq (d : Fin 48) (a b : ℕ) (ha : a < 1024) (hb : b < 1024) (h : a = b) : k (ix2 d ⟨a, ha⟩) = k (ix2 d ⟨b, hb⟩) := by
  subst h; rfl

theorem row0_apply (n : Fin 1024) : k0_pay7 q k pixI rowI (ix2 0 n) = eI q k n 0 := by
  have hc := colI_apply n
  unfold colI k0_pay6 at hc
  have hr := rowI_apply n
  pointwise [k0_pay7, pixI, k0_pay6] at hc ⊢
  rw [hc, hr, valid_bits n 0 4294967295#32 4294967295#32 rfl rfl]
  refine energy_of q k n 0 _ fun d => ?_
  split
  · exact at_eq k d _ _ _ _ (by simp [Spec.nb, Spec.off]; omega)
  · exact at_eq k d _ _ _ _ (by simp [Spec.nb, Spec.off]; omega)

theorem row1_apply (n : Fin 1024) : k0_pay9 q k rowI colI (k0_pay8 k) (ix2 0 n) = eI q k n 1 := by
  have hc := colI_apply n
  have hr := rowI_apply n
  pointwise [k0_pay9, k0_pay8]
  rw [hc, hr, valid_bits n 1 4294967295#32 0#32 rfl rfl]
  refine energy_of q k n 1 _ fun d => ?_
  split
  · exact at_eq k d _ _ _ _ (by simp [Spec.nb, Spec.off]; omega)
  · exact at_eq k d _ _ _ _ (by simp [Spec.nb, Spec.off]; omega)

theorem row2_apply (n : Fin 1024) : k0_pay13 colI (k0_pay10 q k) (k0_pay11 rowI) (k0_pay12 colI) 0#32 (ix2 0 n) = eI q k n 2 := by
  have hc := colI_apply n
  have hr := rowI_apply n
  pointwise [k0_pay13, k0_pay10, k0_pay11, k0_pay12]
  rw [hc, hr, valid_bits n 2 4294967295#32 1#32 rfl rfl]
  refine energy_of q k n 2 _ fun d => ?_
  split
  · exact at_eq k d _ _ _ _ (by simp [Spec.nb, Spec.off]; omega)
  · exact at_eq k d _ _ _ _ (by simp [Spec.nb, Spec.off]; omega)

theorem row3_apply (n : Fin 1024) : k0_pay14 q k rowI colI (ix2 0 n) = eI q k n 3 := by
  have hc := colI_apply n
  have hr := rowI_apply n
  pointwise [k0_pay14]
  rw [hc, hr, valid_bits n 3 0#32 4294967295#32 rfl rfl]
  refine energy_of q k n 3 _ fun d => ?_
  split
  · exact at_eq k d _ _ _ _ (by simp [Spec.nb, Spec.off]; omega)
  · exact at_eq k d _ _ _ _ (by simp [Spec.nb, Spec.off]; omega)

theorem row4_apply (n : Fin 1024) : k0_pay17 rowI colI (k0_pay15 q k) (k0_pay16 rowI) (ix2 0 n) = eI q k n 4 := by
  have hc := colI_apply n
  have hr := rowI_apply n
  pointwise [k0_pay17, k0_pay15, k0_pay16]
  rw [hc, hr, valid_bits n 4 0#32 0#32 rfl rfl]
  refine energy_of q k n 4 _ fun d => ?_
  exact at_eq k d _ _ n.2 _ (by simp [Spec.nb, Spec.off]; omega)

theorem row5_apply (n : Fin 1024) : k0_pay21 (k0_pay18 q k) (k0_pay19 rowI colI) (k0_pay20 (F := Ideal)) (ix2 0 n) = eI q k n 5 := by
  have hc := colI_apply n
  have hr := rowI_apply n
  pointwise [k0_pay21, k0_pay18, k0_pay19, k0_pay20]
  rw [hc, hr, valid_bits n 5 0#32 1#32 rfl rfl]
  refine energy_of q k n 5 _ fun d => ?_
  split
  · exact at_eq k d _ _ _ _ (by simp [Spec.nb, Spec.off]; omega)
  · exact at_eq k d _ _ _ _ (by simp [Spec.nb, Spec.off]; omega)

theorem row6_apply (n : Fin 1024) : k0_pay22 q k rowI colI (ix2 0 n) = eI q k n 6 := by
  have hc := colI_apply n
  have hr := rowI_apply n
  pointwise [k0_pay22]
  rw [hc, hr, valid_bits n 6 1#32 4294967295#32 rfl rfl]
  refine energy_of q k n 6 _ fun d => ?_
  split
  · exact at_eq k d _ _ _ _ (by simp [Spec.nb, Spec.off]; omega)
  · exact at_eq k d _ _ _ _ (by simp [Spec.nb, Spec.off]; omega)

variable (v81 v108 v135 v162 v186 v213 v240 : FVec Ideal S1x1024 .f32)

theorem exp_apply (n : Fin 1024) (i : Fin 9) (h0 : v81 (ix2 0 n) = eI q k n 0) (h1 : v108 (ix2 0 n) = eI q k n 1)
    (h2 : v135 (ix2 0 n) = eI q k n 2) (h3 : v162 (ix2 0 n) = eI q k n 3) (h4 : v186 (ix2 0 n) = eI q k n 4)
    (h5 : v213 (ix2 0 n) = eI q k n 5) (h6 : v240 (ix2 0 n) = eI q k n 6) :
    k0_pay26 q k rowI colI v81 v108 v135 v162 v186 v213 v240 (k0_pay23 q k) (k0_pay24 rowI) k0_pay25 (ix2 i n) = Spec.eexp (eI q k n) i := by
  have hc := colI_apply n
  have hr := rowI_apply n
  have key : ∀ (a : EReal) (f : Fin 9 → EReal), a = f i → (∀ j, f j = eI q k n j) →
      Ideal.exp (a - Finset.fold max (Ideal.ofBits FTy.f32 4286578688#32) f Finset.univ) = Spec.eexp (eI q k n) i := by
    rintro a f rfl hf
    obtain rfl : f = eI q k n := funext hf
    rw [show Ideal.ofBits FTy.f32 4286578688#32 = (⊥ : EReal) by simp [Ideal.ofBits, Ideal.ieee]]
    rfl
  pointwise [k0_pay26, k0_pay24, k0_pay25, k0_pay23]
  refine key _ _ rfl (fun x => ?_)
  obtain ⟨x, hx⟩ := x
  interval_cases x
  · exact h0
  · exact h1
  · exact h2
  · exact h3
  · exact h4
  · exact h5
  · exact h6
  · iterate 7 refine (dif_neg (by simp)).trans ?_
    refine (dif_pos (by simp)).trans ?_
    refine energy_sel q k n 7 _ ?_ _ fun d => ?_
    · rw [← valid_bits n 7 1#32 0#32 rfl rfl, ← hc, ← hr]
      rfl
    · split
      · exact at_eq k d _ _ _ _ (by simp [Spec.nb, Spec.off]; omega)
      · exact at_eq k d _ _ _ _ (by simp [Spec.nb, Spec.off]; omega)
  · iterate 8 refine (dif_neg (by simp)).trans ?_
    refine energy_sel q k n 8 _ ?_ _ fun d => ?_
    · rw [← valid_bits n 8 1#32 1#32 rfl rfl, ← hc, ← hr]
      rfl
    · split
      · exact at_eq k d _ _ _ _ (by simp [Spec.nb, Spec.off]; omega)
      · exact at_eq k d _ _ _ _ (by simp [Spec.nb, Spec.off]; omega)

end Cert.Proof.KI
-- ==== Proof.KAttn.lean ====
/- The TensorCore bodies' results at the ideal instance, read at an index: the attention of a pixel to its nine neighbours
   and the 128-column windows of the dense attention. -/
module

public import proofs.«01_k».proof.Proof.KRows

@[expose] public section

set_option maxRecDepth 16384

noncomputable section

namespace Cert.Proof.KI

open Cert.KernelIdeal Cert.KernelIdeal.Gen
open Idealize.ShloMosaic Cert.Proof

variable (x : Vec Ideal S1x384x1024 .f32) (wq : Vec Ideal S48x384 .f32) (bq : Vec Ideal S48x1 .f32) (wk : Vec Ideal S48x384 .f32) (bk : Vec Ideal S48x1 .f32)

/-- The projection of one image's pixels on a channel of the queries or the keys. -/
abbrev projI (w : Vec Ideal S48x384 .f32) (b : Vec Ideal S48x1 .f32) (d : Fin 48) (n : Fin 1024) : EReal :=
  Spec.proj (fun c : Fin 384 => w (ix2 d c)) (b (ix2 d 0)) (fun c n => x (ix3 0 c n)) n

/-- The attention of the nine neighbours from the body's blocks. -/
abbrev aI (n : Fin 1024) : Fin 9 → EReal := Spec.att (projI x wq bq) (projI x wk bk) n

theorem expF_apply (n : Fin 1024) (i : Fin 9) : expF x wq bq wk bk (ix2 i n) = Spec.eexp (Spec.energy (projI x wq bq) (projI x wk bk) n) i := by
  unfold expF
  rw [exp_apply (qF x wq bq) (kF x wk bk) _ _ _ _ _ _ _ n i (row0_apply _ _ n) (row1_apply _ _ n) (row2_apply _ _ n) (row3_apply _ _ n) (row4_apply _ _ n)
    (row5_apply _ _ n) (row6_apply _ _ n)]
  unfold eI
  simp only [qF_apply, kF_apply]

theorem attnF_apply (n : Fin 1024) (i : Fin 16) :
    attnF x wq bq wk bk (ix3 0 i n) = if h : (i : ℕ) < 9 then aI x wq bq wk bk n ⟨i, h⟩ else 0 := by
  have he := fun j => expF_apply x wq bq wk bk n j
  unfold attnF
  generalize expF x wq bq wk bk = e at he
  pointwise [k0_pay28, k0_pay27]
  simp only [he]
  rfl

/-- One column of the identity matrix picks one entry of nine. -/
theorem pick (f : Fin 9 → EReal) (i : Fin 16) :
    (∑ j : Fin 9, if (⟨j, by omega⟩ : Fin 16) = i then f j else 0) = if h : (i : ℕ) < 9 then f ⟨i, h⟩ else 0 := by
  by_cases h : (i : ℕ) < 9
  · rw [dif_pos h, Finset.sum_eq_single (⟨i, h⟩ : Fin 9)]
    · exact if_pos rfl
    · rintro j - hj
      refine if_neg ?_
      rintro rfl
      exact hj rfl
    · intro h'; exact absurd (Finset.mem_univ _) h'
  · rw [dif_neg h]
    refine Finset.sum_eq_zero fun j _ => if_neg ?_
    rintro rfl
    exact h j.2

/-- The transposed attention: the multiplication by the identity matrix moves nothing. -/
theorem pay29_apply (s : Vec Ideal S16x16 .f32) (hs : ∀ a b : Fin 16, s (ix2 a b) = if a = b then (1 : EReal) else 0) (n : Fin 1024) (i : Fin 16) :
    k0_pay29 (expF x wq bq wk bk) s (ix2 n i) = if h : (i : ℕ) < 9 then aI x wq bq wk bk n ⟨i, h⟩ else 0 := by
  have he := fun j => expF_apply x wq bq wk bk n j
  generalize expF x wq bq wk bk = e at he
  pointwise [k0_pay29, k0_pay27]
  simp only [he, hs, zero_mul, Finset.sum_const_zero, add_zero, mul_ite, mul_one, mul_zero, ite_self]
  exact pick _ i

end Cert.Proof.KI
-- ==== Proof.KVals.lean ====
/- The first body's windows at the ideal instance, read at an index: 128 columns of each pixel's dense attention. -/
module

public import proofs.«01_k».proof.Proof.Math
public import proofs.«01_k».proof.Proof.KAttn

@[expose] public section

set_option maxRecDepth 16384

noncomputable section

namespace Cert.Proof.KI

open Cert.KernelIdeal Cert.KernelIdeal.Gen
open Idealize.ShloMosaic Cert.Proof

variable (x : Vec Ideal S1x384x1024 .f32) (wq : Vec Ideal S48x384 .f32) (bq : Vec Ideal S48x1 .f32) (wk : Vec Ideal S48x384 .f32) (bk : Vec Ideal S48x1 .f32)

theorem window_apply (n : Fin 1024) (l : Fin 128) :
    IntOp.minsi (IntOp.maxsi (k0_pay30 (ix2 n l)) 0#32) 896#32 = BitVec.ofNat 32 (wbN n) := by
  pointwise [k0_pay30]
  revert n; decide +kernel

/-- A lane meets an offset when the lane's column of the dense attention is the pixel's number plus the offset. -/
theorem lane_meets (n : Fin 1024) (l : Fin 128) (i : Fin 9) (b : BitVec 32) (hb : b = BitVec.ofNat 32 (Spec.off i + 4294967263)) :
    IntOp.cmpi CmpIPredicate.eq (IntOp.subi (IntOp.addi (BitVec.ofNat 32 ↑l) (BitVec.ofNat 32 (wbN n))) (BitVec.ofNat 32 ↑n)) b
      = bit ((l : ℕ) + wbN n + 33 = n + Spec.off i) := by
  subst hb
  have hw : wbN n ≤ 896 := by unfold wbN; omega
  have ho : Spec.off i ≤ 66 := by unfold Spec.off; omega
  generalize wbN n = w at hw
  generalize Spec.off i = o at ho
  have := n.2
  have := l.2
  have key : (BitVec.ofNat 32 (l : ℕ) + BitVec.ofNat 32 w - BitVec.ofNat 32 (n : ℕ) = BitVec.ofNat 32 (o + 4294967263)) ↔ (l : ℕ) + w + 33 = n + o := by
    rw [← BitVec.toNat_inj]
    simp only [BitVec.toNat_sub, BitVec.toNat_add, BitVec.toNat_ofNat]
    omega
  by_cases h : (l : ℕ) + w + 33 = n + o
  · have := key.mpr h
    simp [IntOp.cmpi, IntOp.subi, IntOp.addi, bit, h, this]
  · have hne := beq_eq_false_iff_ne.mpr (mt key.mp h)
    rw [bit, if_neg h]
    exact congrArg BitVec.ofBool hne

theorem valsF_apply (s : Vec Ideal S16x16 .f32) (hs : ∀ a b : Fin 16, s (ix2 a b) = if a = b then (1 : EReal) else 0) (n : Fin 1024) (l : Fin 128) :
    valsF x wq bq wk bk s (ix3 0 n l) = Spec.dense (aI x wq bq wk bk n) n (l + wbN n) := by
  have hw := window_apply n l
  have ht := pay29_apply x wq bq wk bk s hs n
  unfold valsF relI
  generalize k0_pay29 (expF x wq bq wk bk) s = t at ht
  generalize k0_pay30 = w at hw
  pointwise [k0_pay1, k0_pay32, k0_pay33, relI, k0_pay31, dstI, laneI]
  rw [hw, lane_meets n l 0 4294967263#32 (by decide), lane_meets n l 1 4294967264#32 (by decide), lane_meets n l 2 4294967265#32 (by decide),
    lane_meets n l 3 4294967295#32 (by decide), lane_meets n l 4 0#32 (by decide), lane_meets n l 5 1#32 (by decide), lane_meets n l 6 31#32 (by decide),
    lane_meets n l 7 32#32 (by decide), lane_meets n l 8 33#32 (by decide)]
  simp only [select_bit, ht]
  generalize aI x wq bq wk bk n = a
  generalize (l : ℕ) + wbN n = j
  exact Spec.dense_chain a n j

end Cert.Proof.KI
-- ==== Proof.KOut.lean ====
/- The second body's result at the ideal instance, read at an index. -/
module

public import proofs.«01_k».proof.Proof.KRows

@[expose] public section

set_option maxRecDepth 16384

noncomputable section

namespace Cert.Proof.KI

open Cert.KernelIdeal Cert.KernelIdeal.Gen
open Idealize.ShloMosaic Cert.Proof

variable (x : Vec Ideal S1x384x1024 .f32) (wq : Vec Ideal S48x384 .f32) (bq : Vec Ideal S48x1 .f32) (wk : Vec Ideal S48x384 .f32) (bk : Vec Ideal S48x1 .f32)

section
variable (a : Vec Ideal S1x16x1024 .f32) (wv : Vec Ideal S384x384 .f32) (bv : Vec Ideal S384x1 .f32) (g : Vec Ideal S1x1 .f32)

/-- The value of a pixel by its number, around the end. -/
def valAt (c : Fin 384) (m : ℕ) : EReal :=
  Spec.proj (fun c' : Fin 384 => wv (ix2 c c')) (bv (ix2 c 0)) (fun c n => x (ix3 0 c n)) ⟨m % 1024, Nat.mod_lt _ (by decide)⟩

/-- The attention of a pixel by its number, around the end. -/
def attAt (i : Fin 16) (m : ℕ) : EReal := a (ix3 0 i ⟨m % 1024, Nat.mod_lt _ (by decide)⟩)

/-- A sum of three terms whose parts agree. -/
theorem three {A0 A1 A2 V : ℕ → EReal} {a0 a1 a2 v0 v1 v2 b0 b1 b2 w0 w1 w2 : ℕ} (h0 : a0 = b0) (k0 : v0 = w0) (h1 : a1 = b1) (k1 : v1 = w1)
    (h2 : a2 = b2) (k2 : v2 = w2) : A0 a0 * V v0 + A1 a1 * V v1 + A2 a2 * V v2 = A0 b0 * V w0 + A1 b1 * V w1 + A2 b2 * V w2 := by
  subst h0 k0 h1 k1 h2 k2; rfl

theorem outF_apply (n : Fin 1024) (c : Fin 384) :
    outF x a wv bv g (ix3 0 c n) = g (ix2 0 0) * (Spec.mix (fun i => a (ix3 0 ⟨i, by omega⟩ n)) (Spec.proj (fun c' : Fin 384 => wv (ix2 c c')) (bv (ix2 c 0)) (fun c n => x (ix3 0 c n))) n) + x (ix3 0 c n) := by
  unfold outF
  pointwise [k2_pay1, k2_pay2, k2_pay4, k2_pay7, k2_pay8, k2_pay9, k2_pay5, k2_pay6, k2_pay3]
  have hV : ∀ (m : ℕ) (hm : m < 1024), ∑ x_1, wv (ix2 c x_1) * x (ix3 0 x_1 ⟨m, hm⟩) + bv (ix2 c 0) = valAt x wv bv c m := fun m hm =>
    congrArg (Spec.proj (fun c' : Fin 384 => wv (ix2 c c')) (bv (ix2 c 0)) (fun c n => x (ix3 0 c n))) (Fin.ext (Nat.mod_eq_of_lt hm).symm)
  have hA : ∀ (i : Fin 16) (m : ℕ) (hm : m < 1024), a (ix3 0 i ⟨m, hm⟩) = attAt a i m := fun i m hm =>
    congrArg (fun y => a (ix3 0 i y)) (Fin.ext (Nat.mod_eq_of_lt hm).symm)
  obtain ⟨n, hn⟩ := n
  simp only [hV, hA, Spec.mix, Spec.proj, dite_eq_ite]
  generalize valAt x wv bv c = V
  generalize attAt a = A
  have main : ∀ (G X L0 L1 L2 : EReal), L0 = A 0 n * V (Spec.nb n 0) + A 1 n * V (Spec.nb n 1) + A 2 n * V (Spec.nb n 2) →
      L1 = A 3 n * V (Spec.nb n 3) + A 4 n * V (Spec.nb n 4) + A 5 n * V (Spec.nb n 5) →
      L2 = A 6 n * V (Spec.nb n 6) + A 7 n * V (Spec.nb n 7) + A 8 n * V (Spec.nb n 8) →
      G * (L0 + L1 + L2) + X = G * ∑ i : Fin 9, V (Spec.nb n i) * A ⟨i, by omega⟩ n + X := by
    rintro G X _ _ _ rfl rfl rfl
    refine congrArg (fun s => G * s + X) ?_
    simp only [mul_comm (A _ n)]
    rw [Fin.sum_univ_castSucc, Fin.sum_univ_eight]
    simp only [add_assoc]
    rfl
  refine main _ _ _ _ _ ?_ ?_ ?_
  · split_ifs <;> first
      | (exfalso; omega)
      | exact three (by omega) (by simp only [Spec.nb, Spec.off]; omega) (by omega) (by simp only [Spec.nb, Spec.off]; omega) (by omega)
          (by simp only [Spec.nb, Spec.off]; omega)
  · split_ifs <;> first
      | (exfalso; omega)
      | exact three (by omega) (by simp only [Spec.nb, Spec.off]; omega) (by omega) (by simp only [Spec.nb, Spec.off]; omega) (by omega)
          (by simp only [Spec.nb, Spec.off]; omega)
  · split_ifs <;> first
      | (exfalso; omega)
      | exact three (by omega) (by simp only [Spec.nb, Spec.off]; omega) (by omega) (by simp only [Spec.nb, Spec.off]; omega) (by omega)
          (by simp only [Spec.nb, Spec.off]; omega)

end

end Cert.Proof.KI
-- ==== Proof.KVal.lean ====
/- The kernel's two results at an index, on extended reals. -/
module

public import proofs.«01_k».proof.Proof.KArr
public import proofs.«01_k».proof.Proof.KVals
public import proofs.«01_k».proof.Proof.KOut

@[expose] public section

set_option maxRecDepth 16384

noncomputable section

namespace Cert.Proof.KI

open Cert.KernelIdeal Cert.KernelIdeal.Gen
open Idealize.ShloMosaic Idealize.SL.Sem Cert.Proof

variable (m : (ℓ : Loc nD τ sig) → Buf (Elt Ideal) ℓ) (d : Dev nD)

/-- The operand of the selection is the identity. -/
theorem eyeA_apply (a b : Fin 16) : (eyeA (F := Ideal)) (ix2 a b) = if a = b then (1 : EReal) else 0 := by
  unfold eyeA
  pointwise []
  have hc : IntOp.cmpi CmpIPredicate.eq (IntOp.addi (BitVec.ofNat 32 a) 0#32) (BitVec.ofNat 32 b) = if a = b then 1#1 else 0#1 := by
    revert a b; decide +kernel
  rw [hc]
  by_cases h : a = b
  · rw [if_pos h, if_pos h]
    show (((1#1 : BitVec 1).toNat : ℝ) : EReal) = 1
    simp
  · rw [if_neg h, if_neg h]
    show (((0#1 : BitVec 1).toNat : ℝ) : EReal) = 0
    simp

/-- The attention of image `b`'s pixel `n` to its nine neighbours. -/
abbrev aK (b : Fin 8) (n : Fin 1024) : Fin 9 → EReal := aI (imB (xA m d) b) (wqA m d) (bqA m d) (wkA m d) (bkA m d) n

/-- A column that some neighbour reaches is in the row's window. -/
theorem window_holds (n j : ℕ) (i : Fin 9) (hn : n < 1024) (hj : j < 1024) (h : j + 33 = n + Spec.off i) : wbN n ≤ j ∧ j < wbN n + 128 := by
  have ho : Spec.off i ≤ 66 := by unfold Spec.off; omega
  unfold wbN
  omega

theorem dense_apply (Fv : S8192x128.Idx → EReal) (b : Fin 8) (n j : Fin 1024) (a : Fin 9 → EReal)
    (hF : ∀ l : Fin 128, Fv (ix2 ⟨b * 1024 + n, by omega⟩ l) = Spec.dense a n (l + wbN n)) :
    dense (F := Ideal) Fv (ix2 ⟨b * 1024 + n, by omega⟩ j) = Spec.dense a n j := by
  have hm : (b * 1024 + n : ℕ) % 1024 = n := by omega
  unfold dense
  show (if wbN ((b * 1024 + n : ℕ) % 1024) ≤ (j : ℕ) ∧ (j : ℕ) < wbN ((b * 1024 + n : ℕ) % 1024) + 128 then
    Fv _ else (zf : Elt Ideal .f32)) = _
  by_cases h : wbN ((b * 1024 + n : ℕ) % 1024) ≤ (j : ℕ) ∧ (j : ℕ) < wbN ((b * 1024 + n : ℕ) % 1024) + 128
  · rw [if_pos h]
    rw [hm] at h
    have hl : ((j : ℕ) - wbN n) % 128 = j - wbN n := by omega
    refine Eq.trans (congrArg Fv ?_) ((hF ⟨j - wbN n, by omega⟩).trans ?_)
    · funext e
      refine Fin.cases ?_ (fun e => ?_) e
      · rfl
      · obtain rfl : e = 0 := Subsingleton.elim _ _
        refine Fin.ext ?_
        show ((j : ℕ) - wbN ((b * 1024 + n : ℕ) % 1024)) % 128 = j - wbN n
        rw [hm, hl]
    · rw [show (j : ℕ) - wbN n + wbN n = j by omega]
  · rw [if_neg h]
    rw [hm] at h
    refine Eq.trans ?_ (Spec.dense_none a n j fun i hi => h (window_holds n j i n.2 j.2 hi)).symm
    unfold zf
    simp [Ideal.ofBits, Ideal.ieee]

theorem attention_apply (b : Fin 8) (n j : Fin 1024) :
    (VG m d (r' main_v17) : FVec Ideal S8x1024x1024 .f32) (ix3 b n j) = Spec.dense (aK m d b n) n j := by
  rw [VG_v17]
  have h := dense_apply (shapeCast S8192x128 (valsA m d) shapeCasts_S8x1024x128_S8192x128) b n j (aK m d b n) fun l => by
    pointwise []
    exact valsF_apply (imB (xA m d) b) (wqA m d) (bqA m d) (wkA m d) (bkA m d) eyeA eyeA_apply n l
  pointwise []
  exact h

theorem out_apply (b : Fin 8) (c : Fin 384) (r s : Fin 32) (n : Fin 1024) (hn : (n : ℕ) = r * 32 + s) :
    (VG m d (r' main_v16) : FVec Ideal S8x384x32x32 .f32) (ix4 b c r s)
      = gA m d (ix2 0 0) * Spec.mix (aK m d b n) (Spec.proj (fun c' => wvA m d (ix2 c c')) (bvA m d (ix2 c 0)) (fun c n => xA m d (ix3 b c n))) n
        + xA m d (ix3 b c n) := by
  rw [VG_v16]
  have h : outA m d (ix3 b c n) = gA m d (ix2 0 0) * Spec.mix (aK m d b n) (Spec.proj (fun c' => wvA m d (ix2 c c')) (bvA m d (ix2 c 0)) (fun c n => xA m d (ix3 b c n))) n
        + xA m d (ix3 b c n) := by
    refine (outF_apply (imB (xA m d) b) (imB (attnA m d) b) (wvA m d) (bvA m d) (gA m d) n c).trans ?_
    refine congrArg (fun a : EReal => gA m d (ix2 0 0) * a + xA m d (ix3 b c n)) (congrArg (fun a => Spec.mix a _ n) ?_)
    funext i
    refine (attnF_apply (imB (xA m d) b) (wqA m d) (bqA m d) (wkA m d) (bkA m d) n ⟨i, by omega⟩).trans ?_
    exact dif_pos i.2
  rw [← h, show n = ⟨r * 32 + s, by omega⟩ from Fin.ext hn]
  pointwise []

end Cert.Proof.KI
-- ==== Proof.RIdx.lean ====
/- The reference's integers read at an index: which neighbours are on the grid, and their numbers; its gather and its
   scatter-add at an index. -/
module

public import proofs.«01_k».proof.Proof.RefRun
public import proofs.«01_k».proof.Proof.Spec
public import Idealize.ShloMosaic.Lib.Pointwise
public import Idealize.ShloMosaic.Lib.Tactic.CleanTypes
public import Idealize.ShloMosaic.Lib.Routing.OpsPair

@[expose] public section

set_option maxRecDepth 16384

noncomputable section

namespace Cert.Proof.RI

open Cert.ReferenceIdeal Cert.ReferenceIdeal.Gen Cert.ReferenceIdeal.Value
open Idealize.ShloMosaic Idealize.SL.Sem Cert.Proof

variable (V0 : Valuation τ sig (Elt Ideal))

/-- The neighbour's number with row and column each held on the grid. -/
def clipN (n i : ℕ) : ℕ := min (n / 32 + i / 3 - 1) 31 * 32 + min (n % 32 + i % 3 - 1) 31

theorem clipN_lt (n i : ℕ) : clipN n i < 1024 := by unfold clipN; omega

theorem clipN_valid (n i : ℕ) (hn : n < 1024) (hi : i < 9) (h : Spec.valid n i) : clipN n i = Spec.nb n i := by
  unfold clipN Spec.nb Spec.off; unfold Spec.valid at h; omega

theorem nr_apply (n : Fin 1024) (i : Fin 9) : res_main_v25 V0 (ix2 n i) = BitVec.ofNat 32 (n / 32 + i / 3 + 4294967295) := by
  unfold res_main_v25
  clean_types
  pointwise [res_main_v25, res_main_c, res_main_v15, res_main_call0_v0, res_main_call0_v2]
  revert n i; decide +kernel

theorem nc_apply (n : Fin 1024) (i : Fin 9) : res_main_v32 V0 (ix2 n i) = BitVec.ofNat 32 (n % 32 + i % 3 + 4294967295) := by
  unfold res_main_v32
  clean_types
  pointwise [res_main_v32, res_main_c, res_main_v15, res_main_call1_v0, res_main_call1_v2, res_main_call1_v4]
  revert n i; decide +kernel

theorem valid_apply (n : Fin 1024) (i : Fin 9) : res_main_v43 V0 (ix2 n i) = if Spec.valid n i then 1#1 else 0#1 := by
  have hr := nr_apply V0 n i
  have hc := nc_apply V0 n i
  unfold res_main_v43
  clean_types
  pointwise [res_main_v43]
  rw [hr, hc]
  clear hr hc
  revert n i; decide +kernel

theorem nidx_apply (n : Fin 1024) (i : Fin 9) : res_main_v48 V0 (ix2 n i) = BitVec.ofNat 32 (clipN n i) := by
  have hr := nr_apply V0 n i
  have hc := nc_apply V0 n i
  unfold res_main_v48
  clean_types
  pointwise [res_main_v48]
  rw [hr, hc]
  clear hr hc
  revert n i; decide +kernel

/-- A word under 1024, moved by 1024 when negative, is itself. -/
theorem wrap_of (a : ℕ) (ha : a < 1024) :
    Scalar.select (IntOp.cmpi CmpIPredicate.slt (BitVec.ofNat 32 a) 0#32) (IntOp.addi (BitVec.ofNat 32 a) 1024#32) (BitVec.ofNat 32 a) = BitVec.ofNat 32 a := by
  revert a; decide +kernel

theorem take_apply (n : Fin 1024) (i : Fin 9) : res_main_call4_v5 V0 (ix2 ⟨n * 9 + i, by omega⟩ 0) = BitVec.ofNat 32 (clipN n i) := by
  have h := nidx_apply V0 n i
  unfold res_main_call4_v5
  clean_types
  pointwise [res_main_call4_v5, res_main_v49]
  rw [h]
  exact wrap_of _ (clipN_lt _ _)

section
abbrev dG := gather_S8x48x1024_S9216x1_S8x48x9216_01_2_n_n_2_1_8481
abbrev dS := scatter_S8x1024x1024_S1024x9x2_S8x1024x9_0_12_12_2

theorem gather_apply (k : S8x48x1024.Idx → EReal) (idx : IVec S9216x1 32) (b : Fin 8) (d : Fin 48) (p : Fin 9216) :
    Host.gather dG k idx (ix3 b d p) = k (ix3 b d ⟨min (idx (ix2 p 0)).toInt.toNat 1023, by omega⟩) := by
  unfold Host.gather
  congr 1
  funext a
  refine Fin.ext ?_
  have hs : ∀ c, dG.siIdx (ix3 b d p) c = ix2 p 0 := by
    intro c
    funext e
    match e with
    | ⟨0, _⟩ => rfl
    | ⟨1, _⟩ => exact Subsingleton.elim (α := Fin 1) _ _
  show dG.start (ix3 b d p) idx a + dG.batchCoord (ix3 b d p) a + dG.offCoord (ix3 b d p) a = _
  have hb : dG.batchCoord (ix3 b d p) a = 0 := GatherDims.batchCoord_eq_zero _ _ _ List.not_mem_nil
  rw [hb, add_zero]
  match a with
  | ⟨0, _⟩ =>
    have h1 : dG.start (ix3 b d p) idx 0 = 0 := dif_neg (by decide)
    have h2 : dG.offCoord (ix3 b d p) 0 = b := dif_pos (by decide)
    exact (congrArg₂ (· + ·) h1 h2).trans (Nat.zero_add _)
  | ⟨1, _⟩ =>
    have h1 : dG.start (ix3 b d p) idx 1 = 0 := dif_neg (by decide)
    have h2 : dG.offCoord (ix3 b d p) 1 = d := dif_pos (by decide)
    exact (congrArg₂ (· + ·) h1 h2).trans (Nat.zero_add _)
  | ⟨2, _⟩ =>
    have h1 : dG.start (ix3 b d p) idx 2 = min (idx (ix2 p 0)).toInt.toNat 1023 := (dif_pos (by decide)).trans (by rw [hs]; rfl)
    have h2 : dG.offCoord (ix3 b d p) 2 = 0 := dif_neg (by decide)
    exact (congrArg₂ (· + ·) h1 h2).trans (Nat.add_zero _)

theorem scatter_lands (idx : IVec S1024x9x2 32) (b b' : Fin 8) (n m : Fin 1024) (i : Fin 9) (j : Fin 1024) :
    dS.resultIdx? (ix3 b n i) idx = some (ix3 b' m j) ↔ b = b' ∧ (idx (ix3 n i 0)).toInt = (m : ℕ) ∧ (idx (ix3 n i 1)).toInt = (j : ℕ) := by
  rw [Routing.resultIdx?_eq_some]
  have hs0 : dS.siIdx (ix3 b n i) ⟨0, by decide⟩ = ix3 n i 0 := by
    funext e
    match e with
    | ⟨0, _⟩ => rfl
    | ⟨1, _⟩ => rfl
    | ⟨2, _⟩ => rfl
  have hs1 : dS.siIdx (ix3 b n i) ⟨1, by decide⟩ = ix3 n i 1 := by
    funext e
    match e with
    | ⟨0, _⟩ => rfl
    | ⟨1, _⟩ => rfl
    | ⟨2, _⟩ => rfl
  have a0 : dS.start (ix3 b n i) idx 0 = 0 := dif_neg (by decide)
  have a1 : dS.start (ix3 b n i) idx 1 = (idx (ix3 n i 0)).toInt := (dif_pos (by decide)).trans (congrArg (fun y => (idx y).toInt) hs0)
  have a2 : dS.start (ix3 b n i) idx 2 = (idx (ix3 n i 1)).toInt := (dif_pos (by decide)).trans (congrArg (fun y => (idx y).toInt) hs1)
  have w0 : dS.window (ix3 b n i) 0 = b := dif_pos (by decide)
  have w1 : dS.window (ix3 b n i) 1 = 0 := dif_neg (by decide)
  have w2 : dS.window (ix3 b n i) 2 = 0 := dif_neg (by decide)
  constructor
  · intro h
    have h0 := h 0
    have h1 := h 1
    have h2 := h 2
    rw [a0, w0] at h0
    rw [a1, w1] at h1
    rw [a2, w2] at h2
    have e0 : ((0 : ℤ) + (b : ℕ) : ℤ) = ((b' : ℕ) : ℤ) := h0
    have e1 : ((idx (ix3 n i 0)).toInt + ((0 : ℕ) : ℤ) : ℤ) = ((m : ℕ) : ℤ) := h1
    have e2 : ((idx (ix3 n i 1)).toInt + ((0 : ℕ) : ℤ) : ℤ) = ((j : ℕ) : ℤ) := h2
    exact ⟨Fin.ext (by omega), by omega, by omega⟩
  · rintro ⟨rfl, h1, h2⟩ a
    match a with
    | ⟨0, _⟩ =>
      show dS.start (ix3 b n i) idx 0 + (dS.window (ix3 b n i) 0 : ℤ) = ((b : ℕ) : ℤ)
      rw [a0, w0]; omega
    | ⟨1, _⟩ =>
      show dS.start (ix3 b n i) idx 1 + (dS.window (ix3 b n i) 1 : ℤ) = ((m : ℕ) : ℤ)
      rw [a1, w1]; omega
    | ⟨2, _⟩ =>
      show dS.start (ix3 b n i) idx 2 + (dS.window (ix3 b n i) 2 : ℤ) = ((j : ℕ) : ℤ)
      rw [a2, w2]; omega
end

end Cert.Proof.RI
-- ==== Proof.RVal.lean ====
/- The reference's results read at an index. -/
module

public import proofs.«01_k».proof.Proof.RIdx
public import proofs.«01_k».proof.Proof.Math

@[expose] public section

set_option maxRecDepth 16384

noncomputable section

namespace Cert.Proof.RI

open Cert.ReferenceIdeal Cert.ReferenceIdeal.Gen Cert.ReferenceIdeal.Value
open Idealize.ShloMosaic Idealize.SL.Sem Cert.Proof

variable (V0 : Valuation τ sig (Elt Ideal))

/-- The pixels of image `b`. -/
abbrev xR (b : Fin 8) (c : Fin 384) (n : Fin 1024) : EReal := (res_main_v0 V0 : FVec Ideal S8x384x1024 .f32) (ix3 b c n)

/-- The queries of image `b`. -/
abbrev qR (b : Fin 8) (d : Fin 48) (n : Fin 1024) : EReal :=
  Spec.proj (fun c : Fin 384 => (V0 (Proc.devRef .tc main_arg1) : FVec Ideal S48x384 .f32) (ix2 d c)) ((V0 (Proc.devRef .tc main_arg2) : FVec Ideal S48 .f32) (ix1 d)) (xR V0 b) n

/-- The keys of image `b`. -/
abbrev kR (b : Fin 8) (d : Fin 48) (n : Fin 1024) : EReal :=
  Spec.proj (fun c : Fin 384 => (V0 (Proc.devRef .tc main_arg3) : FVec Ideal S48x384 .f32) (ix2 d c)) ((V0 (Proc.devRef .tc main_arg4) : FVec Ideal S48 .f32) (ix1 d)) (xR V0 b) n

/-- The values of image `b`. -/
abbrev vR (b : Fin 8) (c : Fin 384) (n : Fin 1024) : EReal :=
  Spec.proj (fun c' : Fin 384 => (V0 (Proc.devRef .tc main_arg5) : FVec Ideal S384x384 .f32) (ix2 c c')) ((V0 (Proc.devRef .tc main_arg6) : FVec Ideal S384 .f32) (ix1 c)) (xR V0 b) n

/-- The weight of the mixed values. -/
abbrev gR : EReal := (V0 (Proc.devRef .tc main_arg7) : FVec Ideal S1 .f32) (ix1 0)

/-- The attention of image `b`'s pixel `n`. -/
abbrev aR (b : Fin 8) (n : Fin 1024) : Fin 9 → EReal := Spec.att (qR V0 b) (kR V0 b) n

theorem select_if {α : Type} (p : Prop) [Decidable p] (a b : α) : Scalar.select (if p then 1#1 else 0#1) a b = if p then a else b := by
  by_cases h : p <;> simp [h, Scalar.select]

/-- A number under 1024 is in range of the gather. -/
theorem in_range (a : Fin 1024) :
    Finset.fold IntOp.andi (1#1) (fun _ : Fin 1 => IntOp.andi (IntOp.cmpi CmpIPredicate.sge (BitVec.ofNat 32 a) 0#32)
      (IntOp.cmpi CmpIPredicate.sle (BitVec.ofNat 32 a) 1023#32)) Finset.univ = 1#1 := by
  revert a; decide +kernel

theorem toInt_small (a : ℕ) (ha : a < 1024) : (BitVec.ofNat 32 a).toInt = a := by
  rw [BitVec.toInt_eq_toNat_cond, BitVec.toNat_ofNat]; split <;> omega

theorem energy_apply (b : Fin 8) (n : Fin 1024) (i : Fin 9) : res_main_v54 V0 (ix3 b n i) = Spec.energy (qR V0 b) (kR V0 b) n i := by
  have hv := valid_apply V0 n i
  have ht := take_apply V0 n i
  have ht' : ∀ x : Fin 1, res_main_call4_v5 V0 (ix2 ⟨n * 9 + i, by omega⟩ x) = BitVec.ofNat 32 (clipN n i) := fun x => by
    rw [Subsingleton.elim x 0]; exact ht
  have hr := in_range ⟨clipN n i, clipN_lt n i⟩
  have hm : (⟨min (BitVec.ofNat 32 (clipN n i)).toInt.toNat 1023, by omega⟩ : Fin 1024) = ⟨clipN n i, clipN_lt n i⟩ :=
    Fin.ext (by have h1 := clipN_lt n i; have h2 := toInt_small _ h1; simp only; omega)
  have hs : ∀ a b : EReal, Scalar.select 1#1 a b = a := fun a b => by simp [Scalar.select]
  unfold res_main_v54
  clean_types
  pointwise []
  simp only [gather_apply, ht', hm, hr, hs, hv, select_if]
  pointwise []
  unfold Spec.energy qR kR Spec.proj
  refine if_ctx_congr Iff.rfl (fun h => ?_) fun _ => (show Ideal.ofBits FTy.f32 4286578688#32 = ⊥ by simp [Ideal.ofBits, Ideal.ieee])
  have hc : (⟨clipN n i, clipN_lt n i⟩ : Fin 1024) = ⟨Spec.nb n i, Spec.nb_lt n i⟩ := Fin.ext (clipN_valid n i n.2 i.2 h)
  exact Finset.sum_congr rfl fun d _ => congrArg₂ (fun a b : EReal => a * b)
    (congrArg (fun a : EReal => a + _) (Finset.sum_congr rfl fun c _ => mul_comm _ _))
    (congrArg (fun a : EReal => a + _) (Finset.sum_congr rfl fun c _ => (mul_comm _ _).trans (congrArg₂ (fun a b : EReal => a * b) rfl (congrArg (xR V0 b c) hc))))

theorem exp_apply (b : Fin 8) (n : Fin 1024) (i : Fin 9) : res_main_v61 V0 (ix3 b n i) = Spec.eexp (Spec.energy (qR V0 b) (kR V0 b) n) i := by
  have he := energy_apply V0 b n
  have hb : Ideal.ofBits FTy.f32 4286578688#32 = ⊥ := by simp [Ideal.ofBits, Ideal.ieee]
  unfold res_main_v61
  clean_types
  pointwise []
  rw [hb, max_eq_right bot_le]
  simp only [he]
  rfl

theorem scatter_sum (T : IVec S1024x9x2 32) (h0 : ∀ (n : Fin 1024) (i : Fin 9), T (ix3 n i 0) = BitVec.ofNat 32 n)
    (h1 : ∀ (n : Fin 1024) (i : Fin 9), T (ix3 n i 1) = BitVec.ofNat 32 (clipN n i)) (u : S8x1024x9.Idx → EReal) (b : Fin 8) (n j : Fin 1024) :
    (∑ x with dS.resultIdx? x T = some (ix3 b n j), u x) = ∑ i : Fin 9, if clipN n i = j then u (ix3 b n i) else 0 := by
  rw [← Finset.sum_filter]
  have key : ∀ (b' : Fin 8) (n' : Fin 1024) (i : Fin 9), dS.resultIdx? (ix3 b' n' i) T = some (ix3 b n j) ↔ b' = b ∧ n' = n ∧ clipN n' i = j := by
    intro b' n' i
    rw [scatter_lands, h0, h1, toInt_small _ n'.2, toInt_small _ (clipN_lt _ _)]
    simp [Fin.ext_iff]
  refine Finset.sum_nbij' (fun x => x 2) (fun i => ix3 b n i) ?_ ?_ ?_ ?_ ?_
  · intro x hx
    rw [eq_ix3 x] at hx
    have h := (key _ _ _).mp (Finset.mem_filter.mp hx).2
    exact Finset.mem_filter.mpr ⟨Finset.mem_univ _, h.2.1 ▸ h.2.2⟩
  · intro i hi
    exact Finset.mem_filter.mpr ⟨Finset.mem_univ _, (key _ _ _).mpr ⟨rfl, rfl, (Finset.mem_filter.mp hi).2⟩⟩
  · intro x hx
    rw [eq_ix3 x] at hx
    have h := (key _ _ _).mp (Finset.mem_filter.mp hx).2
    rw [eq_ix3 x, h.1, h.2.1]
    rfl
  · intro i _; rfl
  · intro x hx
    rw [eq_ix3 x] at hx
    have h := (key _ _ _).mp (Finset.mem_filter.mp hx).2
    rw [eq_ix3 x, h.1, h.2.1]
    rfl

/-- The nine attentions, each at its clipped neighbour, are the dense attention when a neighbour off the grid has none. -/
theorem clip_dense (a : Fin 9 → EReal) (n j : Fin 1024) (hz : ∀ i : Fin 9, ¬ Spec.valid n i → a i = 0) :
    (∑ i : Fin 9, if clipN n i = j then (if Spec.valid n i then a i else 0) else 0) = Spec.dense a n j := by
  unfold Spec.dense
  refine Finset.sum_congr rfl fun i _ => ?_
  by_cases h : Spec.valid n i
  · rw [if_pos h]
    have h1 := clipN_valid n i n.2 i.2 h
    have h2 := Spec.nb_valid n i n.2 i.2 h
    exact if_congr (by omega) rfl rfl
  · rw [if_neg h, hz i h, ite_self, ite_self]

theorem attention_apply (b : Fin 8) (n j : Fin 1024) (hz : ∀ i : Fin 9, ¬ Spec.valid n i → aR V0 b n i = 0) :
    (res V0 (Proc.devRef .tc main_v85) : FVec Ideal S8x1024x1024 .f32) (ix3 b n j) = Spec.dense (aR V0 b n) n j := by
  have he := exp_apply V0 b n
  have hv := valid_apply V0 n
  have hn := nidx_apply V0
  unfold res
  rw [val2_main_v85]
  clean_types
  unfold Host.scatterAdd
  rw [Ideal.hostScatterAdd_def]
  unfold Ideal.hostScatterAdd
  pointwise []
  refine (scatter_sum _ ?_ ?_ _ b n j).trans ?_
  · intro n i
    unfold res_main_v70
    clean_types
    pointwise []
    exact wrap_of _ n.2
  · intro n i
    have h := hn n i
    pointwise []
    rw [h]
    exact wrap_of _ (clipN_lt _ _)
  refine Eq.trans ?_ (clip_dense (aR V0 b n) n j hz)
  refine Finset.sum_congr rfl fun i _ => if_congr Iff.rfl ?_ rfl
  refine (congrArg₂ (fun p a => Scalar.select p a _) (hv i) (congrArg₂ Ideal.div (he i) (Finset.sum_congr rfl fun x _ => he x))).trans ?_
  refine (select_if _ _ _).trans ?_
  exact if_congr Iff.rfl rfl (show Ideal.ofBits FTy.f32 0#32 = 0 by simp [Ideal.ofBits, Ideal.ieee])

theorem out_apply (b : Fin 8) (c : Fin 384) (r s : Fin 32) (n : Fin 1024) (hn : (n : ℕ) = r * 32 + s) (hz : ∀ i : Fin 9, ¬ Spec.valid n i → aR V0 b n i = 0) :
    (res V0 (Proc.devRef .tc main_v91) : FVec Ideal S8x384x32x32 .f32) (ix4 b c r s)
      = gR V0 * Spec.mix (aR V0 b n) (vR V0 b c) n + xR V0 b c n := by
  have ha := fun j => attention_apply V0 b n j hz
  unfold res at ha ⊢
  rw [val2_main_v85] at ha
  rw [val2_main_v91]
  generalize Host.scatterAdd (F := Ideal) _ _ _ _ = A at ha ⊢
  clean_types
  pointwise []
  have hx : (V0 (Proc.devRef .tc main_arg0) : FVec Ideal S8x384x32x32 .f32) (ix4 b c r s) = xR V0 b c n := by
    rw [show n = ⟨r * 32 + s, by omega⟩ from Fin.ext hn]
    unfold xR res_main_v0
    clean_types
    pointwise []
  have hn' : (⟨r * 32 + s, by omega⟩ : Fin 1024) = n := Fin.ext hn.symm
  refine congrArg₂ (fun a b : EReal => a + b) (congrArg (fun a : EReal => gR V0 * a) ?_) hx
  rw [← Spec.mix_dense (aR V0 b n) (vR V0 b c) n hz]
  refine Finset.sum_congr rfl fun j _ => congrArg₂ (fun a b : EReal => a * b) ?_ ?_
  · exact congrArg (fun a : EReal => a + _) (Finset.sum_congr rfl fun c _ => mul_comm _ _)
  · exact (congrArg (fun p => A (ix3 b p j)) hn').trans (ha j)

end Cert.Proof.RI
-- ==== Proof.Finite.lean ====
/- The precondition read: the entries of the five arrays that it names are real numbers. -/
module

public import proofs.«01_k».proof.Defs
public import proofs.«01_k».proof.Proof.Math
public import Idealize.ShloMosaic.Lib.ReduceAll
public import Idealize.ShloMosaic.Lib.Pointwise

@[expose] public section

noncomputable section

namespace Cert.Proof

open Idealize.ShloMosaic Cert.Pre_finite

theorem finiteFacts : Cert.Pre_finite.Facts where
  bcast_S_S8x384x32x32 := by decide
  reducesTo_S8x384x32x32_S_d0_1_2_3 := by decide
  h_S_ := by decide
  bcast_S_S48x384 := by decide
  reducesTo_S48x384_S_d0_1 := by decide
  bcast_S_S48 := by decide
  reducesTo_S48_S_d0 := by decide

/-- A number whose absolute value is under the greatest is real. -/
theorem real_of_lt (y : EReal) (h : max y (-y) < ⊤) : Spec.Real' y := by
  refine ⟨fun e => ?_, fun e => ?_⟩ <;> subst e <;> simp at h

theorem real_of_bit (y : EReal) (h : FloatOps.cmpf (F := Ideal) (φ := .f32) .olt (max y (-y) : EReal) (Ideal.ofBits .f32 0x7F800000#32) = 1#1) : Spec.Real' y := by
  have ht : Ideal.ofBits .f32 0x7F800000#32 = ⊤ := by simp [Ideal.ofBits, Ideal.ieee]
  rw [ht] at h
  refine real_of_lt y ?_
  by_contra hn
  have h' : BitVec.ofBool (decide (max y (-y) < ⊤)) = 1#1 := h
  rw [decide_eq_false hn] at h'
  exact absurd h' (by decide)

attribute [local instance] finiteFacts

theorem finite_reals (x : FVec Ideal S8x384x32x32 .f32) (wq : FVec Ideal S48x384 .f32) (bq : FVec Ideal S48 .f32) (wk : FVec Ideal S48x384 .f32)
    (bk : FVec Ideal S48 .f32) (wv : FVec Ideal S384x384 .f32) (bv : FVec Ideal S384 .f32) (g : FVec Ideal S1 .f32)
    (h : Cert.Pre_finite.fn (F := Ideal) x wq bq wk bk wv bv g = fun _ => 1#1) :
    (∀ i, Spec.Real' (x i)) ∧ (∀ i, Spec.Real' (wq i)) ∧ (∀ i, Spec.Real' (bq i)) ∧ (∀ i, Spec.Real' (wk i)) ∧ ∀ i, Spec.Real' (bk i) := by
  have hs : Subsingleton S_.Idx := ⟨fun a b => funext fun e => e.elim0⟩
  have h0 := congrFun h (fun e => e.elim0)
  unfold fn fn_part1 at h0
  obtain ⟨h0, hbk⟩ := IntOp.andi_eq_one.mp h0
  obtain ⟨h0, hwk⟩ := IntOp.andi_eq_one.mp h0
  obtain ⟨h0, hbq⟩ := IntOp.andi_eq_one.mp h0
  obtain ⟨hx, hwq⟩ := IntOp.andi_eq_one.mp h0
  exact ⟨fun i => real_of_bit _ (Host.reduce_andi_all _ _ _ _ _ hx i), fun i => real_of_bit _ (Host.reduce_andi_all _ _ _ _ _ hwq i),
    fun i => real_of_bit _ (Host.reduce_andi_all _ _ _ _ _ hbq i), fun i => real_of_bit _ (Host.reduce_andi_all _ _ _ _ _ hwk i),
    fun i => real_of_bit _ (Host.reduce_andi_all _ _ _ _ _ hbk i)⟩

end Cert.Proof
-- ==== Proof.Alg.lean ====
/- The two programs compute the same extended reals: the kernel's results and the reference's, of arguments that agree and
   satisfy the precondition. -/
module

public import proofs.«01_k».proof.Proof.Frames
public import proofs.«01_k».proof.Proof.KVal
public import proofs.«01_k».proof.Proof.RVal
public import proofs.«01_k».proof.Proof.Finite

@[expose] public section

set_option maxRecDepth 16384

noncomputable section

namespace Cert.Proof

open Idealize.ShloMosaic Idealize.SL.Sem

/-- The kernel's memories and the reference's. -/
abbrev MK := (ℓ : Loc Cert.KernelIdeal.nD Cert.KernelIdeal.τ Cert.KernelIdeal.sig) → Buf (Elt Ideal) ℓ
abbrev MR := (ℓ : Loc Cert.ReferenceIdeal.nD Cert.ReferenceIdeal.τ Cert.ReferenceIdeal.sig) → Buf (Elt Ideal) ℓ

/-- The contents of the reference's buffers at the start. -/
abbrev VR (m' : MR) (c : Dev Cert.ReferenceIdeal.nD) : Valuation Cert.ReferenceIdeal.τ Cert.ReferenceIdeal.sig (Elt Ideal) := StableHlo.launchContents m' c

/-- The arguments agree on device `c`. -/
structure Agree (m : MK) (m' : MR) (c : Dev Cert.KernelIdeal.nD) : Prop where
  a0 : (VR m' c (Proc.devRef .tc Cert.ReferenceIdeal.main_arg0) : FVec Ideal Cert.KernelIdeal.S8x384x32x32 .f32) = m (c, KI.r' Cert.KernelIdeal.main_arg0)
  a1 : (VR m' c (Proc.devRef .tc Cert.ReferenceIdeal.main_arg1) : FVec Ideal Cert.KernelIdeal.S48x384 .f32) = m (c, KI.r' Cert.KernelIdeal.main_arg1)
  a2 : (VR m' c (Proc.devRef .tc Cert.ReferenceIdeal.main_arg2) : FVec Ideal Cert.KernelIdeal.S48 .f32) = m (c, KI.r' Cert.KernelIdeal.main_arg2)
  a3 : (VR m' c (Proc.devRef .tc Cert.ReferenceIdeal.main_arg3) : FVec Ideal Cert.KernelIdeal.S48x384 .f32) = m (c, KI.r' Cert.KernelIdeal.main_arg3)
  a4 : (VR m' c (Proc.devRef .tc Cert.ReferenceIdeal.main_arg4) : FVec Ideal Cert.KernelIdeal.S48 .f32) = m (c, KI.r' Cert.KernelIdeal.main_arg4)
  a5 : (VR m' c (Proc.devRef .tc Cert.ReferenceIdeal.main_arg5) : FVec Ideal Cert.KernelIdeal.S384x384 .f32) = m (c, KI.r' Cert.KernelIdeal.main_arg5)
  a6 : (VR m' c (Proc.devRef .tc Cert.ReferenceIdeal.main_arg6) : FVec Ideal Cert.KernelIdeal.S384 .f32) = m (c, KI.r' Cert.KernelIdeal.main_arg6)
  a7 : (VR m' c (Proc.devRef .tc Cert.ReferenceIdeal.main_arg7) : FVec Ideal Cert.KernelIdeal.S1 .f32) = m (c, KI.r' Cert.KernelIdeal.main_arg7)

variable {m : MK} {m' : MR} {c : Dev Cert.KernelIdeal.nD} (h : Agree m m' c)
include h

theorem x_eq (b : Fin 8) (ch : Fin 384) (n : Fin 1024) : RI.xR (VR m' c) b ch n = KI.xA m c (ix3 b ch n) := by
  unfold RI.xR Cert.ReferenceIdeal.Value.res_main_v0 KI.xA
  exact congrArg (fun X : FVec Ideal Cert.KernelIdeal.S8x384x32x32 .f32 =>
    shapeCast Cert.KernelIdeal.S8x384x1024 X Cert.KernelIdeal.Facts₀.shapeCasts_S8x384x32x32_S8x384x1024 (ix3 b ch n)) h.a0

theorem q_eq (b : Fin 8) : RI.qR (VR m' c) b = KI.projI (KI.imB (KI.xA m c) b) (KI.wqA m c) (KI.bqA m c) := by
  funext d n
  have hb : KI.bqA m c (ix2 d 0) = (VR m' c (Proc.devRef .tc Cert.ReferenceIdeal.main_arg2) : FVec Ideal Cert.KernelIdeal.S48 .f32) (ix1 d) := by
    rw [h.a2]
    pointwise [KI.bqA]
  have hw : ∀ c' : Fin 384, (VR m' c (Proc.devRef .tc Cert.ReferenceIdeal.main_arg1) : FVec Ideal Cert.KernelIdeal.S48x384 .f32) (ix2 d c') = KI.wqA m c (ix2 d c') :=
    fun c' => congrFun h.a1 _
  unfold RI.qR KI.projI Spec.proj
  exact congrArg₂ (fun a b : EReal => a + b) (Finset.sum_congr rfl fun c' _ => congrArg₂ (fun a b : EReal => a * b) (hw c') (x_eq h b c' n)) hb.symm

theorem k_eq (b : Fin 8) : RI.kR (VR m' c) b = KI.projI (KI.imB (KI.xA m c) b) (KI.wkA m c) (KI.bkA m c) := by
  funext d n
  have hb : KI.bkA m c (ix2 d 0) = (VR m' c (Proc.devRef .tc Cert.ReferenceIdeal.main_arg4) : FVec Ideal Cert.KernelIdeal.S48 .f32) (ix1 d) := by
    rw [h.a4]
    pointwise [KI.bkA]
  have hw : ∀ c' : Fin 384, (VR m' c (Proc.devRef .tc Cert.ReferenceIdeal.main_arg3) : FVec Ideal Cert.KernelIdeal.S48x384 .f32) (ix2 d c') = KI.wkA m c (ix2 d c') :=
    fun c' => congrFun h.a3 _
  unfold RI.kR KI.projI Spec.proj
  exact congrArg₂ (fun a b : EReal => a + b) (Finset.sum_congr rfl fun c' _ => congrArg₂ (fun a b : EReal => a * b) (hw c') (x_eq h b c' n)) hb.symm

theorem a_eq (b : Fin 8) (n : Fin 1024) : RI.aR (VR m' c) b n = KI.aK m c b n := by
  unfold RI.aR
  rw [q_eq h b, k_eq h b]

theorem v_eq (b : Fin 8) (ch : Fin 384) : RI.vR (VR m' c) b ch
    = Spec.proj (fun c' : Fin 384 => KI.wvA m c (ix2 ch c')) (KI.bvA m c (ix2 ch 0)) (fun ch n => KI.xA m c (ix3 b ch n)) := by
  funext n
  have hb : KI.bvA m c (ix2 ch 0) = (VR m' c (Proc.devRef .tc Cert.ReferenceIdeal.main_arg6) : FVec Ideal Cert.KernelIdeal.S384 .f32) (ix1 ch) := by
    rw [h.a6]
    pointwise [KI.bvA]
  have hw : ∀ c' : Fin 384, (VR m' c (Proc.devRef .tc Cert.ReferenceIdeal.main_arg5) : FVec Ideal Cert.KernelIdeal.S384x384 .f32) (ix2 ch c') = KI.wvA m c (ix2 ch c') :=
    fun c' => congrFun h.a5 _
  unfold RI.vR Spec.proj
  exact congrArg₂ (fun a b : EReal => a + b) (Finset.sum_congr rfl fun c' _ => congrArg₂ (fun a b : EReal => a * b) (hw c') (x_eq h b c' n)) hb.symm

theorem g_eq : RI.gR (VR m' c) = KI.gA m c (ix2 0 0) := by
  have hb : KI.gA m c (ix2 0 0) = (VR m' c (Proc.devRef .tc Cert.ReferenceIdeal.main_arg7) : FVec Ideal Cert.KernelIdeal.S1 .f32) (ix1 0) := by
    rw [h.a7]
    pointwise [KI.gA]
  exact hb.symm

/-- The five arrays of the precondition hold real numbers, on device `c`. -/
structure Reals (m : MK) (c : Dev Cert.KernelIdeal.nD) : Prop where
  x : ∀ i, Spec.Real' ((m (c, KI.r' Cert.KernelIdeal.main_arg0) : FVec Ideal Cert.KernelIdeal.S8x384x32x32 .f32) i)
  wq : ∀ i, Spec.Real' ((m (c, KI.r' Cert.KernelIdeal.main_arg1) : FVec Ideal Cert.KernelIdeal.S48x384 .f32) i)
  bq : ∀ i, Spec.Real' ((m (c, KI.r' Cert.KernelIdeal.main_arg2) : FVec Ideal Cert.KernelIdeal.S48 .f32) i)
  wk : ∀ i, Spec.Real' ((m (c, KI.r' Cert.KernelIdeal.main_arg3) : FVec Ideal Cert.KernelIdeal.S48x384 .f32) i)
  bk : ∀ i, Spec.Real' ((m (c, KI.r' Cert.KernelIdeal.main_arg4) : FVec Ideal Cert.KernelIdeal.S48 .f32) i)

variable (hf : Reals m c)
include hf

/-- A neighbour off the grid has no attention. -/
theorem none_off (b : Fin 8) (n : Fin 1024) (i : Fin 9) (hi : ¬ Spec.valid n i) : RI.aR (VR m' c) b n i = 0 := by
  have hx : ∀ ch n, Spec.Real' (RI.xR (VR m' c) b ch n) := fun ch n => by
    rw [x_eq h]
    unfold KI.xA shapeCast
    exact hf.x _
  refine Spec.att_invalid _ _ (fun d n => ?_) (fun d n => ?_) n i hi
  · refine Spec.real_proj _ _ _ n (fun c' => ?_) ?_ hx
    · rw [h.a1]; exact hf.wq _
    · rw [h.a2]; exact hf.bq _
  · refine Spec.real_proj _ _ _ n (fun c' => ?_) ?_ hx
    · rw [h.a3]; exact hf.wk _
    · rw [h.a4]; exact hf.bk _

theorem attention_at (b : Fin 8) (n j : Fin 1024) :
    (RI.res (VR m' c) (Proc.devRef .tc Cert.ReferenceIdeal.main_v85) : FVec Ideal Cert.KernelIdeal.S8x1024x1024 .f32) (ix3 b n j)
      = (KI.VG m c (KI.r' Cert.KernelIdeal.main_v17) : FVec Ideal Cert.KernelIdeal.S8x1024x1024 .f32) (ix3 b n j) := by
  refine (RI.attention_apply (VR m' c) b n j (none_off h hf b n)).trans ?_
  rw [a_eq h]
  exact (KI.attention_apply m c b n j).symm

theorem out_at (b : Fin 8) (ch : Fin 384) (r s : Fin 32) :
    (RI.res (VR m' c) (Proc.devRef .tc Cert.ReferenceIdeal.main_v91) : FVec Ideal Cert.KernelIdeal.S8x384x32x32 .f32) (ix4 b ch r s)
      = (KI.VG m c (KI.r' Cert.KernelIdeal.main_v16) : FVec Ideal Cert.KernelIdeal.S8x384x32x32 .f32) (ix4 b ch r s) := by
  obtain ⟨n, hn⟩ : ∃ n : Fin 1024, (n : ℕ) = r * 32 + s := ⟨⟨r * 32 + s, by omega⟩, rfl⟩
  refine (RI.out_apply (VR m' c) b ch r s n hn (none_off h hf b n)).trans ?_
  rw [a_eq h, v_eq h, g_eq h, x_eq h]
  exact (KI.out_apply m c b ch r s n hn).symm

/-- The attention. -/
theorem attention_eq : (RI.res (VR m' c) (Proc.devRef .tc Cert.ReferenceIdeal.main_v85) : FVec Ideal Cert.KernelIdeal.S8x1024x1024 .f32)
    = KI.VG m c (KI.r' Cert.KernelIdeal.main_v17) :=
  funext fun i : Cert.KernelIdeal.S8x1024x1024.Idx => by
    rw [eq_ix3 i]
    exact attention_at h hf (i 0) (i 1) (i 2)

/-- The output. -/
theorem out_eq : (RI.res (VR m' c) (Proc.devRef .tc Cert.ReferenceIdeal.main_v91) : FVec Ideal Cert.KernelIdeal.S8x384x32x32 .f32)
    = KI.VG m c (KI.r' Cert.KernelIdeal.main_v16) :=
  funext fun i : Cert.KernelIdeal.S8x384x32x32.Idx => by
    rw [eq_ix4 i]
    exact out_at h hf (i 0) (i 1) (i 2) (i 3)

omit h hf

theorem frame_ki_finite : Cert.quiescent_KernelIdeal_pre_finite (hKernelIdeal := Cert.KernelIdeal.Gen.facts) (hPre_finite := finiteFacts) :=
  fun m ρ _ => frame_ki m ρ trivial

theorem frame_ri_finite : Cert.quiescent_ReferenceIdeal_pre_finite (hReferenceIdeal := Cert.ReferenceIdeal.Gen.facts) (hPre_finite := finiteFacts) :=
  fun m ρ _ => frame_ri m ρ trivial

/-- The value claim. -/
theorem algebraic : Cert.algebraic_KernelIdeal_ReferenceIdeal_pre_finite (hKernelIdeal := Cert.KernelIdeal.Gen.facts)
    (hReferenceIdeal := Cert.ReferenceIdeal.Gen.facts) (hPre_finite := finiteFacts) := fun m g m' g' hp ha => by
  have hA : ∀ c, Agree m m' c := fun c => by
    obtain ⟨h0, h1, h2, h3, h4, h5, h6, h7⟩ := ha c
    exact ⟨h0, h1, h2, h3, h4, h5, h6, h7⟩
  have hR : ∀ c, Reals m c := fun c => by
    obtain ⟨h0, h1, h2, h3, h4⟩ := finite_reals _ _ _ _ _ _ _ _ (hp c)
    exact ⟨h0, h1, h2, h3, h4⟩
  refine ⟨fun c => KI.VG m c (KI.r' Cert.KernelIdeal.main_v16), fun c => KI.VG m c (KI.r' Cert.KernelIdeal.main_v17), ?_, ?_⟩
  · exact (θ_run _ _ _).mono (fun _ h => h.1) (KI.run_args (F := Ideal) m g)
  · refine (θ_run _ _ _).mono (fun _ h c => ?_) (RI.run_ref (F := Ideal) m' g')
    obtain ⟨h0, h1, h2⟩ := h.1 c
    exact ⟨h0.trans (out_eq (hA c) (hR c)), h1.trans (attention_eq (hA c) (hR c)), h2⟩

end Cert.Proof
-- ==== Proof.lean ====
/- The proof of everything that is claimed: the frames, the named constant, and the values of both results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, finiteFacts,
  frame_k, frame_ki, frame_ki_finite, frame_ri, frame_ri_finite, preserves, algebraic⟩

end Cert.Proof

end
